-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "half_ln2" .f32 0x3EB17218#32 (((1 / 2) * (Real.log 2) : ℝ) : EReal)
  ∧ IdealRules.named_const.Statement Cert.KernelIdeal.κ "score" .f32 0x3DE995B3#32 (((Real.sqrt 160)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v419) = v0 c
          ∧ r.2.mem ((c.tc : Thread Cert.ReferenceIdeal.nD Cert.ReferenceIdeal.τ).loc Cert.ReferenceIdeal.main_v344) = v1 c
          ∧ r.2.mem ((c.tc : Thread Cert.ReferenceIdeal.nD Cert.ReferenceIdeal.τ).loc Cert.ReferenceIdeal.main_v352) = v2 c
          ∧ r.2.mem ((c.tc : Thread Cert.ReferenceIdeal.nD Cert.ReferenceIdeal.τ).loc Cert.ReferenceIdeal.main_v421) = v3 c
          ∧ r.2.mem ((c.tc : Thread Cert.ReferenceIdeal.nD Cert.ReferenceIdeal.τ).loc Cert.ReferenceIdeal.main_v425) = v4 c
          ∧ r.2.mem ((c.tc : Thread Cert.ReferenceIdeal.nD Cert.ReferenceIdeal.τ).loc Cert.ReferenceIdeal.main_v427) = v5 c
          ∧ r.2.mem ((c.tc : Thread Cert.ReferenceIdeal.nD Cert.ReferenceIdeal.τ).loc Cert.ReferenceIdeal.main_v431) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S24x1024x18x160 : Shape := ⟨4, ![24, 1024, 18, 160]⟩
abbrev S24x1024x18x48 : Shape := ⟨4, ![24, 1024, 18, 48]⟩
abbrev S_ : Shape := ⟨0, ![]⟩

class Facts : Prop where
  bcast_S_S24x1024x18x160 : S_.BroadcastsInDim S24x1024x18x160 (![] : Fin 0 → Fin S24x1024x18x160.rank)
  bcast_S_S24x1024x18x48 : S_.BroadcastsInDim S24x1024x18x48 (![] : Fin 0 → Fin S24x1024x18x48.rank)

variable [Facts]

def fn {F : FTy → Type} [FloatOps F] (main_arg0 : FVec F S24x1024x18x160 .bf16) (main_arg1 : FVec F S24x1024x18x160 .bf16) (main_arg2 : FVec F S24x1024x18x160 .bf16) (main_arg3 : FVec F S24x1024x18x48 .bf16) : IVec S24x1024x18x160 1 × IVec S24x1024x18x160 1 × IVec S24x1024x18x160 1 × IVec S24x1024x18x48 1 :=
  let main_v0 : FVec F S24x1024x18x160 .bf16 := Host.absf main_arg0
  let main_cst : FVec F S_ .bf16 := constant S_ .bf16 0x7F7F#16
  let main_v1 : FVec F S24x1024x18x160 .bf16 := broadcastInDim S24x1024x18x160 ![] bcast_S_S24x1024x18x160 main_cst
  let main_v2 : IVec S24x1024x18x160 1 := cmpf .ole main_v0 main_v1
  let main_v3 : FVec F S24x1024x18x160 .bf16 := Host.absf main_arg1
  let main_cst_0 : FVec F S_ .bf16 := constant S_ .bf16 0x7F7F#16
  let main_v4 : FVec F S24x1024x18x160 .bf16 := broadcastInDim S24x1024x18x160 ![] bcast_S_S24x1024x18x160 main_cst_0
  let main_v5 : IVec S24x1024x18x160 1 := cmpf .ole main_v3 main_v4
  let main_v6 : FVec F S24x1024x18x160 .bf16 := Host.absf main_arg2
  let main_cst_1 : FVec F S_ .bf16 := constant S_ .bf16 0x7F80#16
  let main_v7 : FVec F S24x1024x18x160 .bf16 := broadcastInDim S24x1024x18x160 ![] bcast_S_S24x1024x18x160 main_cst_1
  let main_v8 : IVec S24x1024x18x160 1 := cmpf .olt main_v6 main_v7
  let main_v9 : FVec F S24x1024x18x48 .bf16 := Host.absf main_arg3
  let main_cst_2 : FVec F S_ .bf16 := constant S_ .bf16 0x7F80#16
  let main_v10 : FVec F S24x1024x18x48 .bf16 := broadcastInDim S24x1024x18x48 ![] bcast_S_S24x1024x18x48 main_cst_2
  let main_v11 : IVec S24x1024x18x48 1 := cmpf .olt main_v9 main_v10
  (main_v2, main_v5, main_v8, main_v11)
-- ==== Kernel.lean ====
abbrev S24x1024x18x160 : Shape := ⟨4, ![24, 1024, 18, 160]⟩
abbrev S24x1024x18x48 : Shape := ⟨4, ![24, 1024, 18, 48]⟩
abbrev S24x18x160x1024 : Shape := ⟨4, ![24, 18, 160, 1024]⟩
abbrev S24x18x48x1024 : Shape := ⟨4, ![24, 18, 48, 1024]⟩
abbrev S24x18x48x160 : Shape := ⟨4, ![24, 18, 48, 160]⟩
abbrev S24x18x8x128 : Shape := ⟨4, ![24, 18, 8, 128]⟩
abbrev S1x1x160x1024 : Shape := ⟨4, ![1, 1, 160, 1024]⟩
abbrev S1x1x48x1024 : Shape := ⟨4, ![1, 1, 48, 1024]⟩
abbrev S1x1x48x160 : Shape := ⟨4, ![1, 1, 48, 160]⟩
abbrev S1x1x8x128 : Shape := ⟨4, ![1, 1, 8, 128]⟩
abbrev S128x256 : Shape := ⟨2, ![128, 256]⟩
abbrev S128x128 : Shape := ⟨2, ![128, 128]⟩
abbrev S1x1x160x128 : Shape := ⟨4, ![1, 1, 160, 128]⟩
abbrev S160x128 : Shape := ⟨2, ![160, 128]⟩
abbrev S128 : Shape := ⟨1, ![128]⟩
abbrev S1x128 : Shape := ⟨2, ![1, 128]⟩
abbrev S8x128 : Shape := ⟨2, ![8, 128]⟩
abbrev S8 : Shape := ⟨1, ![8]⟩
abbrev S8x1 : Shape := ⟨2, ![8, 1]⟩
abbrev S64x128 : Shape := ⟨2, ![64, 128]⟩
abbrev S48x160 : Shape := ⟨2, ![48, 160]⟩
abbrev S16x128 : Shape := ⟨2, ![16, 128]⟩
abbrev S1x1x48x128 : Shape := ⟨4, ![1, 1, 48, 128]⟩
abbrev S48x128 : Shape := ⟨2, ![48, 128]⟩
abbrev S48x256 : Shape := ⟨2, ![48, 256]⟩
abbrev S48x1 : Shape := ⟨2, ![48, 1]⟩
abbrev S48x64 : Shape := ⟨2, ![48, 64]⟩
abbrev S48x192 : Shape := ⟨2, ![48, 192]⟩
abbrev S128x160 : Shape := ⟨2, ![128, 160]⟩
abbrev S1x1 : Shape := ⟨2, ![1, 1]⟩
abbrev S192x128 : Shape := ⟨2, ![192, 128]⟩
abbrev S144x192 : Shape := ⟨2, ![144, 192]⟩
abbrev S192x256 : Shape := ⟨2, ![192, 256]⟩
abbrev S144x256 : Shape := ⟨2, ![144, 256]⟩
abbrev S144x160 : Shape := ⟨2, ![144, 160]⟩
abbrev S144x128 : Shape := ⟨2, ![144, 128]⟩
abbrev S240x192 : Shape := ⟨2, ![240, 192]⟩
abbrev S192x240 : Shape := ⟨2, ![192, 240]⟩
abbrev S240x128 : Shape := ⟨2, ![240, 128]⟩
abbrev S240x256 : Shape := ⟨2, ![240, 256]⟩
abbrev S96x160 : Shape := ⟨2, ![96, 160]⟩
abbrev S160x96 : Shape := ⟨2, ![160, 96]⟩
abbrev S160x224 : Shape := ⟨2, ![160, 224]⟩
abbrev S224x128 : Shape := ⟨2, ![224, 128]⟩
abbrev S224x256 : Shape := ⟨2, ![224, 256]⟩
abbrev S160x256 : Shape := ⟨2, ![160, 256]⟩

abbrev nBuf : Space → Nat
  | .hbm => 15
  | .vmem => 23
  | .smem => 0
  | _ => 0

abbrev bufTy : (tb : Table) → Fin (tcTables nBuf tb) → BufTy
  | .hbm, ⟨0, _⟩ => ⟨S24x1024x18x160, .bf16⟩
  | .hbm, ⟨1, _⟩ => ⟨S24x1024x18x160, .bf16⟩
  | .hbm, ⟨2, _⟩ => ⟨S24x1024x18x160, .bf16⟩
  | .hbm, ⟨3, _⟩ => ⟨S24x1024x18x48, .bf16⟩
  | .hbm, ⟨4, _⟩ => ⟨S24x18x160x1024, .bf16⟩
  | .hbm, ⟨5, _⟩ => ⟨S24x18x160x1024, .bf16⟩
  | .hbm, ⟨6, _⟩ => ⟨S24x18x160x1024, .bf16⟩
  | .hbm, ⟨7, _⟩ => ⟨S24x18x48x1024, .bf16⟩
  | .hbm, ⟨8, _⟩ => ⟨S24x18x160x1024, .bf16⟩
  | .hbm, ⟨9, _⟩ => ⟨S24x18x48x160, .f32⟩
  | .hbm, ⟨10, _⟩ => ⟨S24x18x48x160, .f32⟩
  | .hbm, ⟨11, _⟩ => ⟨S24x18x160x1024, .fp8e4m3⟩
  | .hbm, ⟨12, _⟩ => ⟨S24x18x8x128, .f32⟩
  | .hbm, ⟨13, _⟩ => ⟨S24x18x160x1024, .fp8e4m3⟩
  | .hbm, ⟨14, _⟩ => ⟨S24x18x8x128, .f32⟩
  | .local _ .vmem, ⟨0, _⟩ => ⟨S1x1x160x1024, .bf16⟩
  | .local _ .vmem, ⟨1, _⟩ => ⟨S1x1x160x1024, .bf16⟩
  | .local _ .vmem, ⟨2, _⟩ => ⟨S1x1x160x1024, .bf16⟩
  | .local _ .vmem, ⟨3, _⟩ => ⟨S1x1x160x1024, .bf16⟩
  | .local _ .vmem, ⟨4, _⟩ => ⟨S1x1x160x1024, .bf16⟩
  | .local _ .vmem, ⟨5, _⟩ => ⟨S1x1x160x1024, .bf16⟩
  | .local _ .vmem, ⟨6, _⟩ => ⟨S1x1x48x1024, .bf16⟩
  | .local _ .vmem, ⟨7, _⟩ => ⟨S1x1x48x1024, .bf16⟩
  | .local _ .vmem, ⟨8, _⟩ => ⟨S1x1x160x1024, .bf16⟩
  | .local _ .vmem, ⟨9, _⟩ => ⟨S1x1x160x1024, .bf16⟩
  | .local _ .vmem, ⟨10, _⟩ => ⟨S1x1x48x160, .f32⟩
  | .local _ .vmem, ⟨11, _⟩ => ⟨S1x1x48x160, .f32⟩
  | .local _ .vmem, ⟨12, _⟩ => ⟨S1x1x48x160, .f32⟩
  | .local _ .vmem, ⟨13, _⟩ => ⟨S1x1x48x160, .f32⟩
  | .local _ .vmem, ⟨14, _⟩ => ⟨S1x1x160x1024, .fp8e4m3⟩
  | .local _ .vmem, ⟨15, _⟩ => ⟨S1x1x160x1024, .fp8e4m3⟩
  | .local _ .vmem, ⟨16, _⟩ => ⟨S1x1x8x128, .f32⟩
  | .local _ .vmem, ⟨17, _⟩ => ⟨S1x1x8x128, .f32⟩
  | .local _ .vmem, ⟨18, _⟩ => ⟨S1x1x160x1024, .fp8e4m3⟩
  | .local _ .vmem, ⟨19, _⟩ => ⟨S1x1x160x1024, .fp8e4m3⟩
  | .local _ .vmem, ⟨20, _⟩ => ⟨S1x1x8x128, .f32⟩
  | .local _ .vmem, ⟨21, _⟩ => ⟨S1x1x8x128, .f32⟩
  | .local _ .vmem, ⟨22, _⟩ => ⟨S128x256, .bf16⟩
  | _, _ => ⟨S24x1024x18x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v4_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![24, 18], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x160x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x48x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x160x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x48x160 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x48x160 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x160x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x160x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "half_ln2" => some (((1 / 2) * (Real.log 2) : ℝ) : EReal)
  | "log2e" => some (((Real.log 2)⁻¹ : ℝ) : EReal)
  | "neg_log2e" => some ((-((Real.log 2)⁻¹) : ℝ) : EReal)
  | "score" => some (((Real.sqrt 160)⁻¹ * (Real.log 2)⁻¹ : ℝ) : EReal)
  | _ => none
-- ==== ReferenceIdeal.lean ====
abbrev S24x1024x18x160 : Shape := ⟨4, ![24, 1024, 18, 160]⟩
abbrev S24x1024x18x48 : Shape := ⟨4, ![24, 1024, 18, 48]⟩
abbrev S24x16x64x18x160 : Shape := ⟨5, ![24, 16, 64, 18, 160]⟩
abbrev S24x16x18x64x160 : Shape := ⟨5, ![24, 16, 18, 64, 160]⟩
abbrev S_ : Shape := ⟨0, ![]⟩
abbrev S24x16x18 : Shape := ⟨3, ![24, 16, 18]⟩
abbrev S24x16x18x1x1 : Shape := ⟨5, ![24, 16, 18, 1, 1]⟩
abbrev S24x16x64x18x48 : Shape := ⟨5, ![24, 16, 64, 18, 48]⟩
abbrev S24x16x18x64x48 : Shape := ⟨5, ![24, 16, 18, 64, 48]⟩
abbrev S24x16x18x1x48 : Shape := ⟨5, ![24, 16, 18, 1, 48]⟩
abbrev S24x16x18x48 : Shape := ⟨4, ![24, 16, 18, 48]⟩
abbrev S24x16x18x48x160 : Shape := ⟨5, ![24, 16, 18, 48, 160]⟩
abbrev S64x64 : Shape := ⟨2, ![64, 64]⟩
abbrev S24x16x18x64x64 : Shape := ⟨5, ![24, 16, 18, 64, 64]⟩
abbrev S24x18x48x160 : Shape := ⟨4, ![24, 18, 48, 160]⟩
abbrev S24x1x18x48 : Shape := ⟨4, ![24, 1, 18, 48]⟩
abbrev S24x18x48 : Shape := ⟨3, ![24, 18, 48]⟩
abbrev S24x18x48x1 : Shape := ⟨4, ![24, 18, 48, 1]⟩
abbrev S24x1x18x48x160 : Shape := ⟨5, ![24, 1, 18, 48, 160]⟩
abbrev S24x16x18x64 : Shape := ⟨4, ![24, 16, 18, 64]⟩
abbrev S24x16x18x64x1 : Shape := ⟨5, ![24, 16, 18, 64, 1]⟩
abbrev S24x18x160x16x64 : Shape := ⟨5, ![24, 18, 160, 16, 64]⟩
abbrev S24x18x160x1024 : Shape := ⟨4, ![24, 18, 160, 1024]⟩
abbrev S24x18x16 : Shape := ⟨3, ![24, 18, 16]⟩
abbrev S24x18x16x1 : Shape := ⟨4, ![24, 18, 16, 1]⟩
abbrev S24x18x16x64 : Shape := ⟨4, ![24, 18, 16, 64]⟩
abbrev S24x18x8x128 : Shape := ⟨4, ![24, 18, 8, 128]⟩

abbrev nBuf : Space → Nat
  | .hbm => 483
  | .vmem => 8
  | .smem => 0
  | _ => 0

abbrev hbmTy0_0 (i : Nat) : BufTy := match i % 128 with
  | 0 => ⟨S24x1024x18x160, .bf16⟩
  | 1 => ⟨S24x1024x18x160, .bf16⟩
  | 2 => ⟨S24x1024x18x160, .bf16⟩
  | 3 => ⟨S24x1024x18x48, .bf16⟩
  | 4 => ⟨S24x16x64x18x160, .bf16⟩
  | 5 => ⟨S24x16x18x64x160, .bf16⟩
  | 6 => ⟨S24x16x18x64x160, .f32⟩
  | 7 => ⟨S24x16x64x18x160, .bf16⟩
  | 8 => ⟨S24x16x18x64x160, .bf16⟩
  | 9 => ⟨S24x16x18x64x160, .f32⟩
  | 10 => ⟨S24x16x18x64x160, .f32⟩
  | 11 => ⟨S_, .f32⟩
  | 12 => ⟨S24x16x18, .f32⟩
  | 13 => ⟨S_, .f32⟩
  | 14 => ⟨S24x16x18, .f32⟩
  | 15 => ⟨S24x16x18, .f32⟩
  | 16 => ⟨S_, .f32⟩
  | 17 => ⟨S_, .f32⟩
  | 18 => ⟨S_, .f32⟩
  | 19 => ⟨S24x16x18, .f32⟩
  | 20 => ⟨S24x16x18, .i1⟩
  | 21 => ⟨S24x16x18, .f32⟩
  | 22 => ⟨S24x16x18, .f32⟩
  | 23 => ⟨S24x16x18, .f32⟩
  | 24 => ⟨S24x16x18, .f32⟩
  | 25 => ⟨S_, .f32⟩
  | 26 => ⟨S24x16x18, .f32⟩
  | 27 => ⟨S24x16x18, .f32⟩
  | 28 => ⟨S_, .f32⟩
  | 29 => ⟨S_, .f32⟩
  | 30 => ⟨S24x16x18, .f32⟩
  | 31 => ⟨S24x16x18, .f32⟩
  | 32 => ⟨S24x16x18, .f32⟩
  | 33 => ⟨S24x16x18, .f32⟩
  | 34 => ⟨S24x16x18, .f32⟩
  | 35 => ⟨S24x16x18x64x160, .f32⟩
  | 36 => ⟨S_, .f32⟩
  | 37 => ⟨S24x16x18, .f32⟩
  | 38 => ⟨S_, .f32⟩
  | 39 => ⟨S24x16x18, .f32⟩
  | 40 => ⟨S24x16x18, .f32⟩
  | 41 => ⟨S_, .f32⟩
  | 42 => ⟨S_, .f32⟩
  | 43 => ⟨S_, .f32⟩
  | 44 => ⟨S24x16x18, .f32⟩
  | 45 => ⟨S24x16x18, .i1⟩
  | 46 => ⟨S24x16x18, .f32⟩
  | 47 => ⟨S24x16x18, .f32⟩
  | 48 => ⟨S24x16x18, .f32⟩
  | 49 => ⟨S24x16x18, .f32⟩
  | 50 => ⟨S_, .f32⟩
  | 51 => ⟨S24x16x18, .f32⟩
  | 52 => ⟨S24x16x18, .f32⟩
  | 53 => ⟨S_, .f32⟩
  | 54 => ⟨S_, .f32⟩
  | 55 => ⟨S24x16x18, .f32⟩
  | 56 => ⟨S24x16x18, .f32⟩
  | 57 => ⟨S24x16x18, .f32⟩
  | 58 => ⟨S24x16x18, .f32⟩
  | 59 => ⟨S24x16x18, .f32⟩
  | 60 => ⟨S24x16x18x1x1, .f32⟩
  | 61 => ⟨S24x16x18x64x160, .f32⟩
  | 62 => ⟨S24x16x18x1x1, .f32⟩
  | 63 => ⟨S24x16x18x64x160, .f32⟩
  | 64 => ⟨S24x16x18x64x160, .fp8e4m3⟩
  | 65 => ⟨S24x16x18x64x160, .fp8e4m3⟩
  | 66 => ⟨S24x16x18x64x160, .f32⟩
  | 67 => ⟨S24x16x18x64x160, .f32⟩
  | 68 => ⟨S24x16x64x18x160, .bf16⟩
  | 69 => ⟨S24x16x18x64x160, .bf16⟩
  | 70 => ⟨S24x16x18x64x160, .f32⟩
  | 71 => ⟨S24x16x18x1x1, .f32⟩
  | 72 => ⟨S24x16x18x64x160, .f32⟩
  | 73 => ⟨S24x16x18x64x160, .f32⟩
  | 74 => ⟨S24x16x64x18x48, .bf16⟩
  | 75 => ⟨S24x16x18x64x48, .bf16⟩
  | 76 => ⟨S24x16x18x64x48, .f32⟩
  | 77 => ⟨S_, .f32⟩
  | 78 => ⟨S24x16x18x64x48, .f32⟩
  | 79 => ⟨S24x16x18x64x48, .f32⟩
  | 80 => ⟨S24x16x18x64x48, .f32⟩
  | 81 => ⟨S24x16x18x64x48, .f32⟩
  | 82 => ⟨S24x16x18x64x48, .f32⟩
  | 83 => ⟨S24x16x18x64x48, .f32⟩
  | 84 => ⟨S24x16x18x64x48, .f32⟩
  | 85 => ⟨S_, .f32⟩
  | 86 => ⟨S24x16x18x64x48, .f32⟩
  | 87 => ⟨S24x16x18x64x48, .f32⟩
  | 88 => ⟨S24x16x18x64x48, .f32⟩
  | 89 => ⟨S24x16x18x64x48, .f32⟩
  | 90 => ⟨S_, .f32⟩
  | 91 => ⟨S_, .f32⟩
  | 92 => ⟨S24x16x18x64x48, .f32⟩
  | 93 => ⟨S24x16x18x1x48, .f32⟩
  | 94 => ⟨S24x16x18x48, .f32⟩
  | 95 => ⟨S24x16x18x48, .f32⟩
  | 96 => ⟨S24x16x18x1x48, .f32⟩
  | 97 => ⟨S24x16x18x64x48, .f32⟩
  | 98 => ⟨S24x16x18x64x48, .f32⟩
  | 99 => ⟨S24x16x18x64x48, .f32⟩
  | 100 => ⟨S24x16x18x64x48, .f32⟩
  | 101 => ⟨S24x16x18x48x160, .f32⟩
  | 102 => ⟨S24x16x18x48x160, .f32⟩
  | 103 => ⟨S24x16x18x1x48, .f32⟩
  | 104 => ⟨S24x16x18x48, .f32⟩
  | 105 => ⟨S24x16x18x1x48, .f32⟩
  | 106 => ⟨S24x16x18x64x48, .f32⟩
  | 107 => ⟨S24x16x18x64x48, .f32⟩
  | 108 => ⟨S24x16x18x64x48, .f32⟩
  | 109 => ⟨S24x16x18x64x48, .f32⟩
  | 110 => ⟨S24x16x18x64x48, .f32⟩
  | 111 => ⟨S24x16x18x64x48, .f32⟩
  | 112 => ⟨S24x16x18x64x48, .f32⟩
  | 113 => ⟨S24x16x18x64x48, .f32⟩
  | 114 => ⟨S_, .i1⟩
  | 115 => ⟨S64x64, .i1⟩
  | 116 => ⟨S64x64, .i32⟩
  | 117 => ⟨S_, .i32⟩
  | 118 => ⟨S64x64, .i32⟩
  | 119 => ⟨S64x64, .i32⟩
  | 120 => ⟨S64x64, .i32⟩
  | 121 => ⟨S64x64, .i1⟩
  | 122 => ⟨S_, .i1⟩
  | 123 => ⟨S64x64, .i1⟩
  | 124 => ⟨S64x64, .i1⟩
  | 125 => ⟨S24x16x18x64x64, .f32⟩
  | 126 => ⟨S24x16x18, .f32⟩
  | 127 => ⟨S24x16x18x1x1, .f32⟩
  | _ => ⟨S24x1024x18x160, .bf16⟩

abbrev hbmTy0_1 (i : Nat) : BufTy := match i % 128 with
  | 0 => ⟨S24x16x18x64x64, .f32⟩
  | 1 => ⟨S24x16x18x64x64, .f32⟩
  | 2 => ⟨S_, .f32⟩
  | 3 => ⟨S_, .f32⟩
  | 4 => ⟨S24x16x18x64x64, .i1⟩
  | 5 => ⟨S24x16x18x64x64, .f32⟩
  | 6 => ⟨S24x16x18x64x64, .f32⟩
  | 7 => ⟨S_, .f32⟩
  | 8 => ⟨S24x18x48x160, .f32⟩
  | 9 => ⟨S_, .f32⟩
  | 10 => ⟨S24x18x48x160, .f32⟩
  | 11 => ⟨S24x1x18x48, .f32⟩
  | 12 => ⟨S24x18x48, .f32⟩
  | 13 => ⟨S24x18x48x1, .f32⟩
  | 14 => ⟨S24x18x48x160, .f32⟩
  | 15 => ⟨S24x18x48x160, .f32⟩
  | 16 => ⟨S24x1x18x48x160, .f32⟩
  | 17 => ⟨S24x18x48x160, .f32⟩
  | 18 => ⟨S24x18x48x160, .f32⟩
  | 19 => ⟨S24x1x18x48, .f32⟩
  | 20 => ⟨S24x18x48, .f32⟩
  | 21 => ⟨S24x18x48x1, .f32⟩
  | 22 => ⟨S24x18x48x160, .f32⟩
  | 23 => ⟨S24x18x48x160, .f32⟩
  | 24 => ⟨S24x1x18x48x160, .f32⟩
  | 25 => ⟨S24x18x48x160, .f32⟩
  | 26 => ⟨S24x18x48x160, .f32⟩
  | 27 => ⟨S24x1x18x48, .f32⟩
  | 28 => ⟨S24x18x48, .f32⟩
  | 29 => ⟨S24x18x48x1, .f32⟩
  | 30 => ⟨S24x18x48x160, .f32⟩
  | 31 => ⟨S24x18x48x160, .f32⟩
  | 32 => ⟨S24x1x18x48x160, .f32⟩
  | 33 => ⟨S24x18x48x160, .f32⟩
  | 34 => ⟨S24x18x48x160, .f32⟩
  | 35 => ⟨S24x1x18x48, .f32⟩
  | 36 => ⟨S24x18x48, .f32⟩
  | 37 => ⟨S24x18x48x1, .f32⟩
  | 38 => ⟨S24x18x48x160, .f32⟩
  | 39 => ⟨S24x18x48x160, .f32⟩
  | 40 => ⟨S24x1x18x48x160, .f32⟩
  | 41 => ⟨S24x18x48x160, .f32⟩
  | 42 => ⟨S24x18x48x160, .f32⟩
  | 43 => ⟨S24x1x18x48, .f32⟩
  | 44 => ⟨S24x18x48, .f32⟩
  | 45 => ⟨S24x18x48x1, .f32⟩
  | 46 => ⟨S24x18x48x160, .f32⟩
  | 47 => ⟨S24x18x48x160, .f32⟩
  | 48 => ⟨S24x1x18x48x160, .f32⟩
  | 49 => ⟨S24x18x48x160, .f32⟩
  | 50 => ⟨S24x18x48x160, .f32⟩
  | 51 => ⟨S24x1x18x48, .f32⟩
  | 52 => ⟨S24x18x48, .f32⟩
  | 53 => ⟨S24x18x48x1, .f32⟩
  | 54 => ⟨S24x18x48x160, .f32⟩
  | 55 => ⟨S24x18x48x160, .f32⟩
  | 56 => ⟨S24x1x18x48x160, .f32⟩
  | 57 => ⟨S24x18x48x160, .f32⟩
  | 58 => ⟨S24x18x48x160, .f32⟩
  | 59 => ⟨S24x1x18x48, .f32⟩
  | 60 => ⟨S24x18x48, .f32⟩
  | 61 => ⟨S24x18x48x1, .f32⟩
  | 62 => ⟨S24x18x48x160, .f32⟩
  | 63 => ⟨S24x18x48x160, .f32⟩
  | 64 => ⟨S24x1x18x48x160, .f32⟩
  | 65 => ⟨S24x18x48x160, .f32⟩
  | 66 => ⟨S24x18x48x160, .f32⟩
  | 67 => ⟨S24x1x18x48, .f32⟩
  | 68 => ⟨S24x18x48, .f32⟩
  | 69 => ⟨S24x18x48x1, .f32⟩
  | 70 => ⟨S24x18x48x160, .f32⟩
  | 71 => ⟨S24x18x48x160, .f32⟩
  | 72 => ⟨S24x1x18x48x160, .f32⟩
  | 73 => ⟨S24x18x48x160, .f32⟩
  | 74 => ⟨S24x18x48x160, .f32⟩
  | 75 => ⟨S24x1x18x48, .f32⟩
  | 76 => ⟨S24x18x48, .f32⟩
  | 77 => ⟨S24x18x48x1, .f32⟩
  | 78 => ⟨S24x18x48x160, .f32⟩
  | 79 => ⟨S24x18x48x160, .f32⟩
  | 80 => ⟨S24x1x18x48x160, .f32⟩
  | 81 => ⟨S24x18x48x160, .f32⟩
  | 82 => ⟨S24x18x48x160, .f32⟩
  | 83 => ⟨S24x1x18x48, .f32⟩
  | 84 => ⟨S24x18x48, .f32⟩
  | 85 => ⟨S24x18x48x1, .f32⟩
  | 86 => ⟨S24x18x48x160, .f32⟩
  | 87 => ⟨S24x18x48x160, .f32⟩
  | 88 => ⟨S24x1x18x48x160, .f32⟩
  | 89 => ⟨S24x18x48x160, .f32⟩
  | 90 => ⟨S24x18x48x160, .f32⟩
  | 91 => ⟨S24x1x18x48, .f32⟩
  | 92 => ⟨S24x18x48, .f32⟩
  | 93 => ⟨S24x18x48x1, .f32⟩
  | 94 => ⟨S24x18x48x160, .f32⟩
  | 95 => ⟨S24x18x48x160, .f32⟩
  | 96 => ⟨S24x1x18x48x160, .f32⟩
  | 97 => ⟨S24x18x48x160, .f32⟩
  | 98 => ⟨S24x18x48x160, .f32⟩
  | 99 => ⟨S24x1x18x48, .f32⟩
  | 100 => ⟨S24x18x48, .f32⟩
  | 101 => ⟨S24x18x48x1, .f32⟩
  | 102 => ⟨S24x18x48x160, .f32⟩
  | 103 => ⟨S24x18x48x160, .f32⟩
  | 104 => ⟨S24x1x18x48x160, .f32⟩
  | 105 => ⟨S24x18x48x160, .f32⟩
  | 106 => ⟨S24x18x48x160, .f32⟩
  | 107 => ⟨S24x1x18x48, .f32⟩
  | 108 => ⟨S24x18x48, .f32⟩
  | 109 => ⟨S24x18x48x1, .f32⟩
  | 110 => ⟨S24x18x48x160, .f32⟩
  | 111 => ⟨S24x18x48x160, .f32⟩
  | 112 => ⟨S24x1x18x48x160, .f32⟩
  | 113 => ⟨S24x18x48x160, .f32⟩
  | 114 => ⟨S24x18x48x160, .f32⟩
  | 115 => ⟨S24x1x18x48, .f32⟩
  | 116 => ⟨S24x18x48, .f32⟩
  | 117 => ⟨S24x18x48x1, .f32⟩
  | 118 => ⟨S24x18x48x160, .f32⟩
  | 119 => ⟨S24x18x48x160, .f32⟩
  | 120 => ⟨S24x1x18x48x160, .f32⟩
  | 121 => ⟨S24x18x48x160, .f32⟩
  | 122 => ⟨S24x18x48x160, .f32⟩
  | 123 => ⟨S24x1x18x48, .f32⟩
  | 124 => ⟨S24x18x48, .f32⟩
  | 125 => ⟨S24x18x48x1, .f32⟩
  | 126 => ⟨S24x18x48x160, .f32⟩
  | 127 => ⟨S24x18x48x160, .f32⟩
  | _ => ⟨S24x1024x18x160, .bf16⟩

abbrev hbmTy0_2 (i : Nat) : BufTy := match i % 128 with
  | 0 => ⟨S24x1x18x48x160, .f32⟩
  | 1 => ⟨S24x18x48x160, .f32⟩
  | 2 => ⟨S24x18x48x160, .f32⟩
  | 3 => ⟨S24x1x18x48, .f32⟩
  | 4 => ⟨S24x18x48, .f32⟩
  | 5 => ⟨S24x18x48x1, .f32⟩
  | 6 => ⟨S24x18x48x160, .f32⟩
  | 7 => ⟨S24x18x48x160, .f32⟩
  | 8 => ⟨S24x1x18x48x160, .f32⟩
  | 9 => ⟨S24x18x48x160, .f32⟩
  | 10 => ⟨S24x18x48x160, .f32⟩
  | 11 => ⟨S24x1x18x48, .f32⟩
  | 12 => ⟨S24x18x48, .f32⟩
  | 13 => ⟨S24x18x48x1, .f32⟩
  | 14 => ⟨S24x18x48x160, .f32⟩
  | 15 => ⟨S24x18x48x160, .f32⟩
  | 16 => ⟨S24x1x18x48x160, .f32⟩
  | 17 => ⟨S24x18x48x160, .f32⟩
  | 18 => ⟨S24x18x48x160, .f32⟩
  | 19 => ⟨S24x1x18x48, .f32⟩
  | 20 => ⟨S24x18x48, .f32⟩
  | 21 => ⟨S24x18x48x1, .f32⟩
  | 22 => ⟨S24x18x48x160, .f32⟩
  | 23 => ⟨S24x18x48x160, .f32⟩
  | 24 => ⟨S24x1x18x48x160, .f32⟩
  | 25 => ⟨S24x18x48x160, .f32⟩
  | 26 => ⟨S24x18x48x160, .f32⟩
  | 27 => ⟨S24x1x18x48, .f32⟩
  | 28 => ⟨S24x18x48, .f32⟩
  | 29 => ⟨S24x18x48x1, .f32⟩
  | 30 => ⟨S24x18x48x160, .f32⟩
  | 31 => ⟨S24x18x48x160, .f32⟩
  | 32 => ⟨S24x1x18x48x160, .f32⟩
  | 33 => ⟨S24x18x48x160, .f32⟩
  | 34 => ⟨S24x18x48x160, .f32⟩
  | 35 => ⟨S24x1x18x48, .f32⟩
  | 36 => ⟨S24x18x48, .f32⟩
  | 37 => ⟨S24x18x48x1, .f32⟩
  | 38 => ⟨S24x18x48x160, .f32⟩
  | 39 => ⟨S24x18x48x160, .f32⟩
  | 40 => ⟨S24x1x18x48x160, .f32⟩
  | 41 => ⟨S24x18x48x160, .f32⟩
  | 42 => ⟨S24x18x48x160, .f32⟩
  | 43 => ⟨S24x1x18x48, .f32⟩
  | 44 => ⟨S24x18x48, .f32⟩
  | 45 => ⟨S24x18x48x1, .f32⟩
  | 46 => ⟨S24x18x48x160, .f32⟩
  | 47 => ⟨S24x18x48x160, .f32⟩
  | 48 => ⟨S24x1x18x48x160, .f32⟩
  | 49 => ⟨S24x18x48x160, .f32⟩
  | 50 => ⟨S24x18x48x160, .f32⟩
  | 51 => ⟨S24x1x18x48, .f32⟩
  | 52 => ⟨S24x18x48, .f32⟩
  | 53 => ⟨S24x18x48x1, .f32⟩
  | 54 => ⟨S24x18x48x160, .f32⟩
  | 55 => ⟨S24x18x48x160, .f32⟩
  | 56 => ⟨S24x1x18x48x160, .f32⟩
  | 57 => ⟨S24x18x48x160, .f32⟩
  | 58 => ⟨S24x18x48x160, .f32⟩
  | 59 => ⟨S24x1x18x48, .f32⟩
  | 60 => ⟨S24x18x48, .f32⟩
  | 61 => ⟨S24x18x48x1, .f32⟩
  | 62 => ⟨S24x18x48x160, .f32⟩
  | 63 => ⟨S24x18x48x160, .f32⟩
  | 64 => ⟨S24x1x18x48x160, .f32⟩
  | 65 => ⟨S24x18x48x160, .f32⟩
  | 66 => ⟨S24x18x48x160, .f32⟩
  | 67 => ⟨S24x1x18x48, .f32⟩
  | 68 => ⟨S24x18x48, .f32⟩
  | 69 => ⟨S24x18x48x1, .f32⟩
  | 70 => ⟨S24x18x48x160, .f32⟩
  | 71 => ⟨S24x18x48x160, .f32⟩
  | 72 => ⟨S24x1x18x48x160, .f32⟩
  | 73 => ⟨S24x18x48x160, .f32⟩
  | 74 => ⟨S24x18x48x160, .f32⟩
  | 75 => ⟨S24x1x18x48, .f32⟩
  | 76 => ⟨S24x18x48, .f32⟩
  | 77 => ⟨S24x18x48x1, .f32⟩
  | 78 => ⟨S24x18x48x160, .f32⟩
  | 79 => ⟨S24x18x48x160, .f32⟩
  | 80 => ⟨S24x1x18x48x160, .f32⟩
  | 81 => ⟨S24x18x48x160, .f32⟩
  | 82 => ⟨S24x18x48x160, .f32⟩
  | 83 => ⟨S24x1x18x48, .f32⟩
  | 84 => ⟨S24x18x48, .f32⟩
  | 85 => ⟨S24x18x48x1, .f32⟩
  | 86 => ⟨S24x18x48x160, .f32⟩
  | 87 => ⟨S24x18x48x160, .f32⟩
  | 88 => ⟨S24x1x18x48x160, .f32⟩
  | 89 => ⟨S24x18x48x160, .f32⟩
  | 90 => ⟨S24x18x48x160, .f32⟩
  | 91 => ⟨S24x1x18x48, .f32⟩
  | 92 => ⟨S24x18x48, .f32⟩
  | 93 => ⟨S24x18x48x1, .f32⟩
  | 94 => ⟨S24x18x48x160, .f32⟩
  | 95 => ⟨S24x18x48x160, .f32⟩
  | 96 => ⟨S24x1x18x48x160, .f32⟩
  | 97 => ⟨S24x18x48x160, .f32⟩
  | 98 => ⟨S24x18x48x160, .f32⟩
  | 99 => ⟨S24x1x18x48, .f32⟩
  | 100 => ⟨S24x18x48, .f32⟩
  | 101 => ⟨S24x18x48x1, .f32⟩
  | 102 => ⟨S24x18x48x160, .f32⟩
  | 103 => ⟨S24x18x48x160, .f32⟩
  | 104 => ⟨S24x1x18x48x160, .f32⟩
  | 105 => ⟨S24x18x48x160, .f32⟩
  | 106 => ⟨S24x18x48x160, .f32⟩
  | 107 => ⟨S24x1x18x48, .f32⟩
  | 108 => ⟨S24x18x48, .f32⟩
  | 109 => ⟨S24x18x48x1, .f32⟩
  | 110 => ⟨S24x18x48x160, .f32⟩
  | 111 => ⟨S24x18x48x160, .f32⟩
  | 112 => ⟨S24x1x18x48x160, .f32⟩
  | 113 => ⟨S24x18x48x160, .f32⟩
  | 114 => ⟨S24x18x48x160, .f32⟩
  | 115 => ⟨S24x1x18x48, .f32⟩
  | 116 => ⟨S24x18x48, .f32⟩
  | 117 => ⟨S24x18x48x1, .f32⟩
  | 118 => ⟨S24x18x48x160, .f32⟩
  | 119 => ⟨S24x18x48x160, .f32⟩
  | 120 => ⟨S24x1x18x48x160, .f32⟩
  | 121 => ⟨S24x18x48x160, .f32⟩
  | 122 => ⟨S24x18x48x160, .f32⟩
  | 123 => ⟨S24x1x18x48, .f32⟩
  | 124 => ⟨S24x18x48, .f32⟩
  | 125 => ⟨S24x18x48x1, .f32⟩
  | 126 => ⟨S24x18x48x160, .f32⟩
  | 127 => ⟨S24x18x48x160, .f32⟩
  | _ => ⟨S24x1024x18x160, .bf16⟩

abbrev hbmTy0_3 (i : Nat) : BufTy := match i % 128 with
  | 0 => ⟨S24x1x18x48x160, .f32⟩
  | 1 => ⟨S24x18x48x160, .f32⟩
  | 2 => ⟨S24x18x48x160, .f32⟩
  | 3 => ⟨S24x1x18x48, .f32⟩
  | 4 => ⟨S24x18x48, .f32⟩
  | 5 => ⟨S24x18x48x1, .f32⟩
  | 6 => ⟨S24x18x48x160, .f32⟩
  | 7 => ⟨S24x18x48x160, .f32⟩
  | 8 => ⟨S24x1x18x48x160, .f32⟩
  | 9 => ⟨S24x18x48x160, .f32⟩
  | 10 => ⟨S24x18x48x160, .f32⟩
  | 11 => ⟨S24x1x18x48x160, .f32⟩
  | 12 => ⟨S24x1x18x48x160, .f32⟩
  | 13 => ⟨S24x1x18x48x160, .f32⟩
  | 14 => ⟨S24x1x18x48x160, .f32⟩
  | 15 => ⟨S24x1x18x48x160, .f32⟩
  | 16 => ⟨S24x1x18x48x160, .f32⟩
  | 17 => ⟨S24x1x18x48x160, .f32⟩
  | 18 => ⟨S24x1x18x48x160, .f32⟩
  | 19 => ⟨S24x1x18x48x160, .f32⟩
  | 20 => ⟨S24x1x18x48x160, .f32⟩
  | 21 => ⟨S24x1x18x48x160, .f32⟩
  | 22 => ⟨S24x1x18x48x160, .f32⟩
  | 23 => ⟨S24x1x18x48x160, .f32⟩
  | 24 => ⟨S24x1x18x48x160, .f32⟩
  | 25 => ⟨S24x1x18x48x160, .f32⟩
  | 26 => ⟨S24x1x18x48x160, .f32⟩
  | 27 => ⟨S24x16x18x48x160, .f32⟩
  | 28 => ⟨S24x1x18x48x160, .f32⟩
  | 29 => ⟨S24x1x18x48x160, .f32⟩
  | 30 => ⟨S24x1x18x48x160, .f32⟩
  | 31 => ⟨S24x1x18x48x160, .f32⟩
  | 32 => ⟨S24x1x18x48x160, .f32⟩
  | 33 => ⟨S24x1x18x48x160, .f32⟩
  | 34 => ⟨S24x1x18x48x160, .f32⟩
  | 35 => ⟨S24x1x18x48x160, .f32⟩
  | 36 => ⟨S24x1x18x48x160, .f32⟩
  | 37 => ⟨S24x1x18x48x160, .f32⟩
  | 38 => ⟨S24x1x18x48x160, .f32⟩
  | 39 => ⟨S24x1x18x48x160, .f32⟩
  | 40 => ⟨S24x1x18x48x160, .f32⟩
  | 41 => ⟨S24x1x18x48x160, .f32⟩
  | 42 => ⟨S24x1x18x48x160, .f32⟩
  | 43 => ⟨S24x1x18x48x160, .f32⟩
  | 44 => ⟨S24x16x18x48x160, .f32⟩
  | 45 => ⟨S24x16x18x64x48, .f32⟩
  | 46 => ⟨S24x16x18x64x48, .f32⟩
  | 47 => ⟨S24x16x18x64x48, .f32⟩
  | 48 => ⟨S24x16x18x1x1, .f32⟩
  | 49 => ⟨S24x16x18x64x48, .f32⟩
  | 50 => ⟨S24x16x18x64x48, .f32⟩
  | 51 => ⟨S_, .f32⟩
  | 52 => ⟨S_, .f32⟩
  | 53 => ⟨S_, .f32⟩
  | 54 => ⟨S_, .f32⟩
  | 55 => ⟨S24x16x18x64x48, .f32⟩
  | 56 => ⟨S24x16x18x64x48, .f32⟩
  | 57 => ⟨S24x16x18x64x48, .f32⟩
  | 58 => ⟨S24x16x18x64x48, .f32⟩
  | 59 => ⟨S_, .f32⟩
  | 60 => ⟨S24x16x18x64, .f32⟩
  | 61 => ⟨S_, .f32⟩
  | 62 => ⟨S24x16x18x64, .f32⟩
  | 63 => ⟨S24x16x18x64, .f32⟩
  | 64 => ⟨S24x16x18x64x1, .f32⟩
  | 65 => ⟨S24x16x18x64x48, .f32⟩
  | 66 => ⟨S24x16x18x64x48, .f32⟩
  | 67 => ⟨S24x16x18x64x48, .f32⟩
  | 68 => ⟨S_, .f32⟩
  | 69 => ⟨S24x16x18x64, .f32⟩
  | 70 => ⟨S24x16x18x64x1, .f32⟩
  | 71 => ⟨S24x16x18x64x48, .f32⟩
  | 72 => ⟨S24x16x18x64x48, .f32⟩
  | 73 => ⟨S24x16x18x64x48, .f32⟩
  | 74 => ⟨S24x16x18x64x64, .f32⟩
  | 75 => ⟨S_, .f32⟩
  | 76 => ⟨S_, .f32⟩
  | 77 => ⟨S24x16x18x64x64, .i1⟩
  | 78 => ⟨S24x16x18x64x64, .f32⟩
  | 79 => ⟨S24x16x18x64x64, .f32⟩
  | 80 => ⟨S24x16x18x64x160, .f32⟩
  | 81 => ⟨S24x16x18x64x48, .f32⟩
  | 82 => ⟨S24x16x18x64x160, .f32⟩
  | 83 => ⟨S24x16x18x64x160, .f32⟩
  | 84 => ⟨S24x18x160x16x64, .f32⟩
  | 85 => ⟨S24x18x160x1024, .f32⟩
  | 86 => ⟨S24x18x160x1024, .bf16⟩
  | 87 => ⟨S24x18x160x16x64, .fp8e4m3⟩
  | 88 => ⟨S24x18x160x1024, .fp8e4m3⟩
  | 89 => ⟨S24x18x16, .f32⟩
  | 90 => ⟨S24x18x16x1, .f32⟩
  | 91 => ⟨S24x18x16x64, .f32⟩
  | 92 => ⟨S24x18x8x128, .f32⟩
  | 93 => ⟨S24x18x160x16x64, .fp8e4m3⟩
  | 94 => ⟨S24x18x160x1024, .fp8e4m3⟩
  | 95 => ⟨S24x18x16, .f32⟩
  | 96 => ⟨S24x18x16x1, .f32⟩
  | 97 => ⟨S24x18x16x64, .f32⟩
  | 98 => ⟨S24x18x8x128, .f32⟩
  | _ => ⟨S24x1024x18x160, .bf16⟩

abbrev hbmTy (i : Nat) : BufTy := match i / 128 with
  | 0 => hbmTy0_0 i
  | 1 => hbmTy0_1 i
  | 2 => hbmTy0_2 i
  | 3 => hbmTy0_3 i
  | _ => ⟨S24x1024x18x160, .bf16⟩

abbrev bufTy : (tb : Table) → Fin (tcTables nBuf tb) → BufTy
  | .hbm, ⟨i, _⟩ => hbmTy i
  | .local _ .vmem, ⟨0, _⟩ => ⟨S24x16x18x64x160, .f32⟩
  | .local _ .vmem, ⟨1, _⟩ => ⟨S24x16x18x64x160, .f32⟩
  | .local _ .vmem, ⟨2, _⟩ => ⟨S24x16x18x64x160, .f32⟩
  | .local _ .vmem, ⟨3, _⟩ => ⟨S24x16x18x64x160, .f32⟩
  | .local _ .vmem, ⟨4, _⟩ => ⟨S24x16x18x64x160, .fp8e4m3⟩
  | .local _ .vmem, ⟨5, _⟩ => ⟨S24x16x18x64x160, .fp8e4m3⟩
  | .local _ .vmem, ⟨6, _⟩ => ⟨S24x16x18x64x160, .f32⟩
  | .local _ .vmem, ⟨7, _⟩ => ⟨S24x16x18x64x160, .f32⟩
  | _, _ => ⟨S24x1024x18x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_call1_v0 : Ref sig .tc := ⟨.hbm, 54, rfl⟩
abbrev main_call1_v1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44_0 : Ref sig .tc := ⟨.hbm, 64, rfl⟩
abbrev main_v44_1 : Ref sig .tc := ⟨.hbm, 65, rfl⟩
abbrev main_v44_2 : Ref sig .tc := ⟨.hbm, 66, rfl⟩
abbrev main_v44_3 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_call0_cst : Ref sig .tc := ⟨.hbm, 90, rfl⟩
abbrev main_call2_call0_v0 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c : Ref sig .tc := ⟨.hbm, 114, rfl⟩
abbrev main_v87 : Ref sig .tc := ⟨.hbm, 115, rfl⟩
abbrev main_call3_v0 : Ref sig .tc := ⟨.hbm, 116, rfl⟩
abbrev main_call3_c : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_c_0 : Ref sig .tc := ⟨.hbm, 122, rfl⟩
abbrev main_call3_v5 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_13 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v94 : Ref sig .tc := ⟨.hbm, 134, rfl⟩
abbrev main_cst_14 : Ref sig .tc := ⟨.hbm, 135, rfl⟩
abbrev main_v95 : Ref sig .tc := ⟨.hbm, 136, rfl⟩
abbrev main_cst_15 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩
abbrev main_v287 : Ref sig .tc := ⟨.hbm, 329, rfl⟩
abbrev main_v288 : Ref sig .tc := ⟨.hbm, 330, rfl⟩
abbrev main_v289 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩
abbrev main_v300 : Ref sig .tc := ⟨.hbm, 342, rfl⟩
abbrev main_v301 : Ref sig .tc := ⟨.hbm, 343, rfl⟩
abbrev main_v302 : Ref sig .tc := ⟨.hbm, 344, rfl⟩
abbrev main_v303 : Ref sig .tc := ⟨.hbm, 345, rfl⟩
abbrev main_v304 : Ref sig .tc := ⟨.hbm, 346, rfl⟩
abbrev main_v305 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_v317 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_v321 : Ref sig .tc := ⟨.hbm, 363, rfl⟩
abbrev main_v322 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩
abbrev main_v328 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_v332 : Ref sig .tc := ⟨.hbm, 374, rfl⟩
abbrev main_v333 : Ref sig .tc := ⟨.hbm, 375, rfl⟩
abbrev main_v334 : Ref sig .tc := ⟨.hbm, 376, rfl⟩
abbrev main_v335 : Ref sig .tc := ⟨.hbm, 377, rfl⟩
abbrev main_v336 : Ref sig .tc := ⟨.hbm, 378, rfl⟩
abbrev main_v337 : Ref sig .tc := ⟨.hbm, 379, rfl⟩
abbrev main_v338 : Ref sig .tc := ⟨.hbm, 380, rfl⟩
abbrev main_v339 : Ref sig .tc := ⟨.hbm, 381, rfl⟩
abbrev main_v340 : Ref sig .tc := ⟨.hbm, 382, rfl⟩
abbrev main_v341 : Ref sig .tc := ⟨.hbm, 383, rfl⟩
abbrev main_v342 : Ref sig .tc := ⟨.hbm, 384, rfl⟩
abbrev main_v343 : Ref sig .tc := ⟨.hbm, 385, rfl⟩
abbrev main_v344 : Ref sig .tc := ⟨.hbm, 386, rfl⟩
abbrev main_v345 : Ref sig .tc := ⟨.hbm, 387, rfl⟩
abbrev main_v346 : Ref sig .tc := ⟨.hbm, 388, rfl⟩
abbrev main_v347 : Ref sig .tc := ⟨.hbm, 389, rfl⟩
abbrev main_v348 : Ref sig .tc := ⟨.hbm, 390, rfl⟩
abbrev main_v349 : Ref sig .tc := ⟨.hbm, 391, rfl⟩
abbrev main_v350 : Ref sig .tc := ⟨.hbm, 392, rfl⟩
abbrev main_v351 : Ref sig .tc := ⟨.hbm, 393, rfl⟩
abbrev main_v352 : Ref sig .tc := ⟨.hbm, 394, rfl⟩
abbrev main_v353 : Ref sig .tc := ⟨.hbm, 395, rfl⟩
abbrev main_v354 : Ref sig .tc := ⟨.hbm, 396, rfl⟩
abbrev main_v355 : Ref sig .tc := ⟨.hbm, 397, rfl⟩
abbrev main_v356 : Ref sig .tc := ⟨.hbm, 398, rfl⟩
abbrev main_v357 : Ref sig .tc := ⟨.hbm, 399, rfl⟩
abbrev main_v358 : Ref sig .tc := ⟨.hbm, 400, rfl⟩
abbrev main_v359 : Ref sig .tc := ⟨.hbm, 401, rfl⟩
abbrev main_v360 : Ref sig .tc := ⟨.hbm, 402, rfl⟩
abbrev main_v361 : Ref sig .tc := ⟨.hbm, 403, rfl⟩
abbrev main_v362 : Ref sig .tc := ⟨.hbm, 404, rfl⟩
abbrev main_v363 : Ref sig .tc := ⟨.hbm, 405, rfl⟩
abbrev main_v364 : Ref sig .tc := ⟨.hbm, 406, rfl⟩
abbrev main_v365 : Ref sig .tc := ⟨.hbm, 407, rfl⟩
abbrev main_v366 : Ref sig .tc := ⟨.hbm, 408, rfl⟩
abbrev main_v367 : Ref sig .tc := ⟨.hbm, 409, rfl⟩
abbrev main_v368 : Ref sig .tc := ⟨.hbm, 410, rfl⟩
abbrev main_v369 : Ref sig .tc := ⟨.hbm, 411, rfl⟩
abbrev main_v370 : Ref sig .tc := ⟨.hbm, 412, rfl⟩
abbrev main_v371 : Ref sig .tc := ⟨.hbm, 413, rfl⟩
abbrev main_v372 : Ref sig .tc := ⟨.hbm, 414, rfl⟩
abbrev main_v373 : Ref sig .tc := ⟨.hbm, 415, rfl⟩
abbrev main_v374 : Ref sig .tc := ⟨.hbm, 416, rfl⟩
abbrev main_v375 : Ref sig .tc := ⟨.hbm, 417, rfl⟩
abbrev main_v376 : Ref sig .tc := ⟨.hbm, 418, rfl⟩
abbrev main_v377 : Ref sig .tc := ⟨.hbm, 419, rfl⟩
abbrev main_v378 : Ref sig .tc := ⟨.hbm, 420, rfl⟩
abbrev main_v379 : Ref sig .tc := ⟨.hbm, 421, rfl⟩
abbrev main_v380 : Ref sig .tc := ⟨.hbm, 422, rfl⟩
abbrev main_v381 : Ref sig .tc := ⟨.hbm, 423, rfl⟩
abbrev main_v382 : Ref sig .tc := ⟨.hbm, 424, rfl⟩
abbrev main_v383 : Ref sig .tc := ⟨.hbm, 425, rfl⟩
abbrev main_v384 : Ref sig .tc := ⟨.hbm, 426, rfl⟩
abbrev main_v385 : Ref sig .tc := ⟨.hbm, 427, rfl⟩
abbrev main_v386 : Ref sig .tc := ⟨.hbm, 428, rfl⟩
abbrev main_v387 : Ref sig .tc := ⟨.hbm, 429, rfl⟩
abbrev main_v388 : Ref sig .tc := ⟨.hbm, 430, rfl⟩
abbrev main_v389 : Ref sig .tc := ⟨.hbm, 431, rfl⟩
abbrev main_v390 : Ref sig .tc := ⟨.hbm, 432, rfl⟩
abbrev main_v391 : Ref sig .tc := ⟨.hbm, 433, rfl⟩
abbrev main_v392 : Ref sig .tc := ⟨.hbm, 434, rfl⟩
abbrev main_cst_16 : Ref sig .tc := ⟨.hbm, 435, rfl⟩
abbrev main_v393 : Ref sig .tc := ⟨.hbm, 436, rfl⟩
abbrev main_cst_17 : Ref sig .tc := ⟨.hbm, 437, rfl⟩
abbrev main_v394 : Ref sig .tc := ⟨.hbm, 438, rfl⟩
abbrev main_v395 : Ref sig .tc := ⟨.hbm, 439, rfl⟩
abbrev main_v396 : Ref sig .tc := ⟨.hbm, 440, rfl⟩
abbrev main_v397 : Ref sig .tc := ⟨.hbm, 441, rfl⟩
abbrev main_v398 : Ref sig .tc := ⟨.hbm, 442, rfl⟩
abbrev main_cst_18 : Ref sig .tc := ⟨.hbm, 443, rfl⟩
abbrev main_v399 : Ref sig .tc := ⟨.hbm, 444, rfl⟩
abbrev main_cst_19 : Ref sig .tc := ⟨.hbm, 445, rfl⟩
abbrev main_v400 : Ref sig .tc := ⟨.hbm, 446, rfl⟩
abbrev main_v401 : Ref sig .tc := ⟨.hbm, 447, rfl⟩
abbrev main_v402 : Ref sig .tc := ⟨.hbm, 448, rfl⟩
abbrev main_v403 : Ref sig .tc := ⟨.hbm, 449, rfl⟩
abbrev main_v404 : Ref sig .tc := ⟨.hbm, 450, rfl⟩
abbrev main_v405 : Ref sig .tc := ⟨.hbm, 451, rfl⟩
abbrev main_cst_20 : Ref sig .tc := ⟨.hbm, 452, rfl⟩
abbrev main_v406 : Ref sig .tc := ⟨.hbm, 453, rfl⟩
abbrev main_v407 : Ref sig .tc := ⟨.hbm, 454, rfl⟩
abbrev main_v408 : Ref sig .tc := ⟨.hbm, 455, rfl⟩
abbrev main_v409 : Ref sig .tc := ⟨.hbm, 456, rfl⟩
abbrev main_v410 : Ref sig .tc := ⟨.hbm, 457, rfl⟩
abbrev main_v411 : Ref sig .tc := ⟨.hbm, 458, rfl⟩
abbrev main_cst_21 : Ref sig .tc := ⟨.hbm, 459, rfl⟩
abbrev main_call5_v0 : Ref sig .tc := ⟨.hbm, 460, rfl⟩
abbrev main_call5_v1 : Ref sig .tc := ⟨.hbm, 461, rfl⟩
abbrev main_call5_v2 : Ref sig .tc := ⟨.hbm, 462, rfl⟩
abbrev main_v412 : Ref sig .tc := ⟨.hbm, 463, rfl⟩
abbrev main_v413 : Ref sig .tc := ⟨.hbm, 464, rfl⟩
abbrev main_v414 : Ref sig .tc := ⟨.hbm, 465, rfl⟩
abbrev main_v415 : Ref sig .tc := ⟨.hbm, 466, rfl⟩
abbrev main_v416 : Ref sig .tc := ⟨.hbm, 467, rfl⟩
abbrev main_v417 : Ref sig .tc := ⟨.hbm, 468, rfl⟩
abbrev main_v418 : Ref sig .tc := ⟨.hbm, 469, rfl⟩
abbrev main_v419 : Ref sig .tc := ⟨.hbm, 470, rfl⟩
abbrev main_v420 : Ref sig .tc := ⟨.hbm, 471, rfl⟩
abbrev main_v421 : Ref sig .tc := ⟨.hbm, 472, rfl⟩
abbrev main_v422 : Ref sig .tc := ⟨.hbm, 473, rfl⟩
abbrev main_v423 : Ref sig .tc := ⟨.hbm, 474, rfl⟩
abbrev main_v424 : Ref sig .tc := ⟨.hbm, 475, rfl⟩
abbrev main_v425 : Ref sig .tc := ⟨.hbm, 476, rfl⟩
abbrev main_v426 : Ref sig .tc := ⟨.hbm, 477, rfl⟩
abbrev main_v427 : Ref sig .tc := ⟨.hbm, 478, rfl⟩
abbrev main_v428 : Ref sig .tc := ⟨.hbm, 479, rfl⟩
abbrev main_v429 : Ref sig .tc := ⟨.hbm, 480, rfl⟩
abbrev main_v430 : Ref sig .tc := ⟨.hbm, 481, rfl⟩
abbrev main_v431 : Ref sig .tc := ⟨.hbm, 482, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24x16x18x64x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x16x18x64x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x16x18x64x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x16x18x64x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x16x18x64x160 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x16x18x64x160 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x16x18x64x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x16x18x64x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Stages.lean ====
module

public import proofs.«01_k».proof.Proof.Gen.KernelIdeal.Value

/-! The kernel's body as a composition of named stages: each stage is a function of a few vectors, and one pair of
chunks (128 tokens) runs the stages in order. Every stage's operations are the printed program's own, in its order. -/

@[expose] public section
noncomputable section
namespace Cert.KernelIdeal.Stage
open Idealize.ShloMosaic Idealize.SL.Sem Cert.KernelIdeal Cert.KernelIdeal.Gen
variable {F : FTy → Type} [FloatOps F] [Named F]

/-- The scratch's first 128 columns: ones up to and including the column's token. -/
def uLeft : FVec F S128x128 .bf16 :=
  have v2708 : IVec S128x128 32 := iota .tc S128x128 32 [0] iota_S128x128_d0_w32
  have v2709 : IVec S128x128 32 := iota .tc S128x128 32 [1] iota_S128x128_d1_w32
  have v2710 : IVec S128x128 1 := cmpi .sle v2708 v2709
  have v2711 : IVec S128x128 32 := extui 32 v2710 natLt_1_32
  have v2712 : FVec F S128x128 .f32 := sitofp .f32 v2711
  have v2795 : FVec F S128x128 .bf16 := truncf .bf16 v2712 bitsLt_bf16_f32
  have v2798 : FVec F S128x128 .bf16 := shapeCast S128x128 v2795 shapeCasts_S128x128_S128x128
  v2798

/-- The scratch's last 128 columns: ones up to the column's token less ones up to the middle of its chunk, within the chunk. -/
def uRight : FVec F S128x128 .bf16 :=
  have v2708 : IVec S128x128 32 := iota .tc S128x128 32 [0] iota_S128x128_d0_w32
  have v2709 : IVec S128x128 32 := iota .tc S128x128 32 [1] iota_S128x128_d1_w32
  have v2710 : IVec S128x128 1 := cmpi .sle v2708 v2709
  have v2711 : IVec S128x128 32 := extui 32 v2710 natLt_1_32
  have v2712 : FVec F S128x128 .f32 := sitofp .f32 v2711
  have c64_i32_689 : BitVec 32 := 64#32
  have v2713 : IVec S128x128 32 := broadcast S128x128 c64_i32_689
  have v2714 : IVec S128x128 32 := divsi v2708 v2713
  have c0_i32_690 : BitVec 32 := 0#32
  have v2715 : IVec S128x128 32 := broadcast S128x128 c0_i32_690
  have v2716 : IVec S128x128 1 := cmpi .sgt v2708 v2715
  have v2717 : IVec S128x128 32 := extui 32 v2716 natLt_1_32
  have c0_i32_691 : BitVec 32 := 0#32
  have v2718 : IVec S128x128 32 := broadcast S128x128 c0_i32_691
  have v2719 : IVec S128x128 1 := cmpi .slt v2708 v2718
  have v2720 : IVec S128x128 32 := extui 32 v2719 natLt_1_32
  have v2721 : IVec S128x128 32 := subi v2717 v2720
  have c0_i32_692 : BitVec 32 := 0#32
  have v2722 : BitVec 1 := Scalar.cmpi .sgt c64_i32_689 c0_i32_692
  have v2723 : BitVec 32 := Scalar.extui v2722
  have c0_i32_693 : BitVec 32 := 0#32
  have v2724 : BitVec 1 := Scalar.cmpi .slt c64_i32_689 c0_i32_693
  have v2725 : BitVec 32 := Scalar.extui v2724
  have v2726 : BitVec 32 := Scalar.subi v2723 v2725
  have v2727 : IVec S128x128 32 := broadcast S128x128 v2726
  have v2728 : IVec S128x128 1 := cmpi .ne v2721 v2727
  have v2729 : IVec S128x128 32 := broadcast S128x128 c64_i32_689
  have v2730 : IVec S128x128 32 := remsi v2708 v2729
  have c0_i32_694 : BitVec 32 := 0#32
  have v2731 : IVec S128x128 32 := broadcast S128x128 c0_i32_694
  have v2732 : IVec S128x128 1 := cmpi .ne v2730 v2731
  have v2733 : IVec S128x128 1 := andi v2728 v2732
  have c1_i32_695 : BitVec 32 := 1#32
  have v2734 : IVec S128x128 32 := broadcast S128x128 c1_i32_695
  have v2735 : IVec S128x128 32 := subi v2714 v2734
  have v2736 : IVec S128x128 32 := select v2733 v2735 v2714
  have c64_i32_696 : BitVec 32 := 64#32
  have v2737 : IVec S128x128 32 := broadcast S128x128 c64_i32_696
  have v2738 : IVec S128x128 32 := divsi v2709 v2737
  have c0_i32_697 : BitVec 32 := 0#32
  have v2739 : IVec S128x128 32 := broadcast S128x128 c0_i32_697
  have v2740 : IVec S128x128 1 := cmpi .sgt v2709 v2739
  have v2741 : IVec S128x128 32 := extui 32 v2740 natLt_1_32
  have c0_i32_698 : BitVec 32 := 0#32
  have v2742 : IVec S128x128 32 := broadcast S128x128 c0_i32_698
  have v2743 : IVec S128x128 1 := cmpi .slt v2709 v2742
  have v2744 : IVec S128x128 32 := extui 32 v2743 natLt_1_32
  have v2745 : IVec S128x128 32 := subi v2741 v2744
  have c0_i32_699 : BitVec 32 := 0#32
  have v2746 : BitVec 1 := Scalar.cmpi .sgt c64_i32_696 c0_i32_699
  have v2747 : BitVec 32 := Scalar.extui v2746
  have c0_i32_700 : BitVec 32 := 0#32
  have v2748 : BitVec 1 := Scalar.cmpi .slt c64_i32_696 c0_i32_700
  have v2749 : BitVec 32 := Scalar.extui v2748
  have v2750 : BitVec 32 := Scalar.subi v2747 v2749
  have v2751 : IVec S128x128 32 := broadcast S128x128 v2750
  have v2752 : IVec S128x128 1 := cmpi .ne v2745 v2751
  have v2753 : IVec S128x128 32 := broadcast S128x128 c64_i32_696
  have v2754 : IVec S128x128 32 := remsi v2709 v2753
  have c0_i32_701 : BitVec 32 := 0#32
  have v2755 : IVec S128x128 32 := broadcast S128x128 c0_i32_701
  have v2756 : IVec S128x128 1 := cmpi .ne v2754 v2755
  have v2757 : IVec S128x128 1 := andi v2752 v2756
  have c1_i32_702 : BitVec 32 := 1#32
  have v2758 : IVec S128x128 32 := broadcast S128x128 c1_i32_702
  have v2759 : IVec S128x128 32 := subi v2738 v2758
  have v2760 : IVec S128x128 32 := select v2757 v2759 v2738
  have v2761 : IVec S128x128 1 := cmpi .eq v2736 v2760
  have v2762 : IVec S128x128 32 := extui 32 v2761 natLt_1_32
  have v2763 : FVec F S128x128 .f32 := sitofp .f32 v2762
  have c64_i32_703 : BitVec 32 := 64#32
  have v2764 : IVec S128x128 32 := broadcast S128x128 c64_i32_703
  have v2765 : IVec S128x128 32 := divsi v2709 v2764
  have c0_i32_704 : BitVec 32 := 0#32
  have v2766 : IVec S128x128 32 := broadcast S128x128 c0_i32_704
  have v2767 : IVec S128x128 1 := cmpi .sgt v2709 v2766
  have v2768 : IVec S128x128 32 := extui 32 v2767 natLt_1_32
  have c0_i32_705 : BitVec 32 := 0#32
  have v2769 : IVec S128x128 32 := broadcast S128x128 c0_i32_705
  have v2770 : IVec S128x128 1 := cmpi .slt v2709 v2769
  have v2771 : IVec S128x128 32 := extui 32 v2770 natLt_1_32
  have v2772 : IVec S128x128 32 := subi v2768 v2771
  have c0_i32_706 : BitVec 32 := 0#32
  have v2773 : BitVec 1 := Scalar.cmpi .sgt c64_i32_703 c0_i32_706
  have v2774 : BitVec 32 := Scalar.extui v2773
  have c0_i32_707 : BitVec 32 := 0#32
  have v2775 : BitVec 1 := Scalar.cmpi .slt c64_i32_703 c0_i32_707
  have v2776 : BitVec 32 := Scalar.extui v2775
  have v2777 : BitVec 32 := Scalar.subi v2774 v2776
  have v2778 : IVec S128x128 32 := broadcast S128x128 v2777
  have v2779 : IVec S128x128 1 := cmpi .ne v2772 v2778
  have v2780 : IVec S128x128 32 := broadcast S128x128 c64_i32_703
  have v2781 : IVec S128x128 32 := remsi v2709 v2780
  have c0_i32_708 : BitVec 32 := 0#32
  have v2782 : IVec S128x128 32 := broadcast S128x128 c0_i32_708
  have v2783 : IVec S128x128 1 := cmpi .ne v2781 v2782
  have v2784 : IVec S128x128 1 := andi v2779 v2783
  have c1_i32_709 : BitVec 32 := 1#32
  have v2785 : IVec S128x128 32 := broadcast S128x128 c1_i32_709
  have v2786 : IVec S128x128 32 := subi v2765 v2785
  have v2787 : IVec S128x128 32 := select v2784 v2786 v2765
  have c64_i32_710 : BitVec 32 := 64#32
  have v2788 : IVec S128x128 32 := broadcast S128x128 c64_i32_710
  have v2789 : IVec S128x128 32 := muli v2787 v2788
  have c32_i32_711 : BitVec 32 := 32#32
  have v2790 : IVec S128x128 32 := broadcast S128x128 c32_i32_711
  have v2791 : IVec S128x128 32 := addi v2789 v2790
  have v2792 : IVec S128x128 1 := cmpi .sle v2708 v2791
  have v2793 : IVec S128x128 32 := extui 32 v2792 natLt_1_32
  have v2794 : FVec F S128x128 .f32 := sitofp .f32 v2793
  have v2799 : FVec F S128x128 .f32 := subf v2712 v2794
  have v2800 : FVec F S128x128 .f32 := mulf v2799 v2763
  have v2801 : FVec F S128x128 .bf16 := truncf .bf16 v2800 bitsLt_bf16_f32
  have v2804 : FVec F S128x128 .bf16 := shapeCast S128x128 v2801 shapeCasts_S128x128_S128x128
  v2804

/-- The largest magnitude of each column of a block of 128 tokens. -/
def absRow (x : Vec F S1x1x160x128 .bf16) : FVec F S1x128 .f32 :=
  have v30 : FVec F S160x128 .bf16 := shapeCast S160x128 x shapeCasts_S1x1x160x128_S160x128
  have v31 : FVec F S160x128 .bf16 := absf v30
  have v32 : FVec F S160x128 .f32 := extf .f32 v31 bitsLt_bf16_f32
  have v33 : FVec F S128 .f32 := multiReduction .maximumf [0] S128 v32 0xFF800000#32 reduces_S160x128_S128 (.inl rfl) rfl
  have v34 : FVec F S1x128 .f32 := shapeCast S1x128 v33 shapeCasts_S128_S1x128
  v34

/-- Each half row's largest entry, spread over the half: the largest magnitude of each chunk. -/
def halfMax (r0 : FVec F S1x128 .f32) (r1 : FVec F S1x128 .f32) (r2 : FVec F S1x128 .f32) (r3 : FVec F S1x128 .f32) (r4 : FVec F S1x128 .f32) (r5 : FVec F S1x128 .f32) (r6 : FVec F S1x128 .f32) (r7 : FVec F S1x128 .f32) : FVec F S8x128 .f32 :=
  have v53 : FVec F S8x128 .f32 := concatenate S8x128 0 [⟨S1x128, r0⟩, ⟨S1x128, r1⟩, ⟨S1x128, r2⟩, ⟨S1x128, r3⟩, ⟨S1x128, r4⟩, ⟨S1x128, r5⟩, ⟨S1x128, r6⟩, ⟨S1x128, r7⟩] concatenates_S1x128_S1x128_S1x128_S1x128_S1x128_S1x128_S1x128_S1x128_S8x128_d0
  have v54 : IVec S8x128 32 := iota .tc S8x128 32 [1] iota_S8x128_d1_w32
  have c64_i32 : BitVec 32 := 64#32
  have v55 : IVec S8x128 32 := broadcast S8x128 c64_i32
  have v56 : IVec S8x128 1 := cmpi .slt v54 v55
  have cst_33 : F .f32 := Scalar.ofBits .f32 0x00000000#32
  have v57 : FVec F S8x128 .f32 := broadcast S8x128 cst_33
  have v58 : FVec F S8x128 .f32 := select v56 v53 v57
  have v59 : FVec F S8 .f32 := multiReduction .maximumf [1] S8 v58 0xFF800000#32 reduces_S8x128_S8 (.inl rfl) rfl
  have v60 : FVec F S8x1 .f32 := shapeCast S8x1 v59 shapeCasts_S8_S8x1
  have cst_35 : F .f32 := Scalar.ofBits .f32 0x00000000#32
  have v61 : FVec F S8x128 .f32 := broadcast S8x128 cst_35
  have v62 : FVec F S8x128 .f32 := select v56 v61 v53
  have v63 : FVec F S8 .f32 := multiReduction .maximumf [1] S8 v62 0xFF800000#32 reduces_S8x128_S8 (.inl rfl) rfl
  have v64 : FVec F S8x1 .f32 := shapeCast S8x1 v63 shapeCasts_S8_S8x1
  have v65 : FVec F S8x1 .f32 := shapeCast S8x1 v60 shapeCasts_S8x1_S8x1
  have v66 : FVec F S8x128 .f32 := broadcastTo S8x128 v65 broadcasts_S8x1_S8x128
  have v67 : FVec F S8x1 .f32 := shapeCast S8x1 v64 shapeCasts_S8x1_S8x1
  have v68 : FVec F S8x128 .f32 := broadcastTo S8x128 v67 broadcasts_S8x1_S8x128
  have v69 : FVec F S8x128 .f32 := select v56 v66 v68
  v69

/-- The largest magnitude over the fp8 range. -/
def overMax (amax : FVec F S8x128 .f32) : FVec F S8x128 .f32 :=
  have cst_37 : F .f32 := Scalar.ofBits .f32 0x3B124925#32
  have v70 : FVec F S8x128 .f32 := broadcast S8x128 cst_37
  have v71 : FVec F S8x128 .f32 := mulf amax v70
  v71

/-- The exponent of a value, found by eight comparisons (zero below the smallest normal number). -/
def fieldOf (y : FVec F S8x128 .f32) : IVec S8x128 32 :=
  have c1_i32 : BitVec 32 := 1#32
  have v72 : IVec S8x128 32 := broadcast S8x128 c1_i32
  have cst_38 : F .f32 := Scalar.ofBits .f32 0x00800000#32
  have v73 : FVec F S8x128 .f32 := broadcast S8x128 cst_38
  have cst_39 : F .f32 := Scalar.ofBits .f32 0x7F000000#32
  have v74 : FVec F S8x128 .f32 := broadcast S8x128 cst_39
  have v75 : FVec F S8x128 .f32 := mulf v73 v74
  have v76 : IVec S8x128 1 := cmpf .oge y v75
  have c127_i32 : BitVec 32 := 127#32
  have v77 : IVec S8x128 32 := broadcast S8x128 c127_i32
  have v78 : IVec S8x128 32 := addi v72 v77
  have v79 : IVec S8x128 32 := select v76 v78 v72
  have cst_40 : F .f32 := Scalar.ofBits .f32 0x7F000000#32
  have v80 : FVec F S8x128 .f32 := broadcast S8x128 cst_40
  have v81 : FVec F S8x128 .f32 := mulf v73 v80
  have v82 : FVec F S8x128 .f32 := select v76 v81 v73
  have cst_41 : F .f32 := Scalar.ofBits .f32 0x5F800000#32
  have v83 : FVec F S8x128 .f32 := broadcast S8x128 cst_41
  have v84 : FVec F S8x128 .f32 := mulf v82 v83
  have v85 : IVec S8x128 1 := cmpf .oge y v84
  have c64_i32_42 : BitVec 32 := 64#32
  have v86 : IVec S8x128 32 := broadcast S8x128 c64_i32_42
  have v87 : IVec S8x128 32 := addi v79 v86
  have v88 : IVec S8x128 32 := select v85 v87 v79
  have cst_43 : F .f32 := Scalar.ofBits .f32 0x5F800000#32
  have v89 : FVec F S8x128 .f32 := broadcast S8x128 cst_43
  have v90 : FVec F S8x128 .f32 := mulf v82 v89
  have v91 : FVec F S8x128 .f32 := select v85 v90 v82
  have cst_44 : F .f32 := Scalar.ofBits .f32 0x4F800000#32
  have v92 : FVec F S8x128 .f32 := broadcast S8x128 cst_44
  have v93 : FVec F S8x128 .f32 := mulf v91 v92
  have v94 : IVec S8x128 1 := cmpf .oge y v93
  have c32_i32 : BitVec 32 := 32#32
  have v95 : IVec S8x128 32 := broadcast S8x128 c32_i32
  have v96 : IVec S8x128 32 := addi v88 v95
  have v97 : IVec S8x128 32 := select v94 v96 v88
  have cst_45 : F .f32 := Scalar.ofBits .f32 0x4F800000#32
  have v98 : FVec F S8x128 .f32 := broadcast S8x128 cst_45
  have v99 : FVec F S8x128 .f32 := mulf v91 v98
  have v100 : FVec F S8x128 .f32 := select v94 v99 v91
  have cst_46 : F .f32 := Scalar.ofBits .f32 0x47800000#32
  have v101 : FVec F S8x128 .f32 := broadcast S8x128 cst_46
  have v102 : FVec F S8x128 .f32 := mulf v100 v101
  have v103 : IVec S8x128 1 := cmpf .oge y v102
  have c16_i32 : BitVec 32 := 16#32
  have v104 : IVec S8x128 32 := broadcast S8x128 c16_i32
  have v105 : IVec S8x128 32 := addi v97 v104
  have v106 : IVec S8x128 32 := select v103 v105 v97
  have cst_47 : F .f32 := Scalar.ofBits .f32 0x47800000#32
  have v107 : FVec F S8x128 .f32 := broadcast S8x128 cst_47
  have v108 : FVec F S8x128 .f32 := mulf v100 v107
  have v109 : FVec F S8x128 .f32 := select v103 v108 v100
  have cst_48 : F .f32 := Scalar.ofBits .f32 0x43800000#32
  have v110 : FVec F S8x128 .f32 := broadcast S8x128 cst_48
  have v111 : FVec F S8x128 .f32 := mulf v109 v110
  have v112 : IVec S8x128 1 := cmpf .oge y v111
  have c8_i32 : BitVec 32 := 8#32
  have v113 : IVec S8x128 32 := broadcast S8x128 c8_i32
  have v114 : IVec S8x128 32 := addi v106 v113
  have v115 : IVec S8x128 32 := select v112 v114 v106
  have cst_49 : F .f32 := Scalar.ofBits .f32 0x43800000#32
  have v116 : FVec F S8x128 .f32 := broadcast S8x128 cst_49
  have v117 : FVec F S8x128 .f32 := mulf v109 v116
  have v118 : FVec F S8x128 .f32 := select v112 v117 v109
  have cst_50 : F .f32 := Scalar.ofBits .f32 0x41800000#32
  have v119 : FVec F S8x128 .f32 := broadcast S8x128 cst_50
  have v120 : FVec F S8x128 .f32 := mulf v118 v119
  have v121 : IVec S8x128 1 := cmpf .oge y v120
  have c4_i32 : BitVec 32 := 4#32
  have v122 : IVec S8x128 32 := broadcast S8x128 c4_i32
  have v123 : IVec S8x128 32 := addi v115 v122
  have v124 : IVec S8x128 32 := select v121 v123 v115
  have cst_51 : F .f32 := Scalar.ofBits .f32 0x41800000#32
  have v125 : FVec F S8x128 .f32 := broadcast S8x128 cst_51
  have v126 : FVec F S8x128 .f32 := mulf v118 v125
  have v127 : FVec F S8x128 .f32 := select v121 v126 v118
  have cst_52 : F .f32 := Scalar.ofBits .f32 0x40800000#32
  have v128 : FVec F S8x128 .f32 := broadcast S8x128 cst_52
  have v129 : FVec F S8x128 .f32 := mulf v127 v128
  have v130 : IVec S8x128 1 := cmpf .oge y v129
  have c2_i32 : BitVec 32 := 2#32
  have v131 : IVec S8x128 32 := broadcast S8x128 c2_i32
  have v132 : IVec S8x128 32 := addi v124 v131
  have v133 : IVec S8x128 32 := select v130 v132 v124
  have cst_53 : F .f32 := Scalar.ofBits .f32 0x40800000#32
  have v134 : FVec F S8x128 .f32 := broadcast S8x128 cst_53
  have v135 : FVec F S8x128 .f32 := mulf v127 v134
  have v136 : FVec F S8x128 .f32 := select v130 v135 v127
  have cst_54 : F .f32 := Scalar.ofBits .f32 0x40000000#32
  have v137 : FVec F S8x128 .f32 := broadcast S8x128 cst_54
  have v138 : FVec F S8x128 .f32 := mulf v136 v137
  have v139 : IVec S8x128 1 := cmpf .oge y v138
  have c1_i32_55 : BitVec 32 := 1#32
  have v140 : IVec S8x128 32 := broadcast S8x128 c1_i32_55
  have v141 : IVec S8x128 32 := addi v133 v140
  have v142 : IVec S8x128 32 := select v139 v141 v133
  have c126_i32 : BitVec 32 := 126#32
  have v143 : IVec S8x128 32 := broadcast S8x128 c126_i32
  have v144 : IVec S8x128 32 := subi v142 v143
  have cst_56 : F .f32 := Scalar.ofBits .f32 0x00800000#32
  have v145 : FVec F S8x128 .f32 := broadcast S8x128 cst_56
  have v146 : IVec S8x128 1 := cmpf .olt y v145
  have c0_i32_57 : BitVec 32 := 0#32
  have v147 : IVec S8x128 32 := broadcast S8x128 c0_i32_57
  have v148 : IVec S8x128 32 := select v146 v147 v144
  v148

/-- Two to the exponent, built from its bits. -/
def scaleOf (e : IVec S8x128 32) : FVec F S8x128 .f32 :=
  have c127_i32_58 : BitVec 32 := 127#32
  have v149 : IVec S8x128 32 := broadcast S8x128 c127_i32_58
  have v150 : IVec S8x128 32 := addi e v149
  have c23_i32 : BitVec 32 := 23#32
  have v151 : IVec S8x128 32 := broadcast S8x128 c23_i32
  have v152 : IVec S8x128 32 := shli v150 v151
  have v153 : FVec F S8x128 .f32 := bitcastToFloat .f32 v152
  v153

/-- Two to the negated exponent, built from its bits. -/
def invOf (e : IVec S8x128 32) : FVec F S8x128 .f32 :=
  have c127_i32_59 : BitVec 32 := 127#32
  have v154 : IVec S8x128 32 := broadcast S8x128 c127_i32_59
  have v155 : IVec S8x128 32 := subi v154 e
  have c23_i32_60 : BitVec 32 := 23#32
  have v156 : IVec S8x128 32 := broadcast S8x128 c23_i32_60
  have v157 : IVec S8x128 32 := shli v155 v156
  have v158 : FVec F S8x128 .f32 := bitcastToFloat .f32 v157
  v158

/-- A block's codes: the block times the reciprocal scales, clipped, as fp8. -/
def codes (x : Vec F S1x1x160x128 .bf16) (inv : FVec F S1x128 .f32) : FVec F S160x128 .fp8e4m3 :=
  have v337 : FVec F S160x128 .bf16 := shapeCast S160x128 x shapeCasts_S1x1x160x128_S160x128
  have v339 : FVec F S1x128 .f32 := shapeCast S1x128 inv shapeCasts_S1x128_S1x128
  have v340 : FVec F S16x128 .f32 := broadcastTo S16x128 v339 broadcasts_S1x128_S16x128
  have v341 : FVec F S16x128 .bf16 := truncf .bf16 v340 bitsLt_bf16_f32
  have v342 : FVec F S160x128 .bf16 := concatenate S160x128 0 [⟨S16x128, v341⟩, ⟨S16x128, v341⟩, ⟨S16x128, v341⟩, ⟨S16x128, v341⟩, ⟨S16x128, v341⟩, ⟨S16x128, v341⟩, ⟨S16x128, v341⟩, ⟨S16x128, v341⟩, ⟨S16x128, v341⟩, ⟨S16x128, v341⟩] concatenates_S16x128_S16x128_S16x128_S16x128_S16x128_S16x128_S16x128_S16x128_S16x128_S16x128_S160x128_d0
  have v343 : FVec F S160x128 .bf16 := mulf v337 v342
  have cst_157 : F .f32 := Scalar.ofBits .f32 0xC3E00000#32
  have cst_158 : F .f32 := Scalar.ofBits .f32 0x43E00000#32
  have v344 : F .bf16 := Scalar.truncf .bf16 bitsLt_bf16_f32 cst_157
  have v345 : FVec F S160x128 .bf16 := broadcast S160x128 v344
  have v346 : FVec F S160x128 .bf16 := maximumf v345 v343
  have v347 : F .bf16 := Scalar.truncf .bf16 bitsLt_bf16_f32 cst_158
  have v348 : FVec F S160x128 .bf16 := broadcast S160x128 v347
  have v349 : FVec F S160x128 .bf16 := minimumf v348 v346
  have v350 : FVec F S160x128 .fp8e4m3 := truncf .fp8e4m3 v349 bitsLt_fp8e4m3_bf16
  v350

/-- The codes as the stored block. -/
def codesOut (c : FVec F S160x128 .fp8e4m3) : FVec F S1x1x160x128 .fp8e4m3 :=
  have v368 : FVec F S1x1x160x128 .fp8e4m3 := shapeCast S1x1x160x128 c shapeCasts_S160x128_S1x1x160x128
  v368

/-- The logarithm to base two of the gate. -/
def gate (f : Vec F S1x1x48x128 .bf16) : FVec F S48x128 .f32 :=
  have v375 : FVec F S48x128 .bf16 := shapeCast S48x128 f shapeCasts_S1x1x48x128_S48x128
  have v376 : FVec F S48x128 .f32 := extf .f32 v375 bitsLt_bf16_f32
  have v377 : FVec F S48x128 .f32 := absf v376
  have cst_181 : F .f32 := Named.named κ "neg_log2e" 0xBFB8AA3B#32
  have v378 : FVec F S48x128 .f32 := broadcast S48x128 cst_181
  have v379 : FVec F S48x128 .f32 := mulf v377 v378
  have v380 : FVec F S48x128 .f32 := exp2 v379
  have cst_182 : F .f32 := Scalar.ofBits .f32 0x3F800000#32
  have v381 : FVec F S48x128 .f32 := broadcast S48x128 cst_182
  have v382 : FVec F S48x128 .f32 := addf v381 v380
  have v383 : FVec F S48x128 .f32 := log v382
  have cst_183 : F .f32 := Named.named κ "log2e" 0x3FB8AA3B#32
  have v384 : FVec F S48x128 .f32 := broadcast S48x128 cst_183
  have v385 : FVec F S48x128 .f32 := mulf v383 v384
  have cst_184 : F .f32 := Scalar.ofBits .f32 0x3F800000#32
  have v386 : FVec F S48x128 .f32 := broadcast S48x128 cst_184
  have v387 : FVec F S48x128 .f32 := subf v382 v386
  have v388 : FVec F S48x128 .f32 := subf v380 v387
  have cst_185 : F .f32 := Named.named κ "log2e" 0x3FB8AA3B#32
  have v389 : FVec F S48x128 .f32 := broadcast S48x128 cst_185
  have v390 : FVec F S48x128 .f32 := mulf v388 v389
  have v391 : FVec F S48x128 .f32 := addf v385 v390
  have cst_186 : F .f32 := Scalar.ofBits .f32 0x00000000#32
  have v392 : FVec F S48x128 .f32 := broadcast S48x128 cst_186
  have v393 : FVec F S48x128 .f32 := minimumf v376 v392
  have cst_187 : F .f32 := Named.named κ "log2e" 0x3FB8AA3B#32
  have v394 : FVec F S48x128 .f32 := broadcast S48x128 cst_187
  have v395 : FVec F S48x128 .f32 := mulf v393 v394
  have v396 : FVec F S48x128 .f32 := subf v395 v391
  have cst_188 : F .f32 := Scalar.ofBits .f32 0x3E000000#32
  have v397 : FVec F S48x128 .f32 := broadcast S48x128 cst_188
  have v398 : FVec F S48x128 .f32 := mulf v396 v397
  v398

/-- The write weight of the gate. -/
def weight (la : FVec F S48x128 .f32) : FVec F S48x128 .f32 :=
  have cst_189 : F .f32 := Named.named κ "half_ln2" 0x3EB17218#32
  have v399 : FVec F S48x128 .f32 := broadcast S48x128 cst_189
  have v400 : FVec F S48x128 .f32 := mulf la v399
  have v401 : FVec F S48x128 .f32 := tanh v400
  have cst_190 : F .f32 := Scalar.ofBits .f32 0xC0000000#32
  have v402 : FVec F S48x128 .f32 := broadcast S48x128 cst_190
  have v403 : FVec F S48x128 .f32 := mulf v402 v401
  have cst_191 : F .f32 := Scalar.ofBits .f32 0x3F800000#32
  have v404 : FVec F S48x128 .f32 := broadcast S48x128 cst_191
  have v405 : FVec F S48x128 .f32 := subf v404 v401
  have v406 : FVec F S48x128 .f32 := divf v403 v405
  v406

/-- The running sums of the gates: over the pair, and relative to the middle of the chunk. -/
def sums (la : FVec F S48x128 .f32) (um : Vec F S128x256 .bf16) : FVec F S48x256 .f32 :=
  have v407 : FVec F S48x128 .bf16 := truncf .bf16 la bitsLt_bf16_f32
  have v408 : FVec F S48x128 .f32 := extf .f32 v407 bitsLt_bf16_f32
  have v409 : FVec F S48x128 .f32 := subf la v408
  have v410 : FVec F S48x128 .bf16 := truncf .bf16 v409 bitsLt_bf16_f32
  have v411 : FVec F S48x128 .f32 := extf .f32 v410 bitsLt_bf16_f32
  have v412 : FVec F S48x128 .f32 := subf v409 v411
  have v413 : FVec F S48x128 .bf16 := truncf .bf16 v412 bitsLt_bf16_f32
  have cst_194 : FVec F S48x256 .f32 := constant S48x256 .f32 0x00000000#32
  have v415 : FVec F S48x256 .f32 := matmul dot_S48x128_S128x256_S48x256_1_0_0_1_n_n none v407 um cst_194
  have cst_195 : FVec F S48x256 .f32 := constant S48x256 .f32 0x00000000#32
  have v416 : FVec F S48x256 .f32 := matmul dot_S48x128_S128x256_S48x256_1_0_0_1_n_n none v410 um cst_195
  have v417 : FVec F S48x256 .f32 := addf v415 v416
  have cst_196 : FVec F S48x256 .f32 := constant S48x256 .f32 0x00000000#32
  have v418 : FVec F S48x256 .f32 := matmul dot_S48x128_S128x256_S48x256_1_0_0_1_n_n none v413 um cst_196
  have v419 : FVec F S48x256 .f32 := addf v417 v418
  v419

/-- The running sums over the pair. -/
def preOf (g : FVec F S48x256 .f32) : FVec F S48x128 .f32 :=
  have v420 : FVec F S48x128 .f32 := extractStridedSlice S48x128 ![0, 0] g slices_S48x256_o0_0_S48x128
  v420

/-- The running sums relative to the middle of the chunk. -/
def devOf (g : FVec F S48x256 .f32) : FVec F S48x128 .f32 :=
  have v421 : FVec F S48x128 .f32 := extractStridedSlice S48x128 ![0, 128] g slices_S48x256_o0_128_S48x128
  v421

/-- The decay from the pair's start. -/
def peOf (pre : FVec F S48x128 .f32) : FVec F S48x128 .f32 :=
  have v422 : FVec F S48x128 .f32 := exp2 pre
  v422

/-- The decay from the middle of the chunk. -/
def qfOf (dev : FVec F S48x128 .f32) : FVec F S48x128 .f32 :=
  have v423 : FVec F S48x128 .f32 := exp2 dev
  v423

/-- The weight grown back to the middle of the chunk. -/
def kfOf (dev : FVec F S48x128 .f32) (w : FVec F S48x128 .f32) : FVec F S48x128 .f32 :=
  have cst_197 : F .f32 := Scalar.ofBits .f32 0x00000000#32
  have v424 : FVec F S48x128 .f32 := broadcast S48x128 cst_197
  have v425 : FVec F S48x128 .f32 := subf v424 dev
  have v426 : FVec F S48x128 .f32 := exp2 v425
  have v427 : FVec F S48x128 .f32 := mulf v426 w
  v427

/-- The weight decayed to the middle of the second chunk. -/
def wxOf (pre : FVec F S48x128 .f32) (w : FVec F S48x128 .f32) : FVec F S48x128 .f32 :=
  have v428 : FVec F S48x1 .f32 := extractStridedSlice S48x1 ![0, 96] pre slices_S48x128_o0_96_S48x1
  have v429 : FVec F S48x128 .f32 := broadcastTo S48x128 v428 broadcasts_S48x1_S48x128
  have v430 : FVec F S48x128 .f32 := subf v429 pre
  have cst_198 : F .f32 := Scalar.ofBits .f32 0x00000000#32
  have v431 : FVec F S48x128 .f32 := broadcast S48x128 cst_198
  have v432 : FVec F S48x128 .f32 := minimumf v430 v431
  have v433 : FVec F S48x128 .f32 := exp2 v432
  have v434 : FVec F S48x128 .f32 := mulf v433 w
  v434

/-- The weight decayed to the end of the pair. -/
def weOf (pre : FVec F S48x128 .f32) (w : FVec F S48x128 .f32) : FVec F S48x128 .f32 :=
  have v435 : FVec F S48x1 .f32 := extractStridedSlice S48x1 ![0, 127] pre slices_S48x128_o0_127_S48x1
  have v436 : FVec F S48x128 .f32 := broadcastTo S48x128 v435 broadcasts_S48x1_S48x128
  have v437 : FVec F S48x128 .f32 := subf v436 pre
  have v438 : FVec F S48x128 .f32 := exp2 v437
  have v439 : FVec F S48x128 .f32 := mulf v438 w
  v439

/-- The decay over the whole pair. -/
def decayOf (pre : FVec F S48x128 .f32) : FVec F S48x1 .f32 :=
  have v440 : FVec F S48x1 .f32 := extractStridedSlice S48x1 ![0, 127] pre slices_S48x128_o0_127_S48x1
  have v441 : FVec F S48x1 .f32 := exp2 v440
  v441

/-- The two weights side by side, first part of the splitting. -/
def join3 (kf : FVec F S48x128 .f32) (wx : FVec F S48x128 .f32) : FVec F S48x192 .bf16 :=
  have v442 : FVec F S48x128 .bf16 := truncf .bf16 kf bitsLt_bf16_f32
  have v449 : FVec F S48x128 .bf16 := truncf .bf16 wx bitsLt_bf16_f32
  have v456 : FVec F S48x64 .bf16 := extractStridedSlice S48x64 ![0, 0] v449 slices_S48x128_o0_0_S48x64
  have v457 : FVec F S48x192 .bf16 := concatenate S48x192 1 [⟨S48x128, v442⟩, ⟨S48x64, v456⟩] concatenates_S48x128_S48x64_S48x192_d1
  v457

/-- The two weights side by side, second part of the splitting. -/
def join3b (kf : FVec F S48x128 .f32) (wx : FVec F S48x128 .f32) : FVec F S48x192 .bf16 :=
  have v442 : FVec F S48x128 .bf16 := truncf .bf16 kf bitsLt_bf16_f32
  have v443 : FVec F S48x128 .f32 := extf .f32 v442 bitsLt_bf16_f32
  have v444 : FVec F S48x128 .f32 := subf kf v443
  have v445 : FVec F S48x128 .bf16 := truncf .bf16 v444 bitsLt_bf16_f32
  have v449 : FVec F S48x128 .bf16 := truncf .bf16 wx bitsLt_bf16_f32
  have v450 : FVec F S48x128 .f32 := extf .f32 v449 bitsLt_bf16_f32
  have v451 : FVec F S48x128 .f32 := subf wx v450
  have v452 : FVec F S48x128 .bf16 := truncf .bf16 v451 bitsLt_bf16_f32
  have v458 : FVec F S48x64 .bf16 := extractStridedSlice S48x64 ![0, 0] v452 slices_S48x128_o0_0_S48x64
  have v459 : FVec F S48x192 .bf16 := concatenate S48x192 1 [⟨S48x128, v445⟩, ⟨S48x64, v458⟩] concatenates_S48x128_S48x64_S48x192_d1
  v459

/-- The two weights side by side, third part of the splitting. -/
def join3c (kf : FVec F S48x128 .f32) (wx : FVec F S48x128 .f32) : FVec F S48x192 .bf16 :=
  have v442 : FVec F S48x128 .bf16 := truncf .bf16 kf bitsLt_bf16_f32
  have v443 : FVec F S48x128 .f32 := extf .f32 v442 bitsLt_bf16_f32
  have v444 : FVec F S48x128 .f32 := subf kf v443
  have v445 : FVec F S48x128 .bf16 := truncf .bf16 v444 bitsLt_bf16_f32
  have v446 : FVec F S48x128 .f32 := extf .f32 v445 bitsLt_bf16_f32
  have v447 : FVec F S48x128 .f32 := subf v444 v446
  have v448 : FVec F S48x128 .bf16 := truncf .bf16 v447 bitsLt_bf16_f32
  have v449 : FVec F S48x128 .bf16 := truncf .bf16 wx bitsLt_bf16_f32
  have v450 : FVec F S48x128 .f32 := extf .f32 v449 bitsLt_bf16_f32
  have v451 : FVec F S48x128 .f32 := subf wx v450
  have v452 : FVec F S48x128 .bf16 := truncf .bf16 v451 bitsLt_bf16_f32
  have v453 : FVec F S48x128 .f32 := extf .f32 v452 bitsLt_bf16_f32
  have v454 : FVec F S48x128 .f32 := subf v451 v453
  have v455 : FVec F S48x128 .bf16 := truncf .bf16 v454 bitsLt_bf16_f32
  have v460 : FVec F S48x64 .bf16 := extractStridedSlice S48x64 ![0, 0] v455 slices_S48x128_o0_0_S48x64
  have v461 : FVec F S48x192 .bf16 := concatenate S48x192 1 [⟨S48x128, v448⟩, ⟨S48x64, v460⟩] concatenates_S48x128_S48x64_S48x192_d1
  v461

/-- The products of key codes and query codes, times the keys' scales. -/
def scoresOf (kc : FVec F S160x128 .fp8e4m3) (qc : FVec F S160x128 .fp8e4m3) (ksrow : FVec F S1x128 .f32) : FVec F S128x128 .f32 :=
  have v462 : FVec F S160x128 .bf16 := extf .bf16 kc bitsLt_fp8e4m3_bf16
  have v463 : FVec F S128x160 .bf16 := transpose S128x160 [1, 0] v462 transposes_S160x128_p1_0_S128x160
  have v464 : FVec F S128x160 .fp8e4m3 := truncf .fp8e4m3 v463 bitsLt_fp8e4m3_bf16
  have cst_199 : FVec F S128x128 .f32 := constant S128x128 .f32 0x00000000#32
  have v465 : FVec F S128x128 .f32 := matmul dot_S128x160_S160x128_S128x128_1_0_0_1_n_n none v464 qc cst_199
  have v466 : FVec F S1x1 .f32 := extractStridedSlice S1x1 ![0, 0] ksrow slices_S1x128_o0_0_S1x1
  have v467 : FVec F S1x1 .f32 := shapeCast S1x1 v466 shapeCasts_S1x1_S1x1
  have v468 : FVec F S64x128 .f32 := broadcastTo S64x128 v467 broadcasts_S1x1_S64x128
  have v469 : FVec F S1x1 .f32 := extractStridedSlice S1x1 ![0, 64] ksrow slices_S1x128_o0_64_S1x1
  have v470 : FVec F S1x1 .f32 := shapeCast S1x1 v469 shapeCasts_S1x1_S1x1
  have v471 : FVec F S64x128 .f32 := broadcastTo S64x128 v470 broadcasts_S1x1_S64x128
  have v472 : FVec F S128x128 .f32 := concatenate S128x128 0 [⟨S64x128, v468⟩, ⟨S64x128, v471⟩] concatenates_S64x128_S64x128_S128x128_d0
  have v473 : FVec F S128x128 .f32 := mulf v465 v472
  v473

/-- The scores within a chunk, and below them the scores of the first chunk's keys with the second chunk's queries. -/
def maskedOf (at_ : FVec F S128x128 .f32) : FVec F S192x128 .f32 :=
  have v319 : IVec S128x128 32 := iota .tc S128x128 32 [0] iota_S128x128_d0_w32
  have v320 : IVec S128x128 32 := iota .tc S128x128 32 [1] iota_S128x128_d1_w32
  have v321 : IVec S128x128 1 := cmpi .sle v319 v320
  have c64_i32_147 : BitVec 32 := 64#32
  have v322 : IVec S128x128 32 := broadcast S128x128 c64_i32_147
  have v323 : IVec S128x128 1 := cmpi .slt v319 v322
  have c64_i32_148 : BitVec 32 := 64#32
  have v324 : IVec S128x128 32 := broadcast S128x128 c64_i32_148
  have v325 : IVec S128x128 1 := cmpi .slt v320 v324
  have v326 : IVec S128x128 1 := xori v323 v325
  have cst_149 : IVec S128x128 1 := constantI S128x128 1 1#1
  have v327 : IVec S128x128 1 := xori v326 cst_149
  have v328 : IVec S128x128 1 := andi v321 v327
  have v329 : IVec S64x128 32 := iota .tc S64x128 32 [1] iota_S64x128_d1_w32
  have c64_i32_150 : BitVec 32 := 64#32
  have v330 : IVec S64x128 32 := broadcast S64x128 c64_i32_150
  have v331 : IVec S64x128 1 := cmpi .sge v329 v330
  have cst_200 : F .f32 := Scalar.ofBits .f32 0x00000000#32
  have v474 : FVec F S128x128 .f32 := broadcast S128x128 cst_200
  have v475 : FVec F S128x128 .f32 := select v328 at_ v474
  have v476 : FVec F S64x128 .f32 := extractStridedSlice S64x128 ![0, 0] at_ slices_S128x128_o0_0_S64x128
  have cst_201 : F .f32 := Scalar.ofBits .f32 0x00000000#32
  have v477 : FVec F S64x128 .f32 := broadcast S64x128 cst_201
  have v478 : FVec F S64x128 .f32 := select v331 v476 v477
  have v479 : FVec F S192x128 .f32 := concatenate S192x128 0 [⟨S128x128, v475⟩, ⟨S64x128, v478⟩] concatenates_S128x128_S64x128_S192x128_d0
  v479

/-- The slots' scores from the tokens of the pair. -/
def ziOf (l0 : FVec F S48x192 .bf16) (l1 : FVec F S48x192 .bf16) (l2 : FVec F S48x192 .bf16) (r : FVec F S192x128 .f32) : FVec F S48x128 .f32 :=
  have v480 : FVec F S192x128 .bf16 := truncf .bf16 r bitsLt_bf16_f32
  have v481 : FVec F S192x128 .f32 := extf .f32 v480 bitsLt_bf16_f32
  have v482 : FVec F S192x128 .f32 := subf r v481
  have v483 : FVec F S192x128 .bf16 := truncf .bf16 v482 bitsLt_bf16_f32
  have v484 : FVec F S192x128 .f32 := extf .f32 v483 bitsLt_bf16_f32
  have v485 : FVec F S192x128 .f32 := subf v482 v484
  have v486 : FVec F S192x128 .bf16 := truncf .bf16 v485 bitsLt_bf16_f32
  have v487 : FVec F S144x192 .bf16 := concatenate S144x192 0 [⟨S48x192, l0⟩, ⟨S48x192, l1⟩, ⟨S48x192, l2⟩] concatenates_S48x192_S48x192_S48x192_S144x192_d0
  have v488 : FVec F S192x256 .bf16 := concatenate S192x256 1 [⟨S192x128, v480⟩, ⟨S192x128, v483⟩] concatenates_S192x128_S192x128_S192x256_d1
  have cst_202 : FVec F S144x256 .f32 := constant S144x256 .f32 0x00000000#32
  have v489 : FVec F S144x256 .f32 := matmul dot_S144x192_S192x256_S144x256_1_0_0_1_n_n none v487 v488 cst_202
  have v490 : FVec F S48x128 .f32 := extractStridedSlice S48x128 ![0, 0] v489 slices_S144x256_o0_0_S48x128
  have v491 : FVec F S48x128 .f32 := extractStridedSlice S48x128 ![0, 128] v489 slices_S144x256_o0_128_S48x128
  have v492 : FVec F S48x128 .f32 := extractStridedSlice S48x128 ![48, 0] v489 slices_S144x256_o48_0_S48x128
  have v493 : FVec F S48x128 .f32 := addf v491 v492
  have v494 : FVec F S48x128 .f32 := addf v490 v493
  have v495 : FVec F S48x128 .f32 := extractStridedSlice S48x128 ![48, 128] v489 slices_S144x256_o48_128_S48x128
  have v496 : FVec F S48x128 .f32 := extractStridedSlice S48x128 ![96, 0] v489 slices_S144x256_o96_0_S48x128
  have v497 : FVec F S48x128 .f32 := addf v495 v496
  have cst_203 : FVec F S48x128 .f32 := constant S48x128 .f32 0x00000000#32
  have v498 : FVec F S48x128 .f32 := matmul dot_S48x192_S192x128_S48x128_1_0_0_1_n_n none l0 v486 cst_203
  have v499 : FVec F S48x128 .f32 := addf v497 v498
  have v500 : FVec F S48x128 .f32 := addf v494 v499
  v500

/-- The slots' scores from the state. -/
def zsOf (ks : FVec F S48x160 .f32) (qc : FVec F S160x128 .fp8e4m3) : FVec F S48x128 .f32 :=
  have v501 : FVec F S48x160 .bf16 := truncf .bf16 ks bitsLt_bf16_f32
  have v502 : FVec F S48x160 .f32 := extf .f32 v501 bitsLt_bf16_f32
  have v503 : FVec F S48x160 .f32 := subf ks v502
  have v504 : FVec F S48x160 .bf16 := truncf .bf16 v503 bitsLt_bf16_f32
  have v505 : FVec F S48x160 .f32 := extf .f32 v504 bitsLt_bf16_f32
  have v506 : FVec F S48x160 .f32 := subf v503 v505
  have v507 : FVec F S48x160 .bf16 := truncf .bf16 v506 bitsLt_bf16_f32
  have v508 : FVec F S144x160 .bf16 := concatenate S144x160 0 [⟨S48x160, v501⟩, ⟨S48x160, v504⟩, ⟨S48x160, v507⟩] concatenates_S48x160_S48x160_S48x160_S144x160_d0
  have v509 : FVec F S160x128 .bf16 := extf .bf16 qc bitsLt_fp8e4m3_bf16
  have cst_204 : FVec F S144x128 .f32 := constant S144x128 .f32 0x00000000#32
  have v510 : FVec F S144x128 .f32 := matmul dot_S144x160_S160x128_S144x128_1_0_0_1_n_n none v508 v509 cst_204
  have v511 : FVec F S48x128 .f32 := extractStridedSlice S48x128 ![0, 0] v510 slices_S144x128_o0_0_S48x128
  have v512 : FVec F S48x128 .f32 := extractStridedSlice S48x128 ![48, 0] v510 slices_S144x128_o48_0_S48x128
  have v513 : FVec F S48x128 .f32 := addf v511 v512
  have v514 : FVec F S48x128 .f32 := extractStridedSlice S48x128 ![96, 0] v510 slices_S144x128_o96_0_S48x128
  have v515 : FVec F S48x128 .f32 := addf v513 v514
  v515

/-- The slots' scores. -/
def zOf (qf : FVec F S48x128 .f32) (zi : FVec F S48x128 .f32) (pe : FVec F S48x128 .f32) (zs : FVec F S48x128 .f32) (qsrow : FVec F S1x128 .f32) : FVec F S48x128 .f32 :=
  have v516 : FVec F S48x128 .f32 := mulf qf zi
  have v517 : FVec F S48x128 .f32 := mulf pe zs
  have v518 : FVec F S48x128 .f32 := addf v516 v517
  have cst_205 : F .f32 := Named.named κ "score" 0x3DE995B3#32
  have v519 : FVec F S1x128 .f32 := broadcast S1x128 cst_205
  have v520 : FVec F S1x128 .f32 := mulf qsrow v519
  have v521 : FVec F S48x128 .f32 := broadcastTo S48x128 v520 broadcasts_S1x128_S48x128
  have v522 : FVec F S48x128 .f32 := mulf v518 v521
  v522

/-- The softmax over the slots. -/
def pOf (z : FVec F S48x128 .f32) : FVec F S48x128 .f32 :=
  have v523 : FVec F S128 .f32 := multiReduction .maximumf [0] S128 z 0xFF800000#32 reduces_S48x128_S128 (.inl rfl) rfl
  have v524 : FVec F S1x128 .f32 := shapeCast S1x128 v523 shapeCasts_S128_S1x128
  have v525 : FVec F S48x128 .f32 := broadcastTo S48x128 v524 broadcasts_S1x128_S48x128
  have v526 : FVec F S48x128 .f32 := subf z v525
  have v527 : FVec F S48x128 .f32 := exp2 v526
  have v528 : FVec F S128 .f32 := multiReduction .add [0] S128 v527 0x00000000#32 reduces_S48x128_S128 (.inl rfl) rfl
  have v529 : FVec F S1x128 .f32 := shapeCast S1x128 v528 shapeCasts_S128_S1x128
  have v530 : FVec F S48x128 .f32 := broadcastTo S48x128 v529 broadcasts_S1x128_S48x128
  have v531 : FVec F S48x128 .f32 := divf v527 v530
  v531

/-- The products behind the tokens' mixing weights. -/
def mixRaw (l0 : FVec F S48x192 .bf16) (l1 : FVec F S48x192 .bf16) (l2 : FVec F S48x192 .bf16) (p : FVec F S48x128 .f32) (qf : FVec F S48x128 .f32) : FVec F S192x128 .f32 :=
  have v532 : FVec F S48x128 .f32 := mulf p qf
  have v533 : FVec F S48x128 .bf16 := truncf .bf16 v532 bitsLt_bf16_f32
  have v534 : FVec F S48x128 .f32 := extf .f32 v533 bitsLt_bf16_f32
  have v535 : FVec F S48x128 .f32 := subf v532 v534
  have v536 : FVec F S48x128 .bf16 := truncf .bf16 v535 bitsLt_bf16_f32
  have v537 : FVec F S48x128 .f32 := extf .f32 v536 bitsLt_bf16_f32
  have v538 : FVec F S48x128 .f32 := subf v535 v537
  have v539 : FVec F S48x128 .bf16 := truncf .bf16 v538 bitsLt_bf16_f32
  have v540 : FVec F S240x192 .bf16 := concatenate S240x192 0 [⟨S48x192, l0⟩, ⟨S48x192, l0⟩, ⟨S48x192, l1⟩, ⟨S48x192, l1⟩, ⟨S48x192, l2⟩] concatenates_S48x192_S48x192_S48x192_S48x192_S48x192_S240x192_d0
  have v541 : FVec F S192x240 .bf16 := transpose S192x240 [1, 0] v540 transposes_S240x192_p1_0_S192x240
  have v542 : FVec F S240x128 .bf16 := concatenate S240x128 0 [⟨S48x128, v533⟩, ⟨S48x128, v536⟩, ⟨S48x128, v533⟩, ⟨S48x128, v536⟩, ⟨S48x128, v533⟩] concatenates_S48x128_S48x128_S48x128_S48x128_S48x128_S240x128_d0
  have cst_208 : F .bf16 := Scalar.ofBits .bf16 0x0000#16
  have v543 : FVec F S192x128 .bf16 := broadcast S192x128 cst_208
  have v544 : FVec F S240x128 .bf16 := concatenate S240x128 0 [⟨S48x128, v539⟩, ⟨S192x128, v543⟩] concatenates_S48x128_S192x128_S240x128_d0
  have v545 : FVec F S240x256 .bf16 := concatenate S240x256 1 [⟨S240x128, v542⟩, ⟨S240x128, v544⟩] concatenates_S240x128_S240x128_S240x256_d1
  have cst_209 : FVec F S192x256 .f32 := constant S192x256 .f32 0x00000000#32
  have v546 : FVec F S192x256 .f32 := matmul dot_S192x240_S240x256_S192x256_1_0_0_1_n_n none v541 v545 cst_209
  have v547 : FVec F S192x128 .f32 := extractStridedSlice S192x128 ![0, 0] v546 slices_S192x256_o0_0_S192x128
  have v548 : FVec F S192x128 .f32 := extractStridedSlice S192x128 ![0, 128] v546 slices_S192x256_o0_128_S192x128
  have v549 : FVec F S192x128 .f32 := addf v547 v548
  v549

/-- The tokens' mixing weights. -/
def mixOf (mm : FVec F S192x128 .f32) : FVec F S128x128 .f32 :=
  have v319 : IVec S128x128 32 := iota .tc S128x128 32 [0] iota_S128x128_d0_w32
  have v320 : IVec S128x128 32 := iota .tc S128x128 32 [1] iota_S128x128_d1_w32
  have v321 : IVec S128x128 1 := cmpi .sle v319 v320
  have c64_i32_147 : BitVec 32 := 64#32
  have v322 : IVec S128x128 32 := broadcast S128x128 c64_i32_147
  have v323 : IVec S128x128 1 := cmpi .slt v319 v322
  have c64_i32_148 : BitVec 32 := 64#32
  have v324 : IVec S128x128 32 := broadcast S128x128 c64_i32_148
  have v325 : IVec S128x128 1 := cmpi .slt v320 v324
  have v326 : IVec S128x128 1 := xori v323 v325
  have cst_149 : IVec S128x128 1 := constantI S128x128 1 1#1
  have v327 : IVec S128x128 1 := xori v326 cst_149
  have v328 : IVec S128x128 1 := andi v321 v327
  have v329 : IVec S64x128 32 := iota .tc S64x128 32 [1] iota_S64x128_d1_w32
  have c64_i32_150 : BitVec 32 := 64#32
  have v330 : IVec S64x128 32 := broadcast S64x128 c64_i32_150
  have v331 : IVec S64x128 1 := cmpi .sge v329 v330
  have v550 : FVec F S128x128 .f32 := extractStridedSlice S128x128 ![0, 0] mm slices_S192x128_o0_0_S128x128
  have cst_210 : F .f32 := Scalar.ofBits .f32 0x00000000#32
  have v551 : FVec F S128x128 .f32 := broadcast S128x128 cst_210
  have v552 : FVec F S128x128 .f32 := select v328 v550 v551
  have v553 : FVec F S64x128 .f32 := extractStridedSlice S64x128 ![128, 0] mm slices_S192x128_o128_0_S64x128
  have v554 : FVec F S64x128 .f32 := extractStridedSlice S64x128 ![0, 0] v552 slices_S128x128_o0_0_S64x128
  have v555 : FVec F S64x128 .f32 := select v331 v553 v554
  have v556 : FVec F S64x128 .f32 := extractStridedSlice S64x128 ![64, 0] v552 slices_S128x128_o64_0_S64x128
  have v557 : FVec F S128x128 .f32 := concatenate S128x128 0 [⟨S64x128, v555⟩, ⟨S64x128, v556⟩] concatenates_S64x128_S64x128_S128x128_d0
  v557

/-- The output. -/
def outOf (mix : FVec F S128x128 .f32) (v : Vec F S1x1x160x128 .bf16) (p : FVec F S48x128 .f32) (pe : FVec F S48x128 .f32) (vs : FVec F S48x160 .f32) : FVec F S160x128 .f32 :=
  have v373 : FVec F S160x128 .bf16 := shapeCast S160x128 v shapeCasts_S1x1x160x128_S160x128
  have v558 : FVec F S128x128 .bf16 := truncf .bf16 mix bitsLt_bf16_f32
  have v559 : FVec F S128x128 .f32 := extf .f32 v558 bitsLt_bf16_f32
  have v560 : FVec F S128x128 .f32 := subf mix v559
  have v561 : FVec F S128x128 .bf16 := truncf .bf16 v560 bitsLt_bf16_f32
  have v562 : FVec F S128x128 .f32 := extf .f32 v561 bitsLt_bf16_f32
  have v563 : FVec F S128x128 .f32 := subf v560 v562
  have v564 : FVec F S128x128 .bf16 := truncf .bf16 v563 bitsLt_bf16_f32
  have v565 : FVec F S48x128 .f32 := mulf p pe
  have v566 : FVec F S48x128 .bf16 := truncf .bf16 v565 bitsLt_bf16_f32
  have v567 : FVec F S48x128 .f32 := extf .f32 v566 bitsLt_bf16_f32
  have v568 : FVec F S48x128 .f32 := subf v565 v567
  have v569 : FVec F S48x128 .bf16 := truncf .bf16 v568 bitsLt_bf16_f32
  have v570 : FVec F S48x128 .f32 := extf .f32 v569 bitsLt_bf16_f32
  have v571 : FVec F S48x128 .f32 := subf v568 v570
  have v572 : FVec F S48x128 .bf16 := truncf .bf16 v571 bitsLt_bf16_f32
  have v573 : FVec F S48x160 .bf16 := truncf .bf16 vs bitsLt_bf16_f32
  have v574 : FVec F S48x160 .f32 := extf .f32 v573 bitsLt_bf16_f32
  have v575 : FVec F S48x160 .f32 := subf vs v574
  have v576 : FVec F S48x160 .bf16 := truncf .bf16 v575 bitsLt_bf16_f32
  have v577 : FVec F S48x160 .f32 := extf .f32 v576 bitsLt_bf16_f32
  have v578 : FVec F S48x160 .f32 := subf v575 v577
  have v579 : FVec F S48x160 .bf16 := truncf .bf16 v578 bitsLt_bf16_f32
  have v580 : FVec F S96x160 .bf16 := concatenate S96x160 0 [⟨S48x160, v573⟩, ⟨S48x160, v576⟩] concatenates_S48x160_S48x160_S96x160_d0
  have v581 : FVec F S160x96 .bf16 := transpose S160x96 [1, 0] v580 transposes_S96x160_p1_0_S160x96
  have v582 : FVec F S96x160 .bf16 := concatenate S96x160 0 [⟨S48x160, v573⟩, ⟨S48x160, v579⟩] concatenates_S48x160_S48x160_S96x160_d0
  have v583 : FVec F S160x96 .bf16 := transpose S160x96 [1, 0] v582 transposes_S96x160_p1_0_S160x96
  have v584 : FVec F S160x224 .bf16 := concatenate S160x224 1 [⟨S160x128, v373⟩, ⟨S160x96, v581⟩] concatenates_S160x128_S160x96_S160x224_d1
  have v585 : FVec F S224x128 .bf16 := concatenate S224x128 0 [⟨S128x128, v558⟩, ⟨S48x128, v566⟩, ⟨S48x128, v566⟩] concatenates_S128x128_S48x128_S48x128_S224x128_d0
  have v586 : FVec F S224x128 .bf16 := concatenate S224x128 0 [⟨S128x128, v561⟩, ⟨S48x128, v569⟩, ⟨S48x128, v569⟩] concatenates_S128x128_S48x128_S48x128_S224x128_d0
  have v587 : FVec F S224x256 .bf16 := concatenate S224x256 1 [⟨S224x128, v585⟩, ⟨S224x128, v586⟩] concatenates_S224x128_S224x128_S224x256_d1
  have cst_211 : FVec F S160x256 .f32 := constant S160x256 .f32 0x00000000#32
  have v588 : FVec F S160x256 .f32 := matmul dot_S160x224_S224x256_S160x256_1_0_0_1_n_n none v584 v587 cst_211
  have v589 : FVec F S160x224 .bf16 := concatenate S160x224 1 [⟨S160x128, v373⟩, ⟨S160x96, v583⟩] concatenates_S160x128_S160x96_S160x224_d1
  have v590 : FVec F S224x128 .bf16 := concatenate S224x128 0 [⟨S128x128, v564⟩, ⟨S48x128, v572⟩, ⟨S48x128, v566⟩] concatenates_S128x128_S48x128_S48x128_S224x128_d0
  have cst_212 : FVec F S160x128 .f32 := constant S160x128 .f32 0x00000000#32
  have v591 : FVec F S160x128 .f32 := matmul dot_S160x224_S224x128_S160x128_1_0_0_1_n_n none v589 v590 cst_212
  have v592 : FVec F S160x128 .f32 := extractStridedSlice S160x128 ![0, 0] v588 slices_S160x256_o0_0_S160x128
  have v593 : FVec F S160x128 .f32 := extractStridedSlice S160x128 ![0, 128] v588 slices_S160x256_o0_128_S160x128
  have v594 : FVec F S160x128 .f32 := addf v593 v591
  have v595 : FVec F S160x128 .f32 := addf v592 v594
  v595

/-- The output as the stored block. -/
def outStore (o : FVec F S160x128 .f32) : FVec F S1x1x160x128 .bf16 :=
  have v596 : FVec F S160x128 .bf16 := truncf .bf16 o bitsLt_bf16_f32
  have v599 : FVec F S1x1x160x128 .bf16 := shapeCast S1x1x160x128 v596 shapeCasts_S160x128_S1x1x160x128
  v599

/-- The key slots after the pair. -/
def ksNext (we : FVec F S48x128 .f32) (ksrow : FVec F S1x128 .f32) (kc : FVec F S160x128 .fp8e4m3) (dec : FVec F S48x1 .f32) (ks : FVec F S48x160 .f32) : FVec F S48x160 .f32 :=
  have v600 : FVec F S48x128 .bf16 := truncf .bf16 we bitsLt_bf16_f32
  have v601 : FVec F S48x128 .f32 := extf .f32 v600 bitsLt_bf16_f32
  have v602 : FVec F S48x128 .f32 := subf we v601
  have v603 : FVec F S48x128 .bf16 := truncf .bf16 v602 bitsLt_bf16_f32
  have v604 : FVec F S48x128 .f32 := extf .f32 v603 bitsLt_bf16_f32
  have v605 : FVec F S48x128 .f32 := subf v602 v604
  have v606 : FVec F S48x128 .bf16 := truncf .bf16 v605 bitsLt_bf16_f32
  have v607 : FVec F S144x128 .bf16 := concatenate S144x128 0 [⟨S48x128, v600⟩, ⟨S48x128, v603⟩, ⟨S48x128, v606⟩] concatenates_S48x128_S48x128_S48x128_S144x128_d0
  have v608 : FVec F S1x128 .bf16 := truncf .bf16 ksrow bitsLt_bf16_f32
  have v609 : FVec F S144x128 .bf16 := broadcastTo S144x128 v608 broadcasts_S1x128_S144x128
  have v610 : FVec F S144x128 .bf16 := mulf v607 v609
  have v611 : FVec F S160x128 .bf16 := extf .bf16 kc bitsLt_fp8e4m3_bf16
  have cst_217 : FVec F S144x160 .f32 := constant S144x160 .f32 0x00000000#32
  have v612 : FVec F S144x160 .f32 := matmul dot_S144x128_S160x128_S144x160_1_1_0_0_n_n none v610 v611 cst_217
  have v614 : FVec F S48x160 .f32 := broadcastTo S48x160 dec broadcasts_S48x1_S48x160
  have v615 : FVec F S48x160 .f32 := mulf v614 ks
  have v616 : FVec F S48x160 .f32 := extractStridedSlice S48x160 ![0, 0] v612 slices_S144x160_o0_0_S48x160
  have v617 : FVec F S48x160 .f32 := extractStridedSlice S48x160 ![48, 0] v612 slices_S144x160_o48_0_S48x160
  have v618 : FVec F S48x160 .f32 := extractStridedSlice S48x160 ![96, 0] v612 slices_S144x160_o96_0_S48x160
  have v619 : FVec F S48x160 .f32 := addf v617 v618
  have v620 : FVec F S48x160 .f32 := addf v616 v619
  have v621 : FVec F S48x160 .f32 := addf v615 v620
  v621

/-- The value slots after the pair. -/
def vsNext (we : FVec F S48x128 .f32) (v : Vec F S1x1x160x128 .bf16) (dec : FVec F S48x1 .f32) (vs : FVec F S48x160 .f32) : FVec F S48x160 .f32 :=
  have v373 : FVec F S160x128 .bf16 := shapeCast S160x128 v shapeCasts_S1x1x160x128_S160x128
  have v600 : FVec F S48x128 .bf16 := truncf .bf16 we bitsLt_bf16_f32
  have v601 : FVec F S48x128 .f32 := extf .f32 v600 bitsLt_bf16_f32
  have v602 : FVec F S48x128 .f32 := subf we v601
  have v603 : FVec F S48x128 .bf16 := truncf .bf16 v602 bitsLt_bf16_f32
  have v604 : FVec F S48x128 .f32 := extf .f32 v603 bitsLt_bf16_f32
  have v605 : FVec F S48x128 .f32 := subf v602 v604
  have v606 : FVec F S48x128 .bf16 := truncf .bf16 v605 bitsLt_bf16_f32
  have v607 : FVec F S144x128 .bf16 := concatenate S144x128 0 [⟨S48x128, v600⟩, ⟨S48x128, v603⟩, ⟨S48x128, v606⟩] concatenates_S48x128_S48x128_S48x128_S144x128_d0
  have cst_218 : FVec F S144x160 .f32 := constant S144x160 .f32 0x00000000#32
  have v613 : FVec F S144x160 .f32 := matmul dot_S144x128_S160x128_S144x160_1_1_0_0_n_n none v607 v373 cst_218
  have v622 : FVec F S48x160 .f32 := broadcastTo S48x160 dec broadcasts_S48x1_S48x160
  have v623 : FVec F S48x160 .f32 := mulf v622 vs
  have v624 : FVec F S48x160 .f32 := extractStridedSlice S48x160 ![0, 0] v613 slices_S144x160_o0_0_S48x160
  have v625 : FVec F S48x160 .f32 := extractStridedSlice S48x160 ![48, 0] v613 slices_S144x160_o48_0_S48x160
  have v626 : FVec F S48x160 .f32 := extractStridedSlice S48x160 ![96, 0] v613 slices_S144x160_o96_0_S48x160
  have v627 : FVec F S48x160 .f32 := addf v625 v626
  have v628 : FVec F S48x160 .f32 := addf v624 v627
  have v629 : FVec F S48x160 .f32 := addf v623 v628
  v629

/-- Row 0 of the scales. -/
def row0 (s : FVec F S8x128 .f32) : FVec F S1x128 .f32 := extractStridedSlice S1x128 ![0, 0] s slices_S8x128_o0_0_S1x128
/-- Row 1 of the scales. -/
def row1 (s : FVec F S8x128 .f32) : FVec F S1x128 .f32 := extractStridedSlice S1x128 ![1, 0] s slices_S8x128_o1_0_S1x128
/-- Row 2 of the scales. -/
def row2 (s : FVec F S8x128 .f32) : FVec F S1x128 .f32 := extractStridedSlice S1x128 ![2, 0] s slices_S8x128_o2_0_S1x128
/-- Row 3 of the scales. -/
def row3 (s : FVec F S8x128 .f32) : FVec F S1x128 .f32 := extractStridedSlice S1x128 ![3, 0] s slices_S8x128_o3_0_S1x128
/-- Row 4 of the scales. -/
def row4 (s : FVec F S8x128 .f32) : FVec F S1x128 .f32 := extractStridedSlice S1x128 ![4, 0] s slices_S8x128_o4_0_S1x128
/-- Row 5 of the scales. -/
def row5 (s : FVec F S8x128 .f32) : FVec F S1x128 .f32 := extractStridedSlice S1x128 ![5, 0] s slices_S8x128_o5_0_S1x128
/-- Row 6 of the scales. -/
def row6 (s : FVec F S8x128 .f32) : FVec F S1x128 .f32 := extractStridedSlice S1x128 ![6, 0] s slices_S8x128_o6_0_S1x128
/-- Row 7 of the scales. -/
def row7 (s : FVec F S8x128 .f32) : FVec F S1x128 .f32 := extractStridedSlice S1x128 ![7, 0] s slices_S8x128_o7_0_S1x128
end Cert.KernelIdeal.Stage
end
-- ==== Proof.Chain.lean ====
module

public import proofs.«01_k».proof.Proof.Stages
public import Idealize.ShloMosaic.Lib.Pointwise
public import Idealize.ShloMosaic.Lib.Pipeline.ValueKit
public import Idealize.ShloMosaic.Lib.Pipeline.ReadBack

/-! The stages composed: the scales of a block of 1024 tokens, and the eight pairs of chunks one after the other, the
two states carried from each to the next. -/

@[expose] public section
noncomputable section
namespace Cert.KernelIdeal.Stage
open Idealize.ShloMosaic Idealize.SL.Sem Cert.KernelIdeal Cert.KernelIdeal.Gen
variable {F : FTy → Type} [FloatOps F] [Named F]

/-- Tokens 0 to 127 of a block. -/
def blk0 (X : Vec F S1x1x160x1024 .bf16) : Vec F S1x1x160x128 .bf16 :=
  View.ld X (Rect.unit (s := S1x1x160x1024) ![0, 0, 0, 0] S1x1x160x128.size inb_S1x1x160x1024_S1x1x160x128_0_0_0_0)
/-- Tokens 0 to 127 of the gates' block. -/
def gblk0 (X : Vec F S1x1x48x1024 .bf16) : Vec F S1x1x48x128 .bf16 :=
  View.ld X (Rect.unit (s := S1x1x48x1024) ![0, 0, 0, 0] S1x1x48x128.size inb_S1x1x48x1024_S1x1x48x128_0_0_0_0)
/-- Tokens 128 to 255 of a block. -/
def blk1 (X : Vec F S1x1x160x1024 .bf16) : Vec F S1x1x160x128 .bf16 :=
  View.ld X (Rect.unit (s := S1x1x160x1024) ![0, 0, 0, 128] S1x1x160x128.size inb_S1x1x160x1024_S1x1x160x128_0_0_0_128)
/-- Tokens 128 to 255 of the gates' block. -/
def gblk1 (X : Vec F S1x1x48x1024 .bf16) : Vec F S1x1x48x128 .bf16 :=
  View.ld X (Rect.unit (s := S1x1x48x1024) ![0, 0, 0, 128] S1x1x48x128.size inb_S1x1x48x1024_S1x1x48x128_0_0_0_128)
/-- Tokens 256 to 383 of a block. -/
def blk2 (X : Vec F S1x1x160x1024 .bf16) : Vec F S1x1x160x128 .bf16 :=
  View.ld X (Rect.unit (s := S1x1x160x1024) ![0, 0, 0, 256] S1x1x160x128.size inb_S1x1x160x1024_S1x1x160x128_0_0_0_256)
/-- Tokens 256 to 383 of the gates' block. -/
def gblk2 (X : Vec F S1x1x48x1024 .bf16) : Vec F S1x1x48x128 .bf16 :=
  View.ld X (Rect.unit (s := S1x1x48x1024) ![0, 0, 0, 256] S1x1x48x128.size inb_S1x1x48x1024_S1x1x48x128_0_0_0_256)
/-- Tokens 384 to 511 of a block. -/
def blk3 (X : Vec F S1x1x160x1024 .bf16) : Vec F S1x1x160x128 .bf16 :=
  View.ld X (Rect.unit (s := S1x1x160x1024) ![0, 0, 0, 384] S1x1x160x128.size inb_S1x1x160x1024_S1x1x160x128_0_0_0_384)
/-- Tokens 384 to 511 of the gates' block. -/
def gblk3 (X : Vec F S1x1x48x1024 .bf16) : Vec F S1x1x48x128 .bf16 :=
  View.ld X (Rect.unit (s := S1x1x48x1024) ![0, 0, 0, 384] S1x1x48x128.size inb_S1x1x48x1024_S1x1x48x128_0_0_0_384)
/-- Tokens 512 to 639 of a block. -/
def blk4 (X : Vec F S1x1x160x1024 .bf16) : Vec F S1x1x160x128 .bf16 :=
  View.ld X (Rect.unit (s := S1x1x160x1024) ![0, 0, 0, 512] S1x1x160x128.size inb_S1x1x160x1024_S1x1x160x128_0_0_0_512)
/-- Tokens 512 to 639 of the gates' block. -/
def gblk4 (X : Vec F S1x1x48x1024 .bf16) : Vec F S1x1x48x128 .bf16 :=
  View.ld X (Rect.unit (s := S1x1x48x1024) ![0, 0, 0, 512] S1x1x48x128.size inb_S1x1x48x1024_S1x1x48x128_0_0_0_512)
/-- Tokens 640 to 767 of a block. -/
def blk5 (X : Vec F S1x1x160x1024 .bf16) : Vec F S1x1x160x128 .bf16 :=
  View.ld X (Rect.unit (s := S1x1x160x1024) ![0, 0, 0, 640] S1x1x160x128.size inb_S1x1x160x1024_S1x1x160x128_0_0_0_640)
/-- Tokens 640 to 767 of the gates' block. -/
def gblk5 (X : Vec F S1x1x48x1024 .bf16) : Vec F S1x1x48x128 .bf16 :=
  View.ld X (Rect.unit (s := S1x1x48x1024) ![0, 0, 0, 640] S1x1x48x128.size inb_S1x1x48x1024_S1x1x48x128_0_0_0_640)
/-- Tokens 768 to 895 of a block. -/
def blk6 (X : Vec F S1x1x160x1024 .bf16) : Vec F S1x1x160x128 .bf16 :=
  View.ld X (Rect.unit (s := S1x1x160x1024) ![0, 0, 0, 768] S1x1x160x128.size inb_S1x1x160x1024_S1x1x160x128_0_0_0_768)
/-- Tokens 768 to 895 of the gates' block. -/
def gblk6 (X : Vec F S1x1x48x1024 .bf16) : Vec F S1x1x48x128 .bf16 :=
  View.ld X (Rect.unit (s := S1x1x48x1024) ![0, 0, 0, 768] S1x1x48x128.size inb_S1x1x48x1024_S1x1x48x128_0_0_0_768)
/-- Tokens 896 to 1023 of a block. -/
def blk7 (X : Vec F S1x1x160x1024 .bf16) : Vec F S1x1x160x128 .bf16 :=
  View.ld X (Rect.unit (s := S1x1x160x1024) ![0, 0, 0, 896] S1x1x160x128.size inb_S1x1x160x1024_S1x1x160x128_0_0_0_896)
/-- Tokens 896 to 1023 of the gates' block. -/
def gblk7 (X : Vec F S1x1x48x1024 .bf16) : Vec F S1x1x48x128 .bf16 :=
  View.ld X (Rect.unit (s := S1x1x48x1024) ![0, 0, 0, 896] S1x1x48x128.size inb_S1x1x48x1024_S1x1x48x128_0_0_0_896)

/-- The exponents of the scales of a block. -/
def fields (X : Vec F S1x1x160x1024 .bf16) : IVec S8x128 32 :=
  fieldOf (overMax (halfMax (absRow (blk0 X)) (absRow (blk1 X)) (absRow (blk2 X)) (absRow (blk3 X)) (absRow (blk4 X)) (absRow (blk5 X)) (absRow (blk6 X)) (absRow (blk7 X))))
/-- The scales of a block. -/
def scales (X : Vec F S1x1x160x1024 .bf16) : FVec F S8x128 .f32 := scaleOf (fields X)
/-- The reciprocals of the scales of a block. -/
def invs (X : Vec F S1x1x160x1024 .bf16) : FVec F S8x128 .f32 := invOf (fields X)

/-- The running sums over a pair. -/
def pairPre (xf : Vec F S1x1x48x128 .bf16) (um : Vec F S128x256 .bf16) : FVec F S48x128 .f32 := preOf (sums (gate xf) um)
/-- The running sums relative to the middle of the chunk, of a pair. -/
def pairDev (xf : Vec F S1x1x48x128 .bf16) (um : Vec F S128x256 .bf16) : FVec F S48x128 .f32 := devOf (sums (gate xf) um)
/-- The key slots after a pair. -/
def pairKs (xk : Vec F S1x1x160x128 .bf16) (kinv ksrow : FVec F S1x128 .f32) (xf : Vec F S1x1x48x128 .bf16) (um : Vec F S128x256 .bf16)
    (ks : FVec F S48x160 .f32) : FVec F S48x160 .f32 :=
  ksNext (weOf (pairPre xf um) (weight (gate xf))) ksrow (codes xk kinv) (decayOf (pairPre xf um)) ks
/-- The value slots after a pair. -/
def pairVs (xv : Vec F S1x1x160x128 .bf16) (xf : Vec F S1x1x48x128 .bf16) (um : Vec F S128x256 .bf16)
    (vs : FVec F S48x160 .f32) : FVec F S48x160 .f32 :=
  vsNext (weOf (pairPre xf um) (weight (gate xf))) xv (decayOf (pairPre xf um)) vs
/-- The softmax over the slots, of a pair. -/
def pairP (xq xk : Vec F S1x1x160x128 .bf16) (qinv qsrow kinv ksrow : FVec F S1x128 .f32) (xf : Vec F S1x1x48x128 .bf16)
    (um : Vec F S128x256 .bf16) (ks : FVec F S48x160 .f32) : FVec F S48x128 .f32 :=
  pOf (zOf (qfOf (pairDev xf um))
    (ziOf (join3 (kfOf (pairDev xf um) (weight (gate xf))) (wxOf (pairPre xf um) (weight (gate xf))))
      (join3b (kfOf (pairDev xf um) (weight (gate xf))) (wxOf (pairPre xf um) (weight (gate xf))))
      (join3c (kfOf (pairDev xf um) (weight (gate xf))) (wxOf (pairPre xf um) (weight (gate xf))))
      (maskedOf (scoresOf (codes xk kinv) (codes xq qinv) ksrow)))
    (peOf (pairPre xf um)) (zsOf ks (codes xq qinv)) qsrow)
/-- The mixing weights of a pair. -/
def pairMix (xf : Vec F S1x1x48x128 .bf16) (um : Vec F S128x256 .bf16) (p : FVec F S48x128 .f32) : FVec F S128x128 .f32 :=
  mixOf (mixRaw (join3 (kfOf (pairDev xf um) (weight (gate xf))) (wxOf (pairPre xf um) (weight (gate xf))))
      (join3b (kfOf (pairDev xf um) (weight (gate xf))) (wxOf (pairPre xf um) (weight (gate xf))))
      (join3c (kfOf (pairDev xf um) (weight (gate xf))) (wxOf (pairPre xf um) (weight (gate xf)))) p (qfOf (pairDev xf um)))
/-- The output of a pair. -/
def pairO (xq xk xv : Vec F S1x1x160x128 .bf16) (qinv qsrow kinv ksrow : FVec F S1x128 .f32) (xf : Vec F S1x1x48x128 .bf16)
    (um : Vec F S128x256 .bf16) (ks vs : FVec F S48x160 .f32) : FVec F S160x128 .f32 :=
  outOf (pairMix xf um (pairP xq xk qinv qsrow kinv ksrow xf um ks)) xv (pairP xq xk qinv qsrow kinv ksrow xf um ks)
    (peOf (pairPre xf um)) vs

/-- The key slots before the first token. -/
def kst0 (X1 : Vec F S1x1x160x1024 .bf16) (X3 : Vec F S1x1x48x1024 .bf16) (U : Vec F S128x256 .bf16) : FVec F S48x160 .f32 := broadcast S48x160 (Scalar.ofBits .f32 0x00000000#32)
/-- The value slots before the first token. -/
def vst0 (X2 : Vec F S1x1x160x1024 .bf16) (X3 : Vec F S1x1x48x1024 .bf16) (U : Vec F S128x256 .bf16) : FVec F S48x160 .f32 := broadcast S48x160 (Scalar.ofBits .f32 0x00000000#32)
/-- The key slots after pair 0. -/
def kst1 (X1 : Vec F S1x1x160x1024 .bf16) (X3 : Vec F S1x1x48x1024 .bf16) (U : Vec F S128x256 .bf16) : FVec F S48x160 .f32 :=
  pairKs (blk0 X1) (row0 (invs X1)) (row0 (scales X1)) (gblk0 X3) U (kst0 X1 X3 U)
/-- The value slots after pair 0. -/
def vst1 (X2 : Vec F S1x1x160x1024 .bf16) (X3 : Vec F S1x1x48x1024 .bf16) (U : Vec F S128x256 .bf16) : FVec F S48x160 .f32 :=
  pairVs (blk0 X2) (gblk0 X3) U (vst0 X2 X3 U)
/-- The output of pair 0. -/
def out0 (X0 X1 X2 : Vec F S1x1x160x1024 .bf16) (X3 : Vec F S1x1x48x1024 .bf16) (U : Vec F S128x256 .bf16) : FVec F S160x128 .f32 :=
  pairO (blk0 X0) (blk0 X1) (blk0 X2) (row0 (invs X0)) (row0 (scales X0)) (row0 (invs X1)) (row0 (scales X1)) (gblk0 X3) U
    (kst0 X1 X3 U) (vst0 X2 X3 U)
/-- The key slots after pair 1. -/
def kst2 (X1 : Vec F S1x1x160x1024 .bf16) (X3 : Vec F S1x1x48x1024 .bf16) (U : Vec F S128x256 .bf16) : FVec F S48x160 .f32 :=
  pairKs (blk1 X1) (row1 (invs X1)) (row1 (scales X1)) (gblk1 X3) U (kst1 X1 X3 U)
/-- The value slots after pair 1. -/
def vst2 (X2 : Vec F S1x1x160x1024 .bf16) (X3 : Vec F S1x1x48x1024 .bf16) (U : Vec F S128x256 .bf16) : FVec F S48x160 .f32 :=
  pairVs (blk1 X2) (gblk1 X3) U (vst1 X2 X3 U)
/-- The output of pair 1. -/
def out1 (X0 X1 X2 : Vec F S1x1x160x1024 .bf16) (X3 : Vec F S1x1x48x1024 .bf16) (U : Vec F S128x256 .bf16) : FVec F S160x128 .f32 :=
  pairO (blk1 X0) (blk1 X1) (blk1 X2) (row1 (invs X0)) (row1 (scales X0)) (row1 (invs X1)) (row1 (scales X1)) (gblk1 X3) U
    (kst1 X1 X3 U) (vst1 X2 X3 U)
/-- The key slots after pair 2. -/
def kst3 (X1 : Vec F S1x1x160x1024 .bf16) (X3 : Vec F S1x1x48x1024 .bf16) (U : Vec F S128x256 .bf16) : FVec F S48x160 .f32 :=
  pairKs (blk2 X1) (row2 (invs X1)) (row2 (scales X1)) (gblk2 X3) U (kst2 X1 X3 U)
/-- The value slots after pair 2. -/
def vst3 (X2 : Vec F S1x1x160x1024 .bf16) (X3 : Vec F S1x1x48x1024 .bf16) (U : Vec F S128x256 .bf16) : FVec F S48x160 .f32 :=
  pairVs (blk2 X2) (gblk2 X3) U (vst2 X2 X3 U)
/-- The output of pair 2. -/
def out2 (X0 X1 X2 : Vec F S1x1x160x1024 .bf16) (X3 : Vec F S1x1x48x1024 .bf16) (U : Vec F S128x256 .bf16) : FVec F S160x128 .f32 :=
  pairO (blk2 X0) (blk2 X1) (blk2 X2) (row2 (invs X0)) (row2 (scales X0)) (row2 (invs X1)) (row2 (scales X1)) (gblk2 X3) U
    (kst2 X1 X3 U) (vst2 X2 X3 U)
/-- The key slots after pair 3. -/
def kst4 (X1 : Vec F S1x1x160x1024 .bf16) (X3 : Vec F S1x1x48x1024 .bf16) (U : Vec F S128x256 .bf16) : FVec F S48x160 .f32 :=
  pairKs (blk3 X1) (row3 (invs X1)) (row3 (scales X1)) (gblk3 X3) U (kst3 X1 X3 U)
/-- The value slots after pair 3. -/
def vst4 (X2 : Vec F S1x1x160x1024 .bf16) (X3 : Vec F S1x1x48x1024 .bf16) (U : Vec F S128x256 .bf16) : FVec F S48x160 .f32 :=
  pairVs (blk3 X2) (gblk3 X3) U (vst3 X2 X3 U)
/-- The output of pair 3. -/
def out3 (X0 X1 X2 : Vec F S1x1x160x1024 .bf16) (X3 : Vec F S1x1x48x1024 .bf16) (U : Vec F S128x256 .bf16) : FVec F S160x128 .f32 :=
  pairO (blk3 X0) (blk3 X1) (blk3 X2) (row3 (invs X0)) (row3 (scales X0)) (row3 (invs X1)) (row3 (scales X1)) (gblk3 X3) U
    (kst3 X1 X3 U) (vst3 X2 X3 U)
/-- The key slots after pair 4. -/
def kst5 (X1 : Vec F S1x1x160x1024 .bf16) (X3 : Vec F S1x1x48x1024 .bf16) (U : Vec F S128x256 .bf16) : FVec F S48x160 .f32 :=
  pairKs (blk4 X1) (row4 (invs X1)) (row4 (scales X1)) (gblk4 X3) U (kst4 X1 X3 U)
/-- The value slots after pair 4. -/
def vst5 (X2 : Vec F S1x1x160x1024 .bf16) (X3 : Vec F S1x1x48x1024 .bf16) (U : Vec F S128x256 .bf16) : FVec F S48x160 .f32 :=
  pairVs (blk4 X2) (gblk4 X3) U (vst4 X2 X3 U)
/-- The output of pair 4. -/
def out4 (X0 X1 X2 : Vec F S1x1x160x1024 .bf16) (X3 : Vec F S1x1x48x1024 .bf16) (U : Vec F S128x256 .bf16) : FVec F S160x128 .f32 :=
  pairO (blk4 X0) (blk4 X1) (blk4 X2) (row4 (invs X0)) (row4 (scales X0)) (row4 (invs X1)) (row4 (scales X1)) (gblk4 X3) U
    (kst4 X1 X3 U) (vst4 X2 X3 U)
/-- The key slots after pair 5. -/
def kst6 (X1 : Vec F S1x1x160x1024 .bf16) (X3 : Vec F S1x1x48x1024 .bf16) (U : Vec F S128x256 .bf16) : FVec F S48x160 .f32 :=
  pairKs (blk5 X1) (row5 (invs X1)) (row5 (scales X1)) (gblk5 X3) U (kst5 X1 X3 U)
/-- The value slots after pair 5. -/
def vst6 (X2 : Vec F S1x1x160x1024 .bf16) (X3 : Vec F S1x1x48x1024 .bf16) (U : Vec F S128x256 .bf16) : FVec F S48x160 .f32 :=
  pairVs (blk5 X2) (gblk5 X3) U (vst5 X2 X3 U)
/-- The output of pair 5. -/
def out5 (X0 X1 X2 : Vec F S1x1x160x1024 .bf16) (X3 : Vec F S1x1x48x1024 .bf16) (U : Vec F S128x256 .bf16) : FVec F S160x128 .f32 :=
  pairO (blk5 X0) (blk5 X1) (blk5 X2) (row5 (invs X0)) (row5 (scales X0)) (row5 (invs X1)) (row5 (scales X1)) (gblk5 X3) U
    (kst5 X1 X3 U) (vst5 X2 X3 U)
/-- The key slots after pair 6. -/
def kst7 (X1 : Vec F S1x1x160x1024 .bf16) (X3 : Vec F S1x1x48x1024 .bf16) (U : Vec F S128x256 .bf16) : FVec F S48x160 .f32 :=
  pairKs (blk6 X1) (row6 (invs X1)) (row6 (scales X1)) (gblk6 X3) U (kst6 X1 X3 U)
/-- The value slots after pair 6. -/
def vst7 (X2 : Vec F S1x1x160x1024 .bf16) (X3 : Vec F S1x1x48x1024 .bf16) (U : Vec F S128x256 .bf16) : FVec F S48x160 .f32 :=
  pairVs (blk6 X2) (gblk6 X3) U (vst6 X2 X3 U)
/-- The output of pair 6. -/
def out6 (X0 X1 X2 : Vec F S1x1x160x1024 .bf16) (X3 : Vec F S1x1x48x1024 .bf16) (U : Vec F S128x256 .bf16) : FVec F S160x128 .f32 :=
  pairO (blk6 X0) (blk6 X1) (blk6 X2) (row6 (invs X0)) (row6 (scales X0)) (row6 (invs X1)) (row6 (scales X1)) (gblk6 X3) U
    (kst6 X1 X3 U) (vst6 X2 X3 U)
/-- The key slots after pair 7. -/
def kst8 (X1 : Vec F S1x1x160x1024 .bf16) (X3 : Vec F S1x1x48x1024 .bf16) (U : Vec F S128x256 .bf16) : FVec F S48x160 .f32 :=
  pairKs (blk7 X1) (row7 (invs X1)) (row7 (scales X1)) (gblk7 X3) U (kst7 X1 X3 U)
/-- The value slots after pair 7. -/
def vst8 (X2 : Vec F S1x1x160x1024 .bf16) (X3 : Vec F S1x1x48x1024 .bf16) (U : Vec F S128x256 .bf16) : FVec F S48x160 .f32 :=
  pairVs (blk7 X2) (gblk7 X3) U (vst7 X2 X3 U)
/-- The output of pair 7. -/
def out7 (X0 X1 X2 : Vec F S1x1x160x1024 .bf16) (X3 : Vec F S1x1x48x1024 .bf16) (U : Vec F S128x256 .bf16) : FVec F S160x128 .f32 :=
  pairO (blk7 X0) (blk7 X1) (blk7 X2) (row7 (invs X0)) (row7 (scales X0)) (row7 (invs X1)) (row7 (scales X1)) (gblk7 X3) U
    (kst7 X1 X3 U) (vst7 X2 X3 U)
end Cert.KernelIdeal.Stage
end
-- ==== Proof.BodyA1.lean ====
module

public import proofs.«01_k».proof.Proof.Chain

/-! What the body leaves in each output's buffer, at the first point: the composed stages, of the blocks read. -/

@[expose] public section
set_option maxRecDepth 16384
noncomputable section
namespace Cert.KernelIdeal.Stage
open Idealize.ShloMosaic Idealize.SL.Sem Cert.KernelIdeal Cert.KernelIdeal.Gen
variable {F : FTy → Type} [FloatOps F] [Named F]
set_option maxHeartbeats 4000000
theorem rawA5 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_5 c i arg2 harg2 arg3 harg3 arg4 harg4 arg5 harg5 arg6 harg6 arg7 harg7 arg8 harg8 arg9 harg9 arg10 harg10 arg11 harg11 arg12 harg12 arg13 harg13 hc0 x0 x1 x2 x3 = shapeCast S1x1x48x160 (kst8 (View.read (Elt F) arg3.view (harg3.unread x1)) (View.read (Elt F) arg5.view (harg5.unread x3)) (View.readCov arg13.view [⟨Rect.unit (s := S128x256) ![0, 128] S128x128.size inb_S128x256_S128x128_0_128, uRight⟩, ⟨Rect.unit (s := S128x256) ![0, 0] S128x128.size inb_S128x256_S128x128_0_0, uLeft⟩] (Rect.unit (s := S128x256) ![0, 0] S128x256.size inb_S128x256_S128x256_0_0).toLoadRect)) shapeCasts_S48x160_S1x1x48x160 := by
  frame_open
  refine (View.read_writes_junk_eq_canon _ _).trans ((View.canon_cons_unit_lit' _ _ _ (by decide)).trans ?_)
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]
  rfl

theorem rawA6 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_6 c i arg2 harg2 arg3 harg3 arg4 harg4 arg5 harg5 arg6 harg6 arg7 harg7 arg8 harg8 arg9 harg9 arg10 harg10 arg11 harg11 arg12 harg12 arg13 harg13 hc0 x0 x1 x2 x3 = shapeCast S1x1x48x160 (vst8 (View.read (Elt F) arg4.view (harg4.unread x2)) (View.read (Elt F) arg5.view (harg5.unread x3)) (View.readCov arg13.view [⟨Rect.unit (s := S128x256) ![0, 128] S128x128.size inb_S128x256_S128x128_0_128, uRight⟩, ⟨Rect.unit (s := S128x256) ![0, 0] S128x128.size inb_S128x256_S128x128_0_0, uLeft⟩] (Rect.unit (s := S128x256) ![0, 0] S128x256.size inb_S128x256_S128x256_0_0).toLoadRect)) shapeCasts_S48x160_S1x1x48x160 := by
  frame_open
  refine (View.read_writes_junk_eq_canon _ _).trans ((View.canon_cons_unit_lit' _ _ _ (by decide)).trans ?_)
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]
  rfl

theorem rawA8 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 = shapeCast S1x1x8x128 (scales (View.read (Elt F) arg2.view (harg2.unread x0))) shapeCasts_S8x128_S1x1x8x128 := by
  frame_open
  refine (View.read_writes_junk_eq_canon _ _).trans ((View.canon_cons_unit_lit' _ _ _ (by decide)).trans ?_)
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]

theorem rawA10 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 = shapeCast S1x1x8x128 (scales (View.read (Elt F) arg3.view (harg3.unread x1))) shapeCasts_S8x128_S1x1x8x128 := by
  frame_open
  refine (View.read_writes_junk_eq_canon _ _).trans ((View.canon_cons_unit_lit' _ _ _ (by decide)).trans ?_)
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]

theorem rawS (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 = View.canon [⟨Rect.unit (s := S128x256) ![0, 128] S128x128.size inb_S128x256_S128x128_0_128, uRight⟩, ⟨Rect.unit (s := S128x256) ![0, 0] S128x128.size inb_S128x256_S128x128_0_0, uLeft⟩] := by
  frame_open
  refine (View.read_writes_junk_eq_canon _ _).trans ?_
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]
  rfl

end Cert.KernelIdeal.Stage
end
-- ==== Proof.BodyA2.lean ====
module

public import proofs.«01_k».proof.Proof.Chain

/-! What the body leaves in each output's buffer, at the first point: the composed stages, of the blocks read. -/

@[expose] public section
set_option maxRecDepth 16384
noncomputable section
namespace Cert.KernelIdeal.Stage
open Idealize.ShloMosaic Idealize.SL.Sem Cert.KernelIdeal Cert.KernelIdeal.Gen
variable {F : FTy → Type} [FloatOps F] [Named F]
set_option maxHeartbeats 4000000
theorem rawA7 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 = View.canon [⟨Rect.unit (s := S1x1x160x1024) ![0, 0, 0, 896] S1x1x160x128.size inb_S1x1x160x1024_S1x1x160x128_0_0_0_896, codesOut (codes (blk7 (View.read (Elt F) arg2.view (harg2.unread x0))) (row7 (invs (View.read (Elt F) arg2.view (harg2.unread x0)))))⟩, ⟨Rect.unit (s := S1x1x160x1024) ![0, 0, 0, 768] S1x1x160x128.size inb_S1x1x160x1024_S1x1x160x128_0_0_0_768, codesOut (codes (blk6 (View.read (Elt F) arg2.view (harg2.unread x0))) (row6 (invs (View.read (Elt F) arg2.view (harg2.unread x0)))))⟩, ⟨Rect.unit (s := S1x1x160x1024) ![0, 0, 0, 640] S1x1x160x128.size inb_S1x1x160x1024_S1x1x160x128_0_0_0_640, codesOut (codes (blk5 (View.read (Elt F) arg2.view (harg2.unread x0))) (row5 (invs (View.read (Elt F) arg2.view (harg2.unread x0)))))⟩, ⟨Rect.unit (s := S1x1x160x1024) ![0, 0, 0, 512] S1x1x160x128.size inb_S1x1x160x1024_S1x1x160x128_0_0_0_512, codesOut (codes (blk4 (View.read (Elt F) arg2.view (harg2.unread x0))) (row4 (invs (View.read (Elt F) arg2.view (harg2.unread x0)))))⟩, ⟨Rect.unit (s := S1x1x160x1024) ![0, 0, 0, 384] S1x1x160x128.size inb_S1x1x160x1024_S1x1x160x128_0_0_0_384, codesOut (codes (blk3 (View.read (Elt F) arg2.view (harg2.unread x0))) (row3 (invs (View.read (Elt F) arg2.view (harg2.unread x0)))))⟩, ⟨Rect.unit (s := S1x1x160x1024) ![0, 0, 0, 256] S1x1x160x128.size inb_S1x1x160x1024_S1x1x160x128_0_0_0_256, codesOut (codes (blk2 (View.read (Elt F) arg2.view (harg2.unread x0))) (row2 (invs (View.read (Elt F) arg2.view (harg2.unread x0)))))⟩, ⟨Rect.unit (s := S1x1x160x1024) ![0, 0, 0, 128] S1x1x160x128.size inb_S1x1x160x1024_S1x1x160x128_0_0_0_128, codesOut (codes (blk1 (View.read (Elt F) arg2.view (harg2.unread x0))) (row1 (invs (View.read (Elt F) arg2.view (harg2.unread x0)))))⟩, ⟨Rect.unit (s := S1x1x160x1024) ![0, 0, 0, 0] S1x1x160x128.size inb_S1x1x160x1024_S1x1x160x128_0_0_0_0, codesOut (codes (blk0 (View.read (Elt F) arg2.view (harg2.unread x0))) (row0 (invs (View.read (Elt F) arg2.view (harg2.unread x0)))))⟩] := by
  frame_open
  refine (View.read_writes_junk_eq_canon _ _).trans ?_
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]

theorem rawA9 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 = View.canon [⟨Rect.unit (s := S1x1x160x1024) ![0, 0, 0, 896] S1x1x160x128.size inb_S1x1x160x1024_S1x1x160x128_0_0_0_896, codesOut (codes (blk7 (View.read (Elt F) arg3.view (harg3.unread x1))) (row7 (invs (View.read (Elt F) arg3.view (harg3.unread x1)))))⟩, ⟨Rect.unit (s := S1x1x160x1024) ![0, 0, 0, 768] S1x1x160x128.size inb_S1x1x160x1024_S1x1x160x128_0_0_0_768, codesOut (codes (blk6 (View.read (Elt F) arg3.view (harg3.unread x1))) (row6 (invs (View.read (Elt F) arg3.view (harg3.unread x1)))))⟩, ⟨Rect.unit (s := S1x1x160x1024) ![0, 0, 0, 640] S1x1x160x128.size inb_S1x1x160x1024_S1x1x160x128_0_0_0_640, codesOut (codes (blk5 (View.read (Elt F) arg3.view (harg3.unread x1))) (row5 (invs (View.read (Elt F) arg3.view (harg3.unread x1)))))⟩, ⟨Rect.unit (s := S1x1x160x1024) ![0, 0, 0, 512] S1x1x160x128.size inb_S1x1x160x1024_S1x1x160x128_0_0_0_512, codesOut (codes (blk4 (View.read (Elt F) arg3.view (harg3.unread x1))) (row4 (invs (View.read (Elt F) arg3.view (harg3.unread x1)))))⟩, ⟨Rect.unit (s := S1x1x160x1024) ![0, 0, 0, 384] S1x1x160x128.size inb_S1x1x160x1024_S1x1x160x128_0_0_0_384, codesOut (codes (blk3 (View.read (Elt F) arg3.view (harg3.unread x1))) (row3 (invs (View.read (Elt F) arg3.view (harg3.unread x1)))))⟩, ⟨Rect.unit (s := S1x1x160x1024) ![0, 0, 0, 256] S1x1x160x128.size inb_S1x1x160x1024_S1x1x160x128_0_0_0_256, codesOut (codes (blk2 (View.read (Elt F) arg3.view (harg3.unread x1))) (row2 (invs (View.read (Elt F) arg3.view (harg3.unread x1)))))⟩, ⟨Rect.unit (s := S1x1x160x1024) ![0, 0, 0, 128] S1x1x160x128.size inb_S1x1x160x1024_S1x1x160x128_0_0_0_128, codesOut (codes (blk1 (View.read (Elt F) arg3.view (harg3.unread x1))) (row1 (invs (View.read (Elt F) arg3.view (harg3.unread x1)))))⟩, ⟨Rect.unit (s := S1x1x160x1024) ![0, 0, 0, 0] S1x1x160x128.size inb_S1x1x160x1024_S1x1x160x128_0_0_0_0, codesOut (codes (blk0 (View.read (Elt F) arg3.view (harg3.unread x1))) (row0 (invs (View.read (Elt F) arg3.view (harg3.unread x1)))))⟩] := by
  frame_open
  refine (View.read_writes_junk_eq_canon _ _).trans ?_
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]

theorem rawA4 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_4 c i arg2 harg2 arg3 harg3 arg4 harg4 arg5 harg5 arg6 harg6 arg7 harg7 arg8 harg8 arg9 harg9 arg10 harg10 arg11 harg11 arg12 harg12 arg13 harg13 hc0 x0 x1 x2 x3 = View.canon [⟨Rect.unit (s := S1x1x160x1024) ![0, 0, 0, 896] S1x1x160x128.size inb_S1x1x160x1024_S1x1x160x128_0_0_0_896, outStore (out7 (View.read (Elt F) arg2.view (harg2.unread x0)) (View.read (Elt F) arg3.view (harg3.unread x1)) (View.read (Elt F) arg4.view (harg4.unread x2)) (View.read (Elt F) arg5.view (harg5.unread x3)) (View.readCov arg13.view [⟨Rect.unit (s := S128x256) ![0, 128] S128x128.size inb_S128x256_S128x128_0_128, uRight⟩, ⟨Rect.unit (s := S128x256) ![0, 0] S128x128.size inb_S128x256_S128x128_0_0, uLeft⟩] (Rect.unit (s := S128x256) ![0, 0] S128x256.size inb_S128x256_S128x256_0_0).toLoadRect))⟩, ⟨Rect.unit (s := S1x1x160x1024) ![0, 0, 0, 768] S1x1x160x128.size inb_S1x1x160x1024_S1x1x160x128_0_0_0_768, outStore (out6 (View.read (Elt F) arg2.view (harg2.unread x0)) (View.read (Elt F) arg3.view (harg3.unread x1)) (View.read (Elt F) arg4.view (harg4.unread x2)) (View.read (Elt F) arg5.view (harg5.unread x3)) (View.readCov arg13.view [⟨Rect.unit (s := S128x256) ![0, 128] S128x128.size inb_S128x256_S128x128_0_128, uRight⟩, ⟨Rect.unit (s := S128x256) ![0, 0] S128x128.size inb_S128x256_S128x128_0_0, uLeft⟩] (Rect.unit (s := S128x256) ![0, 0] S128x256.size inb_S128x256_S128x256_0_0).toLoadRect))⟩, ⟨Rect.unit (s := S1x1x160x1024) ![0, 0, 0, 640] S1x1x160x128.size inb_S1x1x160x1024_S1x1x160x128_0_0_0_640, outStore (out5 (View.read (Elt F) arg2.view (harg2.unread x0)) (View.read (Elt F) arg3.view (harg3.unread x1)) (View.read (Elt F) arg4.view (harg4.unread x2)) (View.read (Elt F) arg5.view (harg5.unread x3)) (View.readCov arg13.view [⟨Rect.unit (s := S128x256) ![0, 128] S128x128.size inb_S128x256_S128x128_0_128, uRight⟩, ⟨Rect.unit (s := S128x256) ![0, 0] S128x128.size inb_S128x256_S128x128_0_0, uLeft⟩] (Rect.unit (s := S128x256) ![0, 0] S128x256.size inb_S128x256_S128x256_0_0).toLoadRect))⟩, ⟨Rect.unit (s := S1x1x160x1024) ![0, 0, 0, 512] S1x1x160x128.size inb_S1x1x160x1024_S1x1x160x128_0_0_0_512, outStore (out4 (View.read (Elt F) arg2.view (harg2.unread x0)) (View.read (Elt F) arg3.view (harg3.unread x1)) (View.read (Elt F) arg4.view (harg4.unread x2)) (View.read (Elt F) arg5.view (harg5.unread x3)) (View.readCov arg13.view [⟨Rect.unit (s := S128x256) ![0, 128] S128x128.size inb_S128x256_S128x128_0_128, uRight⟩, ⟨Rect.unit (s := S128x256) ![0, 0] S128x128.size inb_S128x256_S128x128_0_0, uLeft⟩] (Rect.unit (s := S128x256) ![0, 0] S128x256.size inb_S128x256_S128x256_0_0).toLoadRect))⟩, ⟨Rect.unit (s := S1x1x160x1024) ![0, 0, 0, 384] S1x1x160x128.size inb_S1x1x160x1024_S1x1x160x128_0_0_0_384, outStore (out3 (View.read (Elt F) arg2.view (harg2.unread x0)) (View.read (Elt F) arg3.view (harg3.unread x1)) (View.read (Elt F) arg4.view (harg4.unread x2)) (View.read (Elt F) arg5.view (harg5.unread x3)) (View.readCov arg13.view [⟨Rect.unit (s := S128x256) ![0, 128] S128x128.size inb_S128x256_S128x128_0_128, uRight⟩, ⟨Rect.unit (s := S128x256) ![0, 0] S128x128.size inb_S128x256_S128x128_0_0, uLeft⟩] (Rect.unit (s := S128x256) ![0, 0] S128x256.size inb_S128x256_S128x256_0_0).toLoadRect))⟩, ⟨Rect.unit (s := S1x1x160x1024) ![0, 0, 0, 256] S1x1x160x128.size inb_S1x1x160x1024_S1x1x160x128_0_0_0_256, outStore (out2 (View.read (Elt F) arg2.view (harg2.unread x0)) (View.read (Elt F) arg3.view (harg3.unread x1)) (View.read (Elt F) arg4.view (harg4.unread x2)) (View.read (Elt F) arg5.view (harg5.unread x3)) (View.readCov arg13.view [⟨Rect.unit (s := S128x256) ![0, 128] S128x128.size inb_S128x256_S128x128_0_128, uRight⟩, ⟨Rect.unit (s := S128x256) ![0, 0] S128x128.size inb_S128x256_S128x128_0_0, uLeft⟩] (Rect.unit (s := S128x256) ![0, 0] S128x256.size inb_S128x256_S128x256_0_0).toLoadRect))⟩, ⟨Rect.unit (s := S1x1x160x1024) ![0, 0, 0, 128] S1x1x160x128.size inb_S1x1x160x1024_S1x1x160x128_0_0_0_128, outStore (out1 (View.read (Elt F) arg2.view (harg2.unread x0)) (View.read (Elt F) arg3.view (harg3.unread x1)) (View.read (Elt F) arg4.view (harg4.unread x2)) (View.read (Elt F) arg5.view (harg5.unread x3)) (View.readCov arg13.view [⟨Rect.unit (s := S128x256) ![0, 128] S128x128.size inb_S128x256_S128x128_0_128, uRight⟩, ⟨Rect.unit (s := S128x256) ![0, 0] S128x128.size inb_S128x256_S128x128_0_0, uLeft⟩] (Rect.unit (s := S128x256) ![0, 0] S128x256.size inb_S128x256_S128x256_0_0).toLoadRect))⟩, ⟨Rect.unit (s := S1x1x160x1024) ![0, 0, 0, 0] S1x1x160x128.size inb_S1x1x160x1024_S1x1x160x128_0_0_0_0, outStore (out0 (View.read (Elt F) arg2.view (harg2.unread x0)) (View.read (Elt F) arg3.view (harg3.unread x1)) (View.read (Elt F) arg4.view (harg4.unread x2)) (View.read (Elt F) arg5.view (harg5.unread x3)) (View.readCov arg13.view [⟨Rect.unit (s := S128x256) ![0, 128] S128x128.size inb_S128x256_S128x128_0_128, uRight⟩, ⟨Rect.unit (s := S128x256) ![0, 0] S128x128.size inb_S128x256_S128x128_0_0, uLeft⟩] (Rect.unit (s := S128x256) ![0, 0] S128x256.size inb_S128x256_S128x256_0_0).toLoadRect))⟩] := by
  frame_open
  refine (View.read_writes_junk_eq_canon _ _).trans ?_
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]
  rfl

end Cert.KernelIdeal.Stage
end
-- ==== Proof.BodyB1.lean ====
module

public import proofs.«01_k».proof.Proof.Chain

/-! What the body leaves in each output's buffer, at a point that is not the first: the composed stages, of the blocks read. -/

@[expose] public section
set_option maxRecDepth 16384
noncomputable section
namespace Cert.KernelIdeal.Stage
open Idealize.ShloMosaic Idealize.SL.Sem Cert.KernelIdeal Cert.KernelIdeal.Gen
variable {F : FTy → Type} [FloatOps F] [Named F]
set_option maxHeartbeats 4000000
theorem rawB5 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_5 c i arg2 harg2 arg3 harg3 arg4 harg4 arg5 harg5 arg6 harg6 arg7 harg7 arg8 harg8 arg9 harg9 arg10 harg10 arg11 harg11 arg12 harg12 arg13 harg13 hc0 x0 x1 x2 x3 xs0 = shapeCast S1x1x48x160 (kst8 (View.read (Elt F) arg3.view (harg3.unread x1)) (View.read (Elt F) arg5.view (harg5.unread x3)) (View.ld (View.read (Elt F) arg13.view (harg13.unread xs0)) (Rect.unit (s := S128x256) ![0, 0] S128x256.size inb_S128x256_S128x256_0_0))) shapeCasts_S48x160_S1x1x48x160 := by
  frame_open
  refine (View.read_writes_junk_eq_canon _ _).trans ((View.canon_cons_unit_lit' _ _ _ (by decide)).trans ?_)
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]

theorem rawB6 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_6 c i arg2 harg2 arg3 harg3 arg4 harg4 arg5 harg5 arg6 harg6 arg7 harg7 arg8 harg8 arg9 harg9 arg10 harg10 arg11 harg11 arg12 harg12 arg13 harg13 hc0 x0 x1 x2 x3 xs0 = shapeCast S1x1x48x160 (vst8 (View.read (Elt F) arg4.view (harg4.unread x2)) (View.read (Elt F) arg5.view (harg5.unread x3)) (View.ld (View.read (Elt F) arg13.view (harg13.unread xs0)) (Rect.unit (s := S128x256) ![0, 0] S128x256.size inb_S128x256_S128x256_0_0))) shapeCasts_S48x160_S1x1x48x160 := by
  frame_open
  refine (View.read_writes_junk_eq_canon _ _).trans ((View.canon_cons_unit_lit' _ _ _ (by decide)).trans ?_)
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]

theorem rawB8 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 xs0 = shapeCast S1x1x8x128 (scales (View.read (Elt F) arg2.view (harg2.unread x0))) shapeCasts_S8x128_S1x1x8x128 := by
  frame_open
  refine (View.read_writes_junk_eq_canon _ _).trans ((View.canon_cons_unit_lit' _ _ _ (by decide)).trans ?_)
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]

theorem rawB10 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 xs0 = shapeCast S1x1x8x128 (scales (View.read (Elt F) arg3.view (harg3.unread x1))) shapeCasts_S8x128_S1x1x8x128 := by
  frame_open
  refine (View.read_writes_junk_eq_canon _ _).trans ((View.canon_cons_unit_lit' _ _ _ (by decide)).trans ?_)
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]

end Cert.KernelIdeal.Stage
end
-- ==== Proof.BodyB2.lean ====
module

public import proofs.«01_k».proof.Proof.Chain

/-! What the body leaves in each output's buffer, at a point that is not the first: the composed stages, of the blocks read. -/

@[expose] public section
set_option maxRecDepth 16384
noncomputable section
namespace Cert.KernelIdeal.Stage
open Idealize.ShloMosaic Idealize.SL.Sem Cert.KernelIdeal Cert.KernelIdeal.Gen
variable {F : FTy → Type} [FloatOps F] [Named F]
set_option maxHeartbeats 4000000
theorem rawB7 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 xs0 = View.canon [⟨Rect.unit (s := S1x1x160x1024) ![0, 0, 0, 896] S1x1x160x128.size inb_S1x1x160x1024_S1x1x160x128_0_0_0_896, codesOut (codes (blk7 (View.read (Elt F) arg2.view (harg2.unread x0))) (row7 (invs (View.read (Elt F) arg2.view (harg2.unread x0)))))⟩, ⟨Rect.unit (s := S1x1x160x1024) ![0, 0, 0, 768] S1x1x160x128.size inb_S1x1x160x1024_S1x1x160x128_0_0_0_768, codesOut (codes (blk6 (View.read (Elt F) arg2.view (harg2.unread x0))) (row6 (invs (View.read (Elt F) arg2.view (harg2.unread x0)))))⟩, ⟨Rect.unit (s := S1x1x160x1024) ![0, 0, 0, 640] S1x1x160x128.size inb_S1x1x160x1024_S1x1x160x128_0_0_0_640, codesOut (codes (blk5 (View.read (Elt F) arg2.view (harg2.unread x0))) (row5 (invs (View.read (Elt F) arg2.view (harg2.unread x0)))))⟩, ⟨Rect.unit (s := S1x1x160x1024) ![0, 0, 0, 512] S1x1x160x128.size inb_S1x1x160x1024_S1x1x160x128_0_0_0_512, codesOut (codes (blk4 (View.read (Elt F) arg2.view (harg2.unread x0))) (row4 (invs (View.read (Elt F) arg2.view (harg2.unread x0)))))⟩, ⟨Rect.unit (s := S1x1x160x1024) ![0, 0, 0, 384] S1x1x160x128.size inb_S1x1x160x1024_S1x1x160x128_0_0_0_384, codesOut (codes (blk3 (View.read (Elt F) arg2.view (harg2.unread x0))) (row3 (invs (View.read (Elt F) arg2.view (harg2.unread x0)))))⟩, ⟨Rect.unit (s := S1x1x160x1024) ![0, 0, 0, 256] S1x1x160x128.size inb_S1x1x160x1024_S1x1x160x128_0_0_0_256, codesOut (codes (blk2 (View.read (Elt F) arg2.view (harg2.unread x0))) (row2 (invs (View.read (Elt F) arg2.view (harg2.unread x0)))))⟩, ⟨Rect.unit (s := S1x1x160x1024) ![0, 0, 0, 128] S1x1x160x128.size inb_S1x1x160x1024_S1x1x160x128_0_0_0_128, codesOut (codes (blk1 (View.read (Elt F) arg2.view (harg2.unread x0))) (row1 (invs (View.read (Elt F) arg2.view (harg2.unread x0)))))⟩, ⟨Rect.unit (s := S1x1x160x1024) ![0, 0, 0, 0] S1x1x160x128.size inb_S1x1x160x1024_S1x1x160x128_0_0_0_0, codesOut (codes (blk0 (View.read (Elt F) arg2.view (harg2.unread x0))) (row0 (invs (View.read (Elt F) arg2.view (harg2.unread x0)))))⟩] := by
  frame_open
  refine (View.read_writes_junk_eq_canon _ _).trans ?_
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]

theorem rawB9 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 xs0 = View.canon [⟨Rect.unit (s := S1x1x160x1024) ![0, 0, 0, 896] S1x1x160x128.size inb_S1x1x160x1024_S1x1x160x128_0_0_0_896, codesOut (codes (blk7 (View.read (Elt F) arg3.view (harg3.unread x1))) (row7 (invs (View.read (Elt F) arg3.view (harg3.unread x1)))))⟩, ⟨Rect.unit (s := S1x1x160x1024) ![0, 0, 0, 768] S1x1x160x128.size inb_S1x1x160x1024_S1x1x160x128_0_0_0_768, codesOut (codes (blk6 (View.read (Elt F) arg3.view (harg3.unread x1))) (row6 (invs (View.read (Elt F) arg3.view (harg3.unread x1)))))⟩, ⟨Rect.unit (s := S1x1x160x1024) ![0, 0, 0, 640] S1x1x160x128.size inb_S1x1x160x1024_S1x1x160x128_0_0_0_640, codesOut (codes (blk5 (View.read (Elt F) arg3.view (harg3.unread x1))) (row5 (invs (View.read (Elt F) arg3.view (harg3.unread x1)))))⟩, ⟨Rect.unit (s := S1x1x160x1024) ![0, 0, 0, 512] S1x1x160x128.size inb_S1x1x160x1024_S1x1x160x128_0_0_0_512, codesOut (codes (blk4 (View.read (Elt F) arg3.view (harg3.unread x1))) (row4 (invs (View.read (Elt F) arg3.view (harg3.unread x1)))))⟩, ⟨Rect.unit (s := S1x1x160x1024) ![0, 0, 0, 384] S1x1x160x128.size inb_S1x1x160x1024_S1x1x160x128_0_0_0_384, codesOut (codes (blk3 (View.read (Elt F) arg3.view (harg3.unread x1))) (row3 (invs (View.read (Elt F) arg3.view (harg3.unread x1)))))⟩, ⟨Rect.unit (s := S1x1x160x1024) ![0, 0, 0, 256] S1x1x160x128.size inb_S1x1x160x1024_S1x1x160x128_0_0_0_256, codesOut (codes (blk2 (View.read (Elt F) arg3.view (harg3.unread x1))) (row2 (invs (View.read (Elt F) arg3.view (harg3.unread x1)))))⟩, ⟨Rect.unit (s := S1x1x160x1024) ![0, 0, 0, 128] S1x1x160x128.size inb_S1x1x160x1024_S1x1x160x128_0_0_0_128, codesOut (codes (blk1 (View.read (Elt F) arg3.view (harg3.unread x1))) (row1 (invs (View.read (Elt F) arg3.view (harg3.unread x1)))))⟩, ⟨Rect.unit (s := S1x1x160x1024) ![0, 0, 0, 0] S1x1x160x128.size inb_S1x1x160x1024_S1x1x160x128_0_0_0_0, codesOut (codes (blk0 (View.read (Elt F) arg3.view (harg3.unread x1))) (row0 (invs (View.read (Elt F) arg3.view (harg3.unread x1)))))⟩] := by
  frame_open
  refine (View.read_writes_junk_eq_canon _ _).trans ?_
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]

theorem rawB4 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_4 c i arg2 harg2 arg3 harg3 arg4 harg4 arg5 harg5 arg6 harg6 arg7 harg7 arg8 harg8 arg9 harg9 arg10 harg10 arg11 harg11 arg12 harg12 arg13 harg13 hc0 x0 x1 x2 x3 xs0 = View.canon [⟨Rect.unit (s := S1x1x160x1024) ![0, 0, 0, 896] S1x1x160x128.size inb_S1x1x160x1024_S1x1x160x128_0_0_0_896, outStore (out7 (View.read (Elt F) arg2.view (harg2.unread x0)) (View.read (Elt F) arg3.view (harg3.unread x1)) (View.read (Elt F) arg4.view (harg4.unread x2)) (View.read (Elt F) arg5.view (harg5.unread x3)) (View.ld (View.read (Elt F) arg13.view (harg13.unread xs0)) (Rect.unit (s := S128x256) ![0, 0] S128x256.size inb_S128x256_S128x256_0_0)))⟩, ⟨Rect.unit (s := S1x1x160x1024) ![0, 0, 0, 768] S1x1x160x128.size inb_S1x1x160x1024_S1x1x160x128_0_0_0_768, outStore (out6 (View.read (Elt F) arg2.view (harg2.unread x0)) (View.read (Elt F) arg3.view (harg3.unread x1)) (View.read (Elt F) arg4.view (harg4.unread x2)) (View.read (Elt F) arg5.view (harg5.unread x3)) (View.ld (View.read (Elt F) arg13.view (harg13.unread xs0)) (Rect.unit (s := S128x256) ![0, 0] S128x256.size inb_S128x256_S128x256_0_0)))⟩, ⟨Rect.unit (s := S1x1x160x1024) ![0, 0, 0, 640] S1x1x160x128.size inb_S1x1x160x1024_S1x1x160x128_0_0_0_640, outStore (out5 (View.read (Elt F) arg2.view (harg2.unread x0)) (View.read (Elt F) arg3.view (harg3.unread x1)) (View.read (Elt F) arg4.view (harg4.unread x2)) (View.read (Elt F) arg5.view (harg5.unread x3)) (View.ld (View.read (Elt F) arg13.view (harg13.unread xs0)) (Rect.unit (s := S128x256) ![0, 0] S128x256.size inb_S128x256_S128x256_0_0)))⟩, ⟨Rect.unit (s := S1x1x160x1024) ![0, 0, 0, 512] S1x1x160x128.size inb_S1x1x160x1024_S1x1x160x128_0_0_0_512, outStore (out4 (View.read (Elt F) arg2.view (harg2.unread x0)) (View.read (Elt F) arg3.view (harg3.unread x1)) (View.read (Elt F) arg4.view (harg4.unread x2)) (View.read (Elt F) arg5.view (harg5.unread x3)) (View.ld (View.read (Elt F) arg13.view (harg13.unread xs0)) (Rect.unit (s := S128x256) ![0, 0] S128x256.size inb_S128x256_S128x256_0_0)))⟩, ⟨Rect.unit (s := S1x1x160x1024) ![0, 0, 0, 384] S1x1x160x128.size inb_S1x1x160x1024_S1x1x160x128_0_0_0_384, outStore (out3 (View.read (Elt F) arg2.view (harg2.unread x0)) (View.read (Elt F) arg3.view (harg3.unread x1)) (View.read (Elt F) arg4.view (harg4.unread x2)) (View.read (Elt F) arg5.view (harg5.unread x3)) (View.ld (View.read (Elt F) arg13.view (harg13.unread xs0)) (Rect.unit (s := S128x256) ![0, 0] S128x256.size inb_S128x256_S128x256_0_0)))⟩, ⟨Rect.unit (s := S1x1x160x1024) ![0, 0, 0, 256] S1x1x160x128.size inb_S1x1x160x1024_S1x1x160x128_0_0_0_256, outStore (out2 (View.read (Elt F) arg2.view (harg2.unread x0)) (View.read (Elt F) arg3.view (harg3.unread x1)) (View.read (Elt F) arg4.view (harg4.unread x2)) (View.read (Elt F) arg5.view (harg5.unread x3)) (View.ld (View.read (Elt F) arg13.view (harg13.unread xs0)) (Rect.unit (s := S128x256) ![0, 0] S128x256.size inb_S128x256_S128x256_0_0)))⟩, ⟨Rect.unit (s := S1x1x160x1024) ![0, 0, 0, 128] S1x1x160x128.size inb_S1x1x160x1024_S1x1x160x128_0_0_0_128, outStore (out1 (View.read (Elt F) arg2.view (harg2.unread x0)) (View.read (Elt F) arg3.view (harg3.unread x1)) (View.read (Elt F) arg4.view (harg4.unread x2)) (View.read (Elt F) arg5.view (harg5.unread x3)) (View.ld (View.read (Elt F) arg13.view (harg13.unread xs0)) (Rect.unit (s := S128x256) ![0, 0] S128x256.size inb_S128x256_S128x256_0_0)))⟩, ⟨Rect.unit (s := S1x1x160x1024) ![0, 0, 0, 0] S1x1x160x128.size inb_S1x1x160x1024_S1x1x160x128_0_0_0_0, outStore (out0 (View.read (Elt F) arg2.view (harg2.unread x0)) (View.read (Elt F) arg3.view (harg3.unread x1)) (View.read (Elt F) arg4.view (harg4.unread x2)) (View.read (Elt F) arg5.view (harg5.unread x3)) (View.ld (View.read (Elt F) arg13.view (harg13.unread xs0)) (Rect.unit (s := S128x256) ![0, 0] S128x256.size inb_S128x256_S128x256_0_0)))⟩] := by
  frame_open
  refine (View.read_writes_junk_eq_canon _ _).trans ?_
  dsimp only [View.readAt_eq_ld, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, pairPre, pairDev, pairKs, pairVs, pairP, pairMix, pairO, fields, scales, invs, blk0, blk1, blk2, blk3, blk4, blk5, blk6, blk7, gblk0, gblk1, gblk2, gblk3, gblk4, gblk5, gblk6, gblk7, out0, out1, out2, out3, out4, out5, out6, out7, kst0, kst1, kst2, kst3, kst4, kst5, kst6, kst7, kst8, vst0, vst1, vst2, vst3, vst4, vst5, vst6, vst7, vst8, uLeft, uRight, absRow, halfMax, overMax, fieldOf, scaleOf, invOf, codes, codesOut, gate, weight, sums, preOf, devOf, peOf, qfOf, kfOf, wxOf, weOf, decayOf, join3, join3b, join3c, scoresOf, maskedOf, ziOf, zsOf, zOf, pOf, mixRaw, mixOf, outOf, outStore, ksNext, vsNext, row0, row1, row2, row3, row4, row5, row6, row7]

end Cert.KernelIdeal.Stage
end
-- ==== Proof.Body.lean ====
module

public import proofs.«01_k».proof.Proof.BodyA1
public import proofs.«01_k».proof.Proof.BodyA2
public import proofs.«01_k».proof.Proof.BodyB1
public import proofs.«01_k».proof.Proof.BodyB2

/-! What the body leaves in each output's buffer, at every point: the composed stages, of the blocks read. -/

@[expose] public section
set_option maxRecDepth 16384
noncomputable section
namespace Cert.KernelIdeal.Stage
open Idealize.ShloMosaic Idealize.SL.Sem Cert.KernelIdeal Cert.KernelIdeal.Gen
variable {F : FTy → Type} [FloatOps F] [Named F]
set_option maxHeartbeats 4000000
/-- The scratch the first point fills. -/
def scr0 : Vec F S128x256 .bf16 := View.canon [⟨Rect.unit (s := S128x256) ![0, 128] S128x128.size inb_S128x256_S128x128_0_128, uRight⟩, ⟨Rect.unit (s := S128x256) ![0, 0] S128x128.size inb_S128x256_S128x128_0_0, uLeft⟩]
theorem readCov_scr (v : View sig .tc .vmem S128x256 .bf16) :
    View.readCov v [⟨Rect.unit (s := S128x256) ![0, 128] S128x128.size inb_S128x256_S128x128_0_128, uRight⟩, ⟨Rect.unit (s := S128x256) ![0, 0] S128x128.size inb_S128x256_S128x128_0_0, uLeft⟩] (Rect.unit (s := S128x256) ![0, 0] S128x256.size inb_S128x256_S128x256_0_0).toLoadRect = scr0 (F := F) := by
  exact (View.readCov_eq_canon_ld v _ _ (View.cover_of_tiledL _ S128x128.size (by sl_kernel_rfl))).trans
    (View.ld_unit_lit inb_S128x256_S128x256_0_0 _ (by decide))

theorem outA4 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_4 c i arg2 harg2 arg3 harg3 arg4 harg4 arg5 harg5 arg6 harg6 arg7 harg7 arg8 harg8 arg9 harg9 arg10 harg10 arg11 harg11 arg12 harg12 arg13 harg13 hc0 x0 x1 x2 x3 = View.canon [⟨Rect.unit (s := S1x1x160x1024) ![0, 0, 0, 896] S1x1x160x128.size inb_S1x1x160x1024_S1x1x160x128_0_0_0_896, outStore (out7 x0 x1 x2 x3 scr0)⟩, ⟨Rect.unit (s := S1x1x160x1024) ![0, 0, 0, 768] S1x1x160x128.size inb_S1x1x160x1024_S1x1x160x128_0_0_0_768, outStore (out6 x0 x1 x2 x3 scr0)⟩, ⟨Rect.unit (s := S1x1x160x1024) ![0, 0, 0, 640] S1x1x160x128.size inb_S1x1x160x1024_S1x1x160x128_0_0_0_640, outStore (out5 x0 x1 x2 x3 scr0)⟩, ⟨Rect.unit (s := S1x1x160x1024) ![0, 0, 0, 512] S1x1x160x128.size inb_S1x1x160x1024_S1x1x160x128_0_0_0_512, outStore (out4 x0 x1 x2 x3 scr0)⟩, ⟨Rect.unit (s := S1x1x160x1024) ![0, 0, 0, 384] S1x1x160x128.size inb_S1x1x160x1024_S1x1x160x128_0_0_0_384, outStore (out3 x0 x1 x2 x3 scr0)⟩, ⟨Rect.unit (s := S1x1x160x1024) ![0, 0, 0, 256] S1x1x160x128.size inb_S1x1x160x1024_S1x1x160x128_0_0_0_256, outStore (out2 x0 x1 x2 x3 scr0)⟩, ⟨Rect.unit (s := S1x1x160x1024) ![0, 0, 0, 128] S1x1x160x128.size inb_S1x1x160x1024_S1x1x160x128_0_0_0_128, outStore (out1 x0 x1 x2 x3 scr0)⟩, ⟨Rect.unit (s := S1x1x160x1024) ![0, 0, 0, 0] S1x1x160x128.size inb_S1x1x160x1024_S1x1x160x128_0_0_0_0, outStore (out0 x0 x1 x2 x3 scr0)⟩] := by
  rw [rawA4 c i arg2 harg2 arg3 harg3 arg4 harg4 arg5 harg5 arg6 harg6 arg7 harg7 arg8 harg8 arg9 harg9 arg10 harg10 arg11 harg11 arg12 harg12 arg13 harg13 hc0 x0 x1 x2 x3, readCov_scr, harg2.read_unread, harg3.read_unread, harg4.read_unread, harg5.read_unread]

theorem outA5 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_5 c i arg2 harg2 arg3 harg3 arg4 harg4 arg5 harg5 arg6 harg6 arg7 harg7 arg8 harg8 arg9 harg9 arg10 harg10 arg11 harg11 arg12 harg12 arg13 harg13 hc0 x0 x1 x2 x3 = shapeCast S1x1x48x160 (kst8 x1 x3 scr0) shapeCasts_S48x160_S1x1x48x160 := by
  rw [rawA5 c i arg2 harg2 arg3 harg3 arg4 harg4 arg5 harg5 arg6 harg6 arg7 harg7 arg8 harg8 arg9 harg9 arg10 harg10 arg11 harg11 arg12 harg12 arg13 harg13 hc0 x0 x1 x2 x3, readCov_scr, harg3.read_unread, harg5.read_unread]

theorem outA6 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_6 c i arg2 harg2 arg3 harg3 arg4 harg4 arg5 harg5 arg6 harg6 arg7 harg7 arg8 harg8 arg9 harg9 arg10 harg10 arg11 harg11 arg12 harg12 arg13 harg13 hc0 x0 x1 x2 x3 = shapeCast S1x1x48x160 (vst8 x2 x3 scr0) shapeCasts_S48x160_S1x1x48x160 := by
  rw [rawA6 c i arg2 harg2 arg3 harg3 arg4 harg4 arg5 harg5 arg6 harg6 arg7 harg7 arg8 harg8 arg9 harg9 arg10 harg10 arg11 harg11 arg12 harg12 arg13 harg13 hc0 x0 x1 x2 x3, readCov_scr, harg4.read_unread, harg5.read_unread]

theorem outA7 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 = View.canon [⟨Rect.unit (s := S1x1x160x1024) ![0, 0, 0, 896] S1x1x160x128.size inb_S1x1x160x1024_S1x1x160x128_0_0_0_896, codesOut (codes (blk7 x0) (row7 (invs x0)))⟩, ⟨Rect.unit (s := S1x1x160x1024) ![0, 0, 0, 768] S1x1x160x128.size inb_S1x1x160x1024_S1x1x160x128_0_0_0_768, codesOut (codes (blk6 x0) (row6 (invs x0)))⟩, ⟨Rect.unit (s := S1x1x160x1024) ![0, 0, 0, 640] S1x1x160x128.size inb_S1x1x160x1024_S1x1x160x128_0_0_0_640, codesOut (codes (blk5 x0) (row5 (invs x0)))⟩, ⟨Rect.unit (s := S1x1x160x1024) ![0, 0, 0, 512] S1x1x160x128.size inb_S1x1x160x1024_S1x1x160x128_0_0_0_512, codesOut (codes (blk4 x0) (row4 (invs x0)))⟩, ⟨Rect.unit (s := S1x1x160x1024) ![0, 0, 0, 384] S1x1x160x128.size inb_S1x1x160x1024_S1x1x160x128_0_0_0_384, codesOut (codes (blk3 x0) (row3 (invs x0)))⟩, ⟨Rect.unit (s := S1x1x160x1024) ![0, 0, 0, 256] S1x1x160x128.size inb_S1x1x160x1024_S1x1x160x128_0_0_0_256, codesOut (codes (blk2 x0) (row2 (invs x0)))⟩, ⟨Rect.unit (s := S1x1x160x1024) ![0, 0, 0, 128] S1x1x160x128.size inb_S1x1x160x1024_S1x1x160x128_0_0_0_128, codesOut (codes (blk1 x0) (row1 (invs x0)))⟩, ⟨Rect.unit (s := S1x1x160x1024) ![0, 0, 0, 0] S1x1x160x128.size inb_S1x1x160x1024_S1x1x160x128_0_0_0_0, codesOut (codes (blk0 x0) (row0 (invs x0)))⟩] := by
  rw [rawA7 c i arg2 harg2 arg3 harg3 arg4 harg4 arg5 harg5 arg6 harg6 arg7 harg7 arg8 harg8 arg9 harg9 arg10 harg10 arg11 harg11 arg12 harg12 arg13 harg13 hc0 x0 x1 x2 x3, harg2.read_unread]

theorem outA8 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 = shapeCast S1x1x8x128 (scales x0) shapeCasts_S8x128_S1x1x8x128 := by
  rw [rawA8 c i arg2 harg2 arg3 harg3 arg4 harg4 arg5 harg5 arg6 harg6 arg7 harg7 arg8 harg8 arg9 harg9 arg10 harg10 arg11 harg11 arg12 harg12 arg13 harg13 hc0 x0 x1 x2 x3, harg2.read_unread]

theorem outA9 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 = View.canon [⟨Rect.unit (s := S1x1x160x1024) ![0, 0, 0, 896] S1x1x160x128.size inb_S1x1x160x1024_S1x1x160x128_0_0_0_896, codesOut (codes (blk7 x1) (row7 (invs x1)))⟩, ⟨Rect.unit (s := S1x1x160x1024) ![0, 0, 0, 768] S1x1x160x128.size inb_S1x1x160x1024_S1x1x160x128_0_0_0_768, codesOut (codes (blk6 x1) (row6 (invs x1)))⟩, ⟨Rect.unit (s := S1x1x160x1024) ![0, 0, 0, 640] S1x1x160x128.size inb_S1x1x160x1024_S1x1x160x128_0_0_0_640, codesOut (codes (blk5 x1) (row5 (invs x1)))⟩, ⟨Rect.unit (s := S1x1x160x1024) ![0, 0, 0, 512] S1x1x160x128.size inb_S1x1x160x1024_S1x1x160x128_0_0_0_512, codesOut (codes (blk4 x1) (row4 (invs x1)))⟩, ⟨Rect.unit (s := S1x1x160x1024) ![0, 0, 0, 384] S1x1x160x128.size inb_S1x1x160x1024_S1x1x160x128_0_0_0_384, codesOut (codes (blk3 x1) (row3 (invs x1)))⟩, ⟨Rect.unit (s := S1x1x160x1024) ![0, 0, 0, 256] S1x1x160x128.size inb_S1x1x160x1024_S1x1x160x128_0_0_0_256, codesOut (codes (blk2 x1) (row2 (invs x1)))⟩, ⟨Rect.unit (s := S1x1x160x1024) ![0, 0, 0, 128] S1x1x160x128.size inb_S1x1x160x1024_S1x1x160x128_0_0_0_128, codesOut (codes (blk1 x1) (row1 (invs x1)))⟩, ⟨Rect.unit (s := S1x1x160x1024) ![0, 0, 0, 0] S1x1x160x128.size inb_S1x1x160x1024_S1x1x160x128_0_0_0_0, codesOut (codes (blk0 x1) (row0 (invs x1)))⟩] := by
  rw [rawA9 c i arg2 harg2 arg3 harg3 arg4 harg4 arg5 harg5 arg6 harg6 arg7 harg7 arg8 harg8 arg9 harg9 arg10 harg10 arg11 harg11 arg12 harg12 arg13 harg13 hc0 x0 x1 x2 x3, harg3.read_unread]

theorem outA10 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : cond0_0 i) (x0 : Vec F S1x1x160x1024 .bf16) (x1 : Vec F S1x1x160x1024 .bf16) (x2 : Vec F S1x1x160x1024 .bf16) (x3 : Vec F S1x1x48x1024 .bf16) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 = shapeCast S1x1x8x128 (scales x1) shapeCasts_S8x128_S1x1x8x128 := by
  rw [rawA10 c i arg2 harg2 arg3 harg3 arg4 harg4 arg5 harg5 arg6 harg6 arg7 harg7 arg8 harg8 arg9 harg9 arg10 harg10 arg11 harg11 arg12 harg12 arg13 harg13 hc0 x0 x1 x2 x3, harg3.read_unread]

theorem outB4 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_4 c i arg2 harg2 arg3 harg3 arg4 harg4 arg5 harg5 arg6 harg6 arg7 harg7 arg8 harg8 arg9 harg9 arg10 harg10 arg11 harg11 arg12 harg12 arg13 harg13 hc0 x0 x1 x2 x3 xs0 = View.canon [⟨Rect.unit (s := S1x1x160x1024) ![0, 0, 0, 896] S1x1x160x128.size inb_S1x1x160x1024_S1x1x160x128_0_0_0_896, outStore (out7 x0 x1 x2 x3 xs0)⟩, ⟨Rect.unit (s := S1x1x160x1024) ![0, 0, 0, 768] S1x1x160x128.size inb_S1x1x160x1024_S1x1x160x128_0_0_0_768, outStore (out6 x0 x1 x2 x3 xs0)⟩, ⟨Rect.unit (s := S1x1x160x1024) ![0, 0, 0, 640] S1x1x160x128.size inb_S1x1x160x1024_S1x1x160x128_0_0_0_640, outStore (out5 x0 x1 x2 x3 xs0)⟩, ⟨Rect.unit (s := S1x1x160x1024) ![0, 0, 0, 512] S1x1x160x128.size inb_S1x1x160x1024_S1x1x160x128_0_0_0_512, outStore (out4 x0 x1 x2 x3 xs0)⟩, ⟨Rect.unit (s := S1x1x160x1024) ![0, 0, 0, 384] S1x1x160x128.size inb_S1x1x160x1024_S1x1x160x128_0_0_0_384, outStore (out3 x0 x1 x2 x3 xs0)⟩, ⟨Rect.unit (s := S1x1x160x1024) ![0, 0, 0, 256] S1x1x160x128.size inb_S1x1x160x1024_S1x1x160x128_0_0_0_256, outStore (out2 x0 x1 x2 x3 xs0)⟩, ⟨Rect.unit (s := S1x1x160x1024) ![0, 0, 0, 128] S1x1x160x128.size inb_S1x1x160x1024_S1x1x160x128_0_0_0_128, outStore (out1 x0 x1 x2 x3 xs0)⟩, ⟨Rect.unit (s := S1x1x160x1024) ![0, 0, 0, 0] S1x1x160x128.size inb_S1x1x160x1024_S1x1x160x128_0_0_0_0, outStore (out0 x0 x1 x2 x3 xs0)⟩] := by
  rw [rawB4 c i arg2 harg2 arg3 harg3 arg4 harg4 arg5 harg5 arg6 harg6 arg7 harg7 arg8 harg8 arg9 harg9 arg10 harg10 arg11 harg11 arg12 harg12 arg13 harg13 hc0 x0 x1 x2 x3 xs0, View.ld_unit_lit inb_S128x256_S128x256_0_0 _ (by decide), harg13.read_unread, harg2.read_unread, harg3.read_unread, harg4.read_unread, harg5.read_unread]

theorem outB5 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_5 c i arg2 harg2 arg3 harg3 arg4 harg4 arg5 harg5 arg6 harg6 arg7 harg7 arg8 harg8 arg9 harg9 arg10 harg10 arg11 harg11 arg12 harg12 arg13 harg13 hc0 x0 x1 x2 x3 xs0 = shapeCast S1x1x48x160 (kst8 x1 x3 xs0) shapeCasts_S48x160_S1x1x48x160 := by
  rw [rawB5 c i arg2 harg2 arg3 harg3 arg4 harg4 arg5 harg5 arg6 harg6 arg7 harg7 arg8 harg8 arg9 harg9 arg10 harg10 arg11 harg11 arg12 harg12 arg13 harg13 hc0 x0 x1 x2 x3 xs0, View.ld_unit_lit inb_S128x256_S128x256_0_0 _ (by decide), harg13.read_unread, harg3.read_unread, harg5.read_unread]

theorem outB6 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_6 c i arg2 harg2 arg3 harg3 arg4 harg4 arg5 harg5 arg6 harg6 arg7 harg7 arg8 harg8 arg9 harg9 arg10 harg10 arg11 harg11 arg12 harg12 arg13 harg13 hc0 x0 x1 x2 x3 xs0 = shapeCast S1x1x48x160 (vst8 x2 x3 xs0) shapeCasts_S48x160_S1x1x48x160 := by
  rw [rawB6 c i arg2 harg2 arg3 harg3 arg4 harg4 arg5 harg5 arg6 harg6 arg7 harg7 arg8 harg8 arg9 harg9 arg10 harg10 arg11 harg11 arg12 harg12 arg13 harg13 hc0 x0 x1 x2 x3 xs0, View.ld_unit_lit inb_S128x256_S128x256_0_0 _ (by decide), harg13.read_unread, harg4.read_unread, harg5.read_unread]

theorem outB7 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 xs0 = View.canon [⟨Rect.unit (s := S1x1x160x1024) ![0, 0, 0, 896] S1x1x160x128.size inb_S1x1x160x1024_S1x1x160x128_0_0_0_896, codesOut (codes (blk7 x0) (row7 (invs x0)))⟩, ⟨Rect.unit (s := S1x1x160x1024) ![0, 0, 0, 768] S1x1x160x128.size inb_S1x1x160x1024_S1x1x160x128_0_0_0_768, codesOut (codes (blk6 x0) (row6 (invs x0)))⟩, ⟨Rect.unit (s := S1x1x160x1024) ![0, 0, 0, 640] S1x1x160x128.size inb_S1x1x160x1024_S1x1x160x128_0_0_0_640, codesOut (codes (blk5 x0) (row5 (invs x0)))⟩, ⟨Rect.unit (s := S1x1x160x1024) ![0, 0, 0, 512] S1x1x160x128.size inb_S1x1x160x1024_S1x1x160x128_0_0_0_512, codesOut (codes (blk4 x0) (row4 (invs x0)))⟩, ⟨Rect.unit (s := S1x1x160x1024) ![0, 0, 0, 384] S1x1x160x128.size inb_S1x1x160x1024_S1x1x160x128_0_0_0_384, codesOut (codes (blk3 x0) (row3 (invs x0)))⟩, ⟨Rect.unit (s := S1x1x160x1024) ![0, 0, 0, 256] S1x1x160x128.size inb_S1x1x160x1024_S1x1x160x128_0_0_0_256, codesOut (codes (blk2 x0) (row2 (invs x0)))⟩, ⟨Rect.unit (s := S1x1x160x1024) ![0, 0, 0, 128] S1x1x160x128.size inb_S1x1x160x1024_S1x1x160x128_0_0_0_128, codesOut (codes (blk1 x0) (row1 (invs x0)))⟩, ⟨Rect.unit (s := S1x1x160x1024) ![0, 0, 0, 0] S1x1x160x128.size inb_S1x1x160x1024_S1x1x160x128_0_0_0_0, codesOut (codes (blk0 x0) (row0 (invs x0)))⟩] := by
  rw [rawB7 c i arg2 harg2 arg3 harg3 arg4 harg4 arg5 harg5 arg6 harg6 arg7 harg7 arg8 harg8 arg9 harg9 arg10 harg10 arg11 harg11 arg12 harg12 arg13 harg13 hc0 x0 x1 x2 x3 xs0, harg2.read_unread]

theorem outB8 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 xs0 = shapeCast S1x1x8x128 (scales x0) shapeCasts_S8x128_S1x1x8x128 := by
  rw [rawB8 c i arg2 harg2 arg3 harg3 arg4 harg4 arg5 harg5 arg6 harg6 arg7 harg7 arg8 harg8 arg9 harg9 arg10 harg10 arg11 harg11 arg12 harg12 arg13 harg13 hc0 x0 x1 x2 x3 xs0, harg2.read_unread]

theorem outB9 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 xs0 = View.canon [⟨Rect.unit (s := S1x1x160x1024) ![0, 0, 0, 896] S1x1x160x128.size inb_S1x1x160x1024_S1x1x160x128_0_0_0_896, codesOut (codes (blk7 x1) (row7 (invs x1)))⟩, ⟨Rect.unit (s := S1x1x160x1024) ![0, 0, 0, 768] S1x1x160x128.size inb_S1x1x160x1024_S1x1x160x128_0_0_0_768, codesOut (codes (blk6 x1) (row6 (invs x1)))⟩, ⟨Rect.unit (s := S1x1x160x1024) ![0, 0, 0, 640] S1x1x160x128.size inb_S1x1x160x1024_S1x1x160x128_0_0_0_640, codesOut (codes (blk5 x1) (row5 (invs x1)))⟩, ⟨Rect.unit (s := S1x1x160x1024) ![0, 0, 0, 512] S1x1x160x128.size inb_S1x1x160x1024_S1x1x160x128_0_0_0_512, codesOut (codes (blk4 x1) (row4 (invs x1)))⟩, ⟨Rect.unit (s := S1x1x160x1024) ![0, 0, 0, 384] S1x1x160x128.size inb_S1x1x160x1024_S1x1x160x128_0_0_0_384, codesOut (codes (blk3 x1) (row3 (invs x1)))⟩, ⟨Rect.unit (s := S1x1x160x1024) ![0, 0, 0, 256] S1x1x160x128.size inb_S1x1x160x1024_S1x1x160x128_0_0_0_256, codesOut (codes (blk2 x1) (row2 (invs x1)))⟩, ⟨Rect.unit (s := S1x1x160x1024) ![0, 0, 0, 128] S1x1x160x128.size inb_S1x1x160x1024_S1x1x160x128_0_0_0_128, codesOut (codes (blk1 x1) (row1 (invs x1)))⟩, ⟨Rect.unit (s := S1x1x160x1024) ![0, 0, 0, 0] S1x1x160x128.size inb_S1x1x160x1024_S1x1x160x128_0_0_0_0, codesOut (codes (blk0 x1) (row0 (invs x1)))⟩] := by
  rw [rawB9 c i arg2 harg2 arg3 harg3 arg4 harg4 arg5 harg5 arg6 harg6 arg7 harg7 arg8 harg8 arg9 harg9 arg10 harg10 arg11 harg11 arg12 harg12 arg13 harg13 hc0 x0 x1 x2 x3 xs0, harg3.read_unread]

theorem outB10 (c : Dev nD) (i : grid0.Coords) (arg2 : Memref sig .tc .vmem S1x1x160x1024 .bf16) (harg2 : arg2.IsWhole) (arg3 : Memref sig .tc .vmem S1x1x160x1024 .bf16) (harg3 : arg3.IsWhole) (arg4 : Memref sig .tc .vmem S1x1x160x1024 .bf16) (harg4 : arg4.IsWhole) (arg5 : Memref sig .tc .vmem S1x1x48x1024 .bf16) (harg5 : arg5.IsWhole) (arg6 : Memref sig .tc .vmem S1x1x160x1024 .bf16) (harg6 : arg6.IsWhole) (arg7 : Memref sig .tc .vmem S1x1x48x160 .f32) (harg7 : arg7.IsWhole) (arg8 : Memref sig .tc .vmem S1x1x48x160 .f32) (harg8 : arg8.IsWhole) (arg9 : Memref sig .tc .vmem S1x1x160x1024 .fp8e4m3) (harg9 : arg9.IsWhole) (arg10 : Memref sig .tc .vmem S1x1x8x128 .f32) (harg10 : arg10.IsWhole) (arg11 : Memref sig .tc .vmem S1x1x160x1024 .fp8e4m3) (harg11 : arg11.IsWhole) (arg12 : Memref sig .tc .vmem S1x1x8x128 .f32) (harg12 : arg12.IsWhole) (arg13 : Memref sig .tc .vmem S128x256 .bf16) (harg13 : arg13.IsWhole) (hc0 : ¬cond0_0 i) (x0 : Vec F S1x1x160x1024 .bf16) (x1 : Vec F S1x1x160x1024 .bf16) (x2 : Vec F S1x1x160x1024 .bf16) (x3 : Vec F S1x1x48x1024 .bf16) (xs0 : Vec F S128x256 .bf16) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 xs0 = shapeCast S1x1x8x128 (scales x1) shapeCasts_S8x128_S1x1x8x128 := by
  rw [rawB10 c i arg2 harg2 arg3 harg3 arg4 harg4 arg5 harg5 arg6 harg6 arg7 harg7 arg8 harg8 arg9 harg9 arg10 harg10 arg11 harg11 arg12 harg12 arg13 harg13 hc0 x0 x1 x2 x3 xs0, harg3.read_unread]

end Cert.KernelIdeal.Stage
end
-- ==== Proof.KPoints.lean ====
module

public import proofs.«01_k».proof.Proof.Body
public import proofs.«01_k».proof.Proof.Gen.KernelIdeal.Value

/-! What every point of the grid leaves in each output's buffer, and so what each output array holds after the run: the
composed stages of the blocks the point reads. The scratch holds the same from the first point on. -/

@[expose] public section
set_option maxRecDepth 16384
noncomputable section
namespace Cert.KernelIdeal.Stage
open Idealize.ShloMosaic Idealize.SL.Sem Cert.KernelIdeal Cert.KernelIdeal.Gen
variable {F : FTy → Type} [FloatOps F] [Named F]
variable (m : (ℓ : Loc nD τ sig) → Buf (Elt F) ℓ)

/-- The output block: the eight pairs' outputs side by side. -/
def oBlk (x0 x1 x2 : Vec F S1x1x160x1024 .bf16) (x3 : Vec F S1x1x48x1024 .bf16) : Vec F S1x1x160x1024 .bf16 :=
  View.canon [⟨Rect.unit (s := S1x1x160x1024) ![0, 0, 0, 896] S1x1x160x128.size inb_S1x1x160x1024_S1x1x160x128_0_0_0_896, outStore (out7 x0 x1 x2 x3 scr0)⟩, ⟨Rect.unit (s := S1x1x160x1024) ![0, 0, 0, 768] S1x1x160x128.size inb_S1x1x160x1024_S1x1x160x128_0_0_0_768, outStore (out6 x0 x1 x2 x3 scr0)⟩, ⟨Rect.unit (s := S1x1x160x1024) ![0, 0, 0, 640] S1x1x160x128.size inb_S1x1x160x1024_S1x1x160x128_0_0_0_640, outStore (out5 x0 x1 x2 x3 scr0)⟩, ⟨Rect.unit (s := S1x1x160x1024) ![0, 0, 0, 512] S1x1x160x128.size inb_S1x1x160x1024_S1x1x160x128_0_0_0_512, outStore (out4 x0 x1 x2 x3 scr0)⟩, ⟨Rect.unit (s := S1x1x160x1024) ![0, 0, 0, 384] S1x1x160x128.size inb_S1x1x160x1024_S1x1x160x128_0_0_0_384, outStore (out3 x0 x1 x2 x3 scr0)⟩, ⟨Rect.unit (s := S1x1x160x1024) ![0, 0, 0, 256] S1x1x160x128.size inb_S1x1x160x1024_S1x1x160x128_0_0_0_256, outStore (out2 x0 x1 x2 x3 scr0)⟩, ⟨Rect.unit (s := S1x1x160x1024) ![0, 0, 0, 128] S1x1x160x128.size inb_S1x1x160x1024_S1x1x160x128_0_0_0_128, outStore (out1 x0 x1 x2 x3 scr0)⟩, ⟨Rect.unit (s := S1x1x160x1024) ![0, 0, 0, 0] S1x1x160x128.size inb_S1x1x160x1024_S1x1x160x128_0_0_0_0, outStore (out0 x0 x1 x2 x3 scr0)⟩]
/-- The block of codes: the eight pairs' codes side by side. -/
def cBlk (x0 : Vec F S1x1x160x1024 .bf16) : Vec F S1x1x160x1024 .fp8e4m3 :=
  View.canon [⟨Rect.unit (s := S1x1x160x1024) ![0, 0, 0, 896] S1x1x160x128.size inb_S1x1x160x1024_S1x1x160x128_0_0_0_896, codesOut (codes (blk7 x0) (row7 (invs x0)))⟩, ⟨Rect.unit (s := S1x1x160x1024) ![0, 0, 0, 768] S1x1x160x128.size inb_S1x1x160x1024_S1x1x160x128_0_0_0_768, codesOut (codes (blk6 x0) (row6 (invs x0)))⟩, ⟨Rect.unit (s := S1x1x160x1024) ![0, 0, 0, 640] S1x1x160x128.size inb_S1x1x160x1024_S1x1x160x128_0_0_0_640, codesOut (codes (blk5 x0) (row5 (invs x0)))⟩, ⟨Rect.unit (s := S1x1x160x1024) ![0, 0, 0, 512] S1x1x160x128.size inb_S1x1x160x1024_S1x1x160x128_0_0_0_512, codesOut (codes (blk4 x0) (row4 (invs x0)))⟩, ⟨Rect.unit (s := S1x1x160x1024) ![0, 0, 0, 384] S1x1x160x128.size inb_S1x1x160x1024_S1x1x160x128_0_0_0_384, codesOut (codes (blk3 x0) (row3 (invs x0)))⟩, ⟨Rect.unit (s := S1x1x160x1024) ![0, 0, 0, 256] S1x1x160x128.size inb_S1x1x160x1024_S1x1x160x128_0_0_0_256, codesOut (codes (blk2 x0) (row2 (invs x0)))⟩, ⟨Rect.unit (s := S1x1x160x1024) ![0, 0, 0, 128] S1x1x160x128.size inb_S1x1x160x1024_S1x1x160x128_0_0_0_128, codesOut (codes (blk1 x0) (row1 (invs x0)))⟩, ⟨Rect.unit (s := S1x1x160x1024) ![0, 0, 0, 0] S1x1x160x128.size inb_S1x1x160x1024_S1x1x160x128_0_0_0_0, codesOut (codes (blk0 x0) (row0 (invs x0)))⟩]

theorem scr_at (c : Dev nD) (n : ℕ) (hn : n < cfg0.N) : (outsAt0 m c n hn).2.2.2.2.2.2.2 = scr0 := by
  induction n with
  | zero =>
    rw [outsAt0_A m c ⟨0, hn⟩ (Nat.zero_mod _)]
    dsimp only
    rw [rawS (F := F)]
    rfl
  | succ n ih =>
    have hN := lt_of_lt_of_eq hn (show cfg0.N = 432 from N_0)
    rw [outsAt0_B m c ⟨n + 1, hn⟩ (by show ¬(n + 1) % 432 = 0; omega)]
    refine Eq.trans ?_ (ih (Nat.lt_of_succ_lt hn))
    rfl

theorem at4 (c : Dev nD) (t : Fin cfg0.N) : (outsAt0 m c t.val t.isLt).1 = oBlk (iblk m c 0 t) (iblk m c 1 t) (iblk m c 2 t) (iblk m c 3 t) := by
  by_cases h0 : t.val % 432 = 0
  · rw [outsAt0_A m c t h0]
    dsimp only
    rw [outA4 (F := F)]
    rfl
  · rw [outsAt0_B m c t h0]
    dsimp only
    rw [outB4 (F := F), scr_at m c]
    rfl
theorem at5 (c : Dev nD) (t : Fin cfg0.N) : (outsAt0 m c t.val t.isLt).2.1 = shapeCast S1x1x48x160 (kst8 (iblk m c 1 t) (iblk m c 3 t) scr0) shapeCasts_S48x160_S1x1x48x160 := by
  by_cases h0 : t.val % 432 = 0
  · rw [outsAt0_A m c t h0]
    dsimp only
    rw [outA5 (F := F)]

  · rw [outsAt0_B m c t h0]
    dsimp only
    rw [outB5 (F := F), scr_at m c]

theorem at6 (c : Dev nD) (t : Fin cfg0.N) : (outsAt0 m c t.val t.isLt).2.2.1 = shapeCast S1x1x48x160 (vst8 (iblk m c 2 t) (iblk m c 3 t) scr0) shapeCasts_S48x160_S1x1x48x160 := by
  by_cases h0 : t.val % 432 = 0
  · rw [outsAt0_A m c t h0]
    dsimp only
    rw [outA6 (F := F)]

  · rw [outsAt0_B m c t h0]
    dsimp only
    rw [outB6 (F := F), scr_at m c]

theorem at7 (c : Dev nD) (t : Fin cfg0.N) : (outsAt0 m c t.val t.isLt).2.2.2.1 = cBlk (iblk m c 0 t) := by
  by_cases h0 : t.val % 432 = 0
  · rw [outsAt0_A m c t h0]
    dsimp only
    rw [outA7 (F := F)]
    rfl
  · rw [outsAt0_B m c t h0]
    dsimp only
    rw [outB7 (F := F)]
    rfl
theorem at8 (c : Dev nD) (t : Fin cfg0.N) : (outsAt0 m c t.val t.isLt).2.2.2.2.1 = shapeCast S1x1x8x128 (scales (iblk m c 0 t)) shapeCasts_S8x128_S1x1x8x128 := by
  by_cases h0 : t.val % 432 = 0
  · rw [outsAt0_A m c t h0]
    dsimp only
    rw [outA8 (F := F)]

  · rw [outsAt0_B m c t h0]
    dsimp only
    rw [outB8 (F := F)]

theorem at9 (c : Dev nD) (t : Fin cfg0.N) : (outsAt0 m c t.val t.isLt).2.2.2.2.2.1 = cBlk (iblk m c 1 t) := by
  by_cases h0 : t.val % 432 = 0
  · rw [outsAt0_A m c t h0]
    dsimp only
    rw [outA9 (F := F)]
    rfl
  · rw [outsAt0_B m c t h0]
    dsimp only
    rw [outB9 (F := F)]
    rfl
theorem at10 (c : Dev nD) (t : Fin cfg0.N) : (outsAt0 m c t.val t.isLt).2.2.2.2.2.2.1 = shapeCast S1x1x8x128 (scales (iblk m c 1 t)) shapeCasts_S8x128_S1x1x8x128 := by
  by_cases h0 : t.val % 432 = 0
  · rw [outsAt0_A m c t h0]
    dsimp only
    rw [outA10 (F := F)]

  · rw [outsAt0_B m c t h0]
    dsimp only
    rw [outB10 (F := F)]

theorem G4_at (c : Dev nD) (i) (t : Fin cfg0.N) (ht : Value.pt4Of i = t.val) : Value.G4 m c i = (oBlk (iblk m c 0 t) (iblk m c 1 t) (iblk m c 2 t) (iblk m c 3 t)) (Value.loc4Of i) := by
  unfold Value.G4
  rw [dif_pos (ht ▸ t.isLt), ← at4 m c t, Value.outsAt0_sweep, Value.fold0_congr m c _ _ _ _ ht]
theorem G5_at (c : Dev nD) (i) (t : Fin cfg0.N) (ht : Value.pt5Of i = t.val) : Value.G5 m c i = (shapeCast S1x1x48x160 (kst8 (iblk m c 1 t) (iblk m c 3 t) scr0) shapeCasts_S48x160_S1x1x48x160) (Value.loc5Of i) := by
  unfold Value.G5
  rw [dif_pos (ht ▸ t.isLt), ← at5 m c t, Value.outsAt0_sweep, Value.fold0_congr m c _ _ _ _ ht]
theorem G6_at (c : Dev nD) (i) (t : Fin cfg0.N) (ht : Value.pt6Of i = t.val) : Value.G6 m c i = (shapeCast S1x1x48x160 (vst8 (iblk m c 2 t) (iblk m c 3 t) scr0) shapeCasts_S48x160_S1x1x48x160) (Value.loc6Of i) := by
  unfold Value.G6
  rw [dif_pos (ht ▸ t.isLt), ← at6 m c t, Value.outsAt0_sweep, Value.fold0_congr m c _ _ _ _ ht]
theorem G7_at (c : Dev nD) (i) (t : Fin cfg0.N) (ht : Value.pt7Of i = t.val) : Value.G7 m c i = (cBlk (iblk m c 0 t)) (Value.loc7Of i) := by
  unfold Value.G7
  rw [dif_pos (ht ▸ t.isLt), ← at7 m c t, Value.outsAt0_sweep, Value.fold0_congr m c _ _ _ _ ht]
theorem G8_at (c : Dev nD) (i) (t : Fin cfg0.N) (ht : Value.pt8Of i = t.val) : Value.G8 m c i = (shapeCast S1x1x8x128 (scales (iblk m c 0 t)) shapeCasts_S8x128_S1x1x8x128) (Value.loc8Of i) := by
  unfold Value.G8
  rw [dif_pos (ht ▸ t.isLt), ← at8 m c t, Value.outsAt0_sweep, Value.fold0_congr m c _ _ _ _ ht]
theorem G9_at (c : Dev nD) (i) (t : Fin cfg0.N) (ht : Value.pt9Of i = t.val) : Value.G9 m c i = (cBlk (iblk m c 1 t)) (Value.loc9Of i) := by
  unfold Value.G9
  rw [dif_pos (ht ▸ t.isLt), ← at9 m c t, Value.outsAt0_sweep, Value.fold0_congr m c _ _ _ _ ht]
theorem G10_at (c : Dev nD) (i) (t : Fin cfg0.N) (ht : Value.pt10Of i = t.val) : Value.G10 m c i = (shapeCast S1x1x8x128 (scales (iblk m c 1 t)) shapeCasts_S8x128_S1x1x8x128) (Value.loc10Of i) := by
  unfold Value.G10
  rw [dif_pos (ht ▸ t.isLt), ← at10 m c t, Value.outsAt0_sweep, Value.fold0_congr m c _ _ _ _ ht]

end Cert.KernelIdeal.Stage
end
-- ==== Proof.Coe.lean ====
module

public import proofs.«01_k».proof.Proof.Chain
public import Idealize.ShloMosaic.Lib.Pointwise

/-! Extended reals that are reals: sums, maxima, exponentials, quotients, the programs' constants. -/

@[expose] public section
noncomputable section
namespace Cert.Re
open Idealize.ShloMosaic Idealize.SL.Sem

theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s h ih => rw [Finset.sum_insert h, Finset.sum_insert h, ih, EReal.coe_add]

theorem coe_max (a b : ℝ) : max (a : EReal) (b : EReal) = ((max a b : ℝ) : EReal) :=
  (EReal.coe_strictMono.monotone.map_max).symm
theorem coe_min (a b : ℝ) : min (a : EReal) (b : EReal) = ((min a b : ℝ) : EReal) :=
  (EReal.coe_strictMono.monotone.map_min).symm
theorem max_zero (a : ℝ) : max (a : EReal) 0 = ((max a 0 : ℝ) : EReal) := by rw [← EReal.coe_zero, coe_max]
theorem min_zero (a : ℝ) : min (a : EReal) 0 = ((min a 0 : ℝ) : EReal) := by rw [← EReal.coe_zero, coe_min]
theorem coe_one : ((1 : ℝ) : EReal) = 1 := rfl
theorem one_eq : (1 : EReal) = ((1 : ℝ) : EReal) := rfl
theorem zero_eq : (0 : EReal) = ((0 : ℝ) : EReal) := rfl

theorem absf_coe (a : ℝ) : FloatOps.absf (F := Ideal) (φ := .f32) ((a : ℝ) : EReal) = ((|a| : ℝ) : EReal) := by
  rw [Ideal.absf_def, abs_eq_max_neg, ← coe_max]; rfl
theorem absf_coe_bf16 (a : ℝ) : FloatOps.absf (F := Ideal) (φ := .bf16) ((a : ℝ) : EReal) = ((|a| : ℝ) : EReal) := by
  rw [Ideal.absf_def, abs_eq_max_neg, ← coe_max]; rfl

theorem two_rpow (x : ℝ) : Real.rpow 2 (x * (Real.log 2)⁻¹) = Real.exp x := by
  show (2 : ℝ) ^ (x * (Real.log 2)⁻¹) = _
  rw [Real.rpow_def_of_pos (by norm_num)]
  congr 1
  have : Real.log 2 ≠ 0 := (Real.log_pos (by norm_num)).ne'
  field_simp

theorem exp2_coe (x : ℝ) : FloatOps.exp2 (F := Ideal) (φ := .f32) ((x : ℝ) : EReal) = ((Real.rpow 2 x : ℝ) : EReal) := rfl
theorem exp2_nat (x : ℝ) : FloatOps.exp2 (F := Ideal) (φ := .f32) ((x * (Real.log 2)⁻¹ : ℝ) : EReal) = ((Real.exp x : ℝ) : EReal) := by
  rw [exp2_coe, two_rpow]

theorem div_coe (a : ℝ) {b : ℝ} (h : b ≠ 0) : Ideal.div (a : EReal) (b : EReal) = ((a / b : ℝ) : EReal) := by
  rw [Ideal.div_coe h, ← EReal.coe_mul, one_div, div_eq_mul_inv]

theorem bot_f32 : Ideal.ofBits FTy.f32 4286578688#32 = ⊥ := by
  simp [Ideal.ofBits, Ideal.ieee]

/-- The largest of finitely many reals, from ⊥, is one of them. -/
theorem fold_max_coe {ι : Type*} (s : Finset ι) (hs : s.Nonempty) (f : ι → ℝ) :
    s.fold max (⊥ : EReal) (fun x => ((f x : ℝ) : EReal)) = ((s.sup' hs f : ℝ) : EReal) := by
  classical
  have e : s.fold max (⊥ : EReal) (fun x => ((f x : ℝ) : EReal)) = s.sup (fun x => ((f x : ℝ) : EReal)) := by
    rfl
  rw [e, ← Finset.sup'_eq_sup hs]
  exact (Finset.comp_sup'_eq_sup'_comp hs (fun x : ℝ => (x : EReal)) (fun a b => (coe_max a b).symm)).symm

theorem c_log2e : Named.named (F := Ideal) Cert.KernelIdeal.κ "log2e" (φ := .f32) 1069066811#32 = (((Real.log 2)⁻¹ : ℝ) : EReal) :=
  IdealRules.named_const.ideal_named_scalar _ _ _ _ rfl
theorem c_neg_log2e : Named.named (F := Ideal) Cert.KernelIdeal.κ "neg_log2e" (φ := .f32) 3216550459#32 = ((-((Real.log 2)⁻¹) : ℝ) : EReal) :=
  IdealRules.named_const.ideal_named_scalar _ _ _ _ rfl
theorem c_half_ln2 : Named.named (F := Ideal) Cert.KernelIdeal.κ "half_ln2" (φ := .f32) 1051816472#32 = (((1 / 2) * (Real.log 2) : ℝ) : EReal) :=
  IdealRules.named_const.ideal_named_scalar _ _ _ _ rfl
theorem c_score : Named.named (F := Ideal) Cert.KernelIdeal.κ "score" (φ := .f32) 1038718387#32 = (((Real.sqrt 160)⁻¹ * (Real.log 2)⁻¹ : ℝ) : EReal) :=
  IdealRules.named_const.ideal_named_scalar _ _ _ _ rfl

theorem c_eighth : Ideal.ofBits FTy.f32 1040187392#32 = ((1 / 8 : ℝ) : EReal) := by
  simp [Ideal.ofBits, Ideal.ieee, -EReal.coe_mul]; norm_num
theorem c_m2 : Ideal.ofBits FTy.f32 3221225472#32 = ((-2 : ℝ) : EReal) := by
  simp [Ideal.ofBits, Ideal.ieee, -EReal.coe_mul]; norm_num
theorem c_8 : Ideal.ofBits FTy.f32 0x41000000#32 = ((8 : ℝ) : EReal) := by
  simp [Ideal.ofBits, Ideal.ieee, -EReal.coe_mul]; norm_num
theorem c_160 : Ideal.ofBits FTy.f32 0x43200000#32 = ((160 : ℝ) : EReal) := by
  simp [Ideal.ofBits, Ideal.ieee, -EReal.coe_mul]; norm_num
theorem c_448 : Ideal.ofBits FTy.f32 1138753536#32 = ((448 : ℝ) : EReal) := by
  simp [Ideal.ofBits, Ideal.ieee, -EReal.coe_mul]; norm_num
theorem c_m448 : Ideal.ofBits FTy.f32 3286237184#32 = ((-448 : ℝ) : EReal) := by
  simp [Ideal.ofBits, Ideal.ieee, -EReal.coe_mul]; norm_num
theorem c_448b : Ideal.ofBits FTy.bf16 0x43E0#16 = ((448 : ℝ) : EReal) := by
  simp [Ideal.ofBits, Ideal.ieee, -EReal.coe_mul]; norm_num
theorem c_m448b : Ideal.ofBits FTy.bf16 0xC3E0#16 = ((-448 : ℝ) : EReal) := by
  simp [Ideal.ofBits, Ideal.ieee, -EReal.coe_mul]; norm_num

/-- `-2·tanh(x/2)/(1 - tanh(x/2)) = 1 - exp x`. -/
theorem weight_eq (x : ℝ) : -2 * Real.tanh (x / 2) / (1 - Real.tanh (x / 2)) = 1 - Real.exp x := by
  have h1 : 1 - Real.tanh (x / 2) ≠ 0 := (sub_pos.mpr (Real.tanh_lt_one _)).ne'
  rw [div_eq_iff h1, Real.tanh_eq]
  have hx : Real.exp x = Real.exp (x / 2) * Real.exp (x / 2) := by rw [← Real.exp_add]; congr 1; ring
  have hm : Real.exp (-(x / 2)) = (Real.exp (x / 2))⁻¹ := Real.exp_neg _
  have hp := Real.exp_pos (x / 2)
  rw [hx, hm]
  field_simp
  ring

end Cert.Re
end
-- ==== Proof.Pair.lean ====
module

public import proofs.«01_k».proof.Proof.Coe

/-! One pair of chunks (128 tokens) over the reals: what each stage of the kernel's body computes, in natural
exponentials. `L j s` is the logarithm of the gate of slot `j` at token `s`. -/

@[expose] public section
noncomputable section
namespace Cert.Re

/-- The gate's logarithm: a log-sigmoid over 8. -/
def lsg (x : ℝ) : ℝ := (min x 0 - Real.log (1 + Real.exp (-|x|))) / 8

/-- The sum of the gates' logarithms up to and including token `t`. -/
def pre (L : Fin 48 → Fin 128 → ℝ) (j : Fin 48) (t : Fin 128) : ℝ := ∑ s : Fin 128, L j s * (if s.val ≤ t.val then 1 else 0)
/-- The same relative to the middle of token `t`'s chunk. -/
def dev (L : Fin 48 → Fin 128 → ℝ) (j : Fin 48) (t : Fin 128) : ℝ :=
  ∑ s : Fin 128, L j s * (((if s.val ≤ t.val then 1 else 0) - (if s.val ≤ t.val / 64 * 64 + 32 then 1 else 0))
    * (if s.val / 64 = t.val / 64 then 1 else 0))
/-- The weight of a token's key and value. -/
def wt (L : Fin 48 → Fin 128 → ℝ) (j : Fin 48) (t : Fin 128) : ℝ := 1 - Real.exp (L j t)
def kf (L : Fin 48 → Fin 128 → ℝ) (j : Fin 48) (t : Fin 128) : ℝ := Real.exp (-dev L j t) * wt L j t
def wx (L : Fin 48 → Fin 128 → ℝ) (j : Fin 48) (t : Fin 128) : ℝ := Real.exp (min (pre L j 96 - pre L j t) 0) * wt L j t
def we (L : Fin 48 → Fin 128 → ℝ) (j : Fin 48) (t : Fin 128) : ℝ := Real.exp (pre L j 127 - pre L j t) * wt L j t
/-- Both weights side by side. -/
def jn (L : Fin 48 → Fin 128 → ℝ) (j : Fin 48) (s : Fin 192) : ℝ :=
  if h : s.val < 128 then kf L j ⟨s.val, h⟩ else wx L j ⟨s.val - 128, by omega⟩
/-- Products of key codes and query codes, times the keys' scale. -/
def sc (KC QC : Fin 160 → Fin 128 → ℝ) (SK : Fin 128 → ℝ) (s t : Fin 128) : ℝ :=
  (∑ d, KC d s * QC d t) * (if s.val < 64 then SK 0 else SK 64)
/-- Tokens of one chunk, the first not after the second. -/
def dg (s t : ℕ) : Prop := s ≤ t ∧ (s < 64 ↔ t < 64)
instance (s t : ℕ) : Decidable (dg s t) := by unfold dg; infer_instance
def msk (A : Fin 128 → Fin 128 → ℝ) (s : Fin 192) (t : Fin 128) : ℝ :=
  if h : s.val < 128 then (if dg s.val t.val then A ⟨s.val, h⟩ t else 0)
  else if 64 ≤ t.val then A ⟨s.val - 128, by omega⟩ t else 0
def zi (J : Fin 48 → Fin 192 → ℝ) (R : Fin 192 → Fin 128 → ℝ) (j : Fin 48) (t : Fin 128) : ℝ := ∑ x, J j x * R x t
def zs (KS : Fin 48 → Fin 160 → ℝ) (QC : Fin 160 → Fin 128 → ℝ) (j : Fin 48) (t : Fin 128) : ℝ := ∑ d, KS j d * QC d t
/-- The logits. -/
def zz (L : Fin 48 → Fin 128 → ℝ) (ZI ZS : Fin 48 → Fin 128 → ℝ) (SQ : Fin 128 → ℝ) (j : Fin 48) (t : Fin 128) : ℝ :=
  (Real.exp (dev L j t) * ZI j t + Real.exp (pre L j t) * ZS j t) * (SQ t * (Real.sqrt 160)⁻¹)
/-- The softmax over the slots. -/
def sm (Z : Fin 48 → Fin 128 → ℝ) (j : Fin 48) (t : Fin 128) : ℝ := Real.exp (Z j t) / ∑ x, Real.exp (Z x t)
def mr (J : Fin 48 → Fin 192 → ℝ) (L : Fin 48 → Fin 128 → ℝ) (P : Fin 48 → Fin 128 → ℝ) (s : Fin 192) (t : Fin 128) : ℝ :=
  ∑ j, J j s * (P j t * Real.exp (dev L j t))
def mx (M : Fin 192 → Fin 128 → ℝ) (s t : Fin 128) : ℝ :=
  if s.val < 64 ∧ 64 ≤ t.val then M ⟨128 + s.val % 64, by omega⟩ t
  else if dg s.val t.val then M ⟨s.val, by omega⟩ t else 0
def ou (X : Fin 128 → Fin 128 → ℝ) (V : Fin 160 → Fin 128 → ℝ) (P : Fin 48 → Fin 128 → ℝ) (L : Fin 48 → Fin 128 → ℝ)
    (VS : Fin 48 → Fin 160 → ℝ) (d : Fin 160) (t : Fin 128) : ℝ :=
  ∑ s, V d s * X s t + ∑ j, VS j d * (P j t * Real.exp (pre L j t))
def kn (L : Fin 48 → Fin 128 → ℝ) (SK : Fin 128 → ℝ) (KC : Fin 160 → Fin 128 → ℝ) (KS : Fin 48 → Fin 160 → ℝ)
    (j : Fin 48) (d : Fin 160) : ℝ :=
  Real.exp (pre L j 127) * KS j d + ∑ t, we L j t * SK t * KC d t
def vn (L : Fin 48 → Fin 128 → ℝ) (V : Fin 160 → Fin 128 → ℝ) (VS : Fin 48 → Fin 160 → ℝ) (j : Fin 48) (d : Fin 160) : ℝ :=
  Real.exp (pre L j 127) * VS j d + ∑ t, we L j t * V d t

end Cert.Re
end
-- ==== Proof.PairVec.lean ====
module

public import proofs.«01_k».proof.Proof.Pair

/-! The kernel's stages at real arguments: each stage's vector, at an index, is the real its formula over the reals gives. -/

@[expose] public section
set_option maxRecDepth 16384
noncomputable section
namespace Cert.KernelIdeal.Stage
open Idealize.ShloMosaic Idealize.SL.Sem Cert.KernelIdeal Cert.KernelIdeal.Gen Pointwise Cert.Re WordCmp

variable {L : Fin 48 → Fin 128 → ℝ}

theorem sum_head {M : Type} [AddCommMonoid M] {n m : ℕ} (h : m ≤ n) (f : Fin m → M) :
    ∑ x : Fin n, (if h : x.val < m then f ⟨x.val, h⟩ else 0) = ∑ j : Fin m, f j := by
  obtain ⟨k, rfl⟩ := Nat.exists_eq_add_of_le h
  rw [Fin.sum_univ_add]
  simp

theorem sum_head2 {M : Type} [AddCommMonoid M] (f : Fin 128 → M) (g : Fin 48 → M) :
    ∑ x : Fin 224, (if h : x.val < 128 then f ⟨x.val, h⟩ else if h : x.val - 128 < 48 then g ⟨x.val - 128, h⟩ else 0) = ∑ j, f j + ∑ j, g j := by
  rw [show (∑ x : Fin 224, (if h : x.val < 128 then f ⟨x.val, h⟩ else if h : x.val - 128 < 48 then g ⟨x.val - 128, h⟩ else 0)) = ∑ x : Fin (128 + 96), (if h : x.val < 128 then f ⟨x.val, h⟩ else if h : x.val - 128 < 48 then g ⟨x.val - 128, h⟩ else 0) from rfl, Fin.sum_univ_add]
  refine congrArg₂ _ (Finset.sum_congr rfl fun x _ => by simp) ?_
  rw [← sum_head (n := 96) (m := 48) (by norm_num)]
  exact Finset.sum_congr rfl fun x _ => by simp

theorem gate_re {f : Vec Ideal S1x1x48x128 .bf16} {X : Fin 48 → Fin 128 → ℝ} (hf : ∀ j t, f (ix4 0 0 j t) = ((X j t : ℝ) : EReal))
    (j : Fin 48) (t : Fin 128) : gate f (ix2 j t) = ((lsg (X j t) * (Real.log 2)⁻¹ : ℝ) : EReal) := by
  pointwise [gate]
  have hp : ¬ (1 + Real.exp (-|X j t|) ≤ 0) := by have := Real.exp_pos (-|X j t|); linarith
  have e : FloatOps.absf (F := Ideal) (φ := .f32) (f (ix4 0 0 j t)) = ((|X j t| : ℝ) : EReal) := by
    rw [hf]; exact absf_coe _
  have e2 : |X j t| * -(Real.log 2)⁻¹ = (-|X j t|) * (Real.log 2)⁻¹ := by ring
  rw [e, hf, c_neg_log2e, c_log2e, c_eighth, ← EReal.coe_mul, e2, exp2_nat, one_eq, ← EReal.coe_add, Ideal.log_coe, if_neg hp,
    min_zero]
  simp only [← EReal.coe_mul, ← EReal.coe_sub, ← EReal.coe_add]
  congr 1
  unfold lsg
  ring

theorem weight_re {la : FVec Ideal S48x128 .f32} (h : ∀ j t, la (ix2 j t) = ((L j t * (Real.log 2)⁻¹ : ℝ) : EReal))
    (j : Fin 48) (t : Fin 128) : weight la (ix2 j t) = ((wt L j t : ℝ) : EReal) := by
  pointwise [weight]
  have e : L j t * (Real.log 2)⁻¹ * (1 / 2 * Real.log 2) = L j t / 2 := by
    have : Real.log 2 ≠ 0 := (Real.log_pos (by norm_num)).ne'
    field_simp
  have hd : 1 - Real.tanh (L j t / 2) ≠ 0 := (sub_pos.mpr (Real.tanh_lt_one _)).ne'
  rw [h, c_half_ln2, c_m2, ← EReal.coe_mul, e, Ideal.tanh_coe, one_eq, ← EReal.coe_mul, ← EReal.coe_sub, Cert.Re.div_coe _ hd,
    weight_eq]
  rfl

theorem sums_re {la : FVec Ideal S48x128 .f32} (h : ∀ j t, la (ix2 j t) = ((L j t * (Real.log 2)⁻¹ : ℝ) : EReal))
    {um : Vec Ideal S128x256 .bf16} {U : Fin 128 → Fin 256 → ℝ} (hu : ∀ s t, um (ix2 s t) = ((U s t : ℝ) : EReal))
    (j : Fin 48) (t : Fin 256) : sums la um (ix2 j t) = (((∑ s, L j s * U s t) * (Real.log 2)⁻¹ : ℝ) : EReal) := by
  pointwise [sums]
  simp only [h, hu, ← EReal.coe_sub, ← EReal.coe_mul, sub_self, zero_mul, coe_sum, ← EReal.coe_add, Finset.sum_const_zero, add_zero]
  congr 1
  rw [Finset.sum_mul]
  exact Finset.sum_congr rfl fun s _ => by ring

/-- The scratch's two halves, as reals. -/
def UM (s : Fin 128) (t : Fin 256) : ℝ :=
  if t.val < 128 then (if s.val ≤ t.val then 1 else 0)
  else ((if s.val ≤ t.val - 128 then 1 else 0) - (if s.val ≤ (t.val - 128) / 64 * 64 + 32 then 1 else 0))
    * (if s.val / 64 = (t.val - 128) / 64 then 1 else 0)

section
variable {um : Vec Ideal S128x256 .bf16} (hu : ∀ s t, um (ix2 s t) = ((UM s t : ℝ) : EReal))
  {la : FVec Ideal S48x128 .f32} (h : ∀ j t, la (ix2 j t) = ((L j t * (Real.log 2)⁻¹ : ℝ) : EReal))
include hu h

theorem pre_re (j : Fin 48) (t : Fin 128) : preOf (sums la um) (ix2 j t) = ((pre L j t * (Real.log 2)⁻¹ : ℝ) : EReal) := by
  have e : preOf (sums la um) (ix2 j t) = sums la um (ix2 j ⟨t.val, by omega⟩) := by pointwise [preOf]
  rw [e, sums_re h hu]
  simp only [UM, t.isLt, if_true, pre]

theorem dev_re (j : Fin 48) (t : Fin 128) : devOf (sums la um) (ix2 j t) = ((dev L j t * (Real.log 2)⁻¹ : ℝ) : EReal) := by
  have e : devOf (sums la um) (ix2 j t) = sums la um (ix2 j ⟨128 + t.val, by omega⟩) := by pointwise [devOf]
  rw [e, sums_re h hu]
  have h1 : ¬ (128 + t.val < 128) := by omega
  simp only [UM, h1, if_false, dev, Nat.add_sub_cancel_left]
end

section
variable {p : FVec Ideal S48x128 .f32} (hp : ∀ j t, p (ix2 j t) = ((pre L j t * (Real.log 2)⁻¹ : ℝ) : EReal))
  {d : FVec Ideal S48x128 .f32} (hd : ∀ j t, d (ix2 j t) = ((dev L j t * (Real.log 2)⁻¹ : ℝ) : EReal))
  {w : FVec Ideal S48x128 .f32} (hw : ∀ j t, w (ix2 j t) = ((wt L j t : ℝ) : EReal))

include hp in
theorem pe_re (j : Fin 48) (t : Fin 128) : peOf p (ix2 j t) = ((Real.exp (pre L j t) : ℝ) : EReal) := by
  pointwise [peOf]; rw [hp, exp2_nat]
include hd in
theorem qf_re (j : Fin 48) (t : Fin 128) : qfOf d (ix2 j t) = ((Real.exp (dev L j t) : ℝ) : EReal) := by
  pointwise [qfOf]; rw [hd, exp2_nat]
include hd hw in
theorem kf_re (j : Fin 48) (t : Fin 128) : kfOf d w (ix2 j t) = ((kf L j t : ℝ) : EReal) := by
  pointwise [kfOf]
  rw [hd, hw, zero_eq, ← EReal.coe_sub, show 0 - dev L j t * (Real.log 2)⁻¹ = (-dev L j t) * (Real.log 2)⁻¹ from by ring, exp2_nat,
    ← EReal.coe_mul]
  rfl
include hp hw in
theorem wx_re (j : Fin 48) (t : Fin 128) : wxOf p w (ix2 j t) = ((wx L j t : ℝ) : EReal) := by
  pointwise [wxOf]
  have hc : (0:ℝ) ≤ (Real.log 2)⁻¹ := inv_nonneg.mpr (Real.log_nonneg (by norm_num))
  rw [hp, hp, hw, ← EReal.coe_sub, min_zero, show min (pre L j 96 * (Real.log 2)⁻¹ - pre L j t * (Real.log 2)⁻¹) 0
    = min (pre L j 96 - pre L j t) 0 * (Real.log 2)⁻¹ from by rw [min_mul_of_nonneg _ _ hc]; ring_nf, exp2_nat,
    ← EReal.coe_mul]
  rfl
include hp hw in
theorem we_re (j : Fin 48) (t : Fin 128) : weOf p w (ix2 j t) = ((we L j t : ℝ) : EReal) := by
  pointwise [weOf]
  rw [hp, hp, hw, ← EReal.coe_sub, ← sub_mul, exp2_nat, ← EReal.coe_mul]
  rfl
include hp in
theorem decay_re (j : Fin 48) : decayOf p (ix2 j 0) = ((Real.exp (pre L j 127) : ℝ) : EReal) := by
  pointwise [decayOf]; rw [hp, exp2_nat]
end

section
variable {k : FVec Ideal S48x128 .f32} (hk : ∀ j t, k (ix2 j t) = ((kf L j t : ℝ) : EReal))
  {x : FVec Ideal S48x128 .f32} (hx : ∀ j t, x (ix2 j t) = ((wx L j t : ℝ) : EReal))
include hk hx
theorem join_re (j : Fin 48) (s : Fin 192) : join3 k x (ix2 j s) = ((jn L j s : ℝ) : EReal) := by
  pointwise [join3]
  unfold jn
  split <;> simp only [hk, hx]
theorem joinb_re (j : Fin 48) (s : Fin 192) : join3b k x (ix2 j s) = 0 := by
  pointwise [join3b]
  simp only [hk, hx, ← EReal.coe_sub, sub_self, EReal.coe_zero, dite_eq_ite, ite_self, sub_zero]
theorem joinc_re (j : Fin 48) (s : Fin 192) : join3c k x (ix2 j s) = 0 := by
  pointwise [join3c]
  simp only [hk, hx, ← EReal.coe_sub, sub_self, EReal.coe_zero, dite_eq_ite, ite_self, sub_zero]
end

theorem scores_re {kc qc : FVec Ideal S160x128 .fp8e4m3} {KC QC : Fin 160 → Fin 128 → ℝ} {sr : FVec Ideal S1x128 .f32} {SK : Fin 128 → ℝ}
    (hk : ∀ d t, kc (ix2 d t) = ((KC d t : ℝ) : EReal)) (hq : ∀ d t, qc (ix2 d t) = ((QC d t : ℝ) : EReal))
    (hs : ∀ t, sr (ix2 0 t) = ((SK t : ℝ) : EReal)) (s t : Fin 128) :
    scoresOf kc qc sr (ix2 s t) = ((sc KC QC SK s t : ℝ) : EReal) := by
  pointwise [scoresOf]
  simp only [hk, hq, hs, ← EReal.coe_mul, coe_sum]
  unfold sc
  split <;> rw [← EReal.coe_mul]

theorem diag_bit {s t : ℕ} (hs : s < 128) (ht : t < 128) :
    IntOp.andi (IntOp.cmpi CmpIPredicate.sle (BitVec.ofNat 32 s) (BitVec.ofNat 32 t))
      (IntOp.xori (IntOp.xori (IntOp.cmpi CmpIPredicate.slt (BitVec.ofNat 32 s) 64#32)
        (IntOp.cmpi CmpIPredicate.slt (BitVec.ofNat 32 t) 64#32)) 1#1) = BitVec.ofBool (decide (dg s t)) := by
  rw [cmpi_sle_ofNat (by omega) (by omega), cmpi_slt_ofNat (by omega) (by omega), cmpi_slt_ofNat (by omega) (by omega)]
  unfold dg
  by_cases h1 : s ≤ t <;> by_cases h2 : s < 64 <;> by_cases h3 : t < 64 <;> simp only [h1, h2, h3, decide_true, decide_false, true_and, false_and, iff_self, true_iff, iff_true, false_iff, iff_false, not_true, not_false_iff] <;> rfl

theorem ge_bit {t : ℕ} (ht : t < 128) :
    IntOp.cmpi CmpIPredicate.sge (BitVec.ofNat 32 t) 64#32 = BitVec.ofBool (decide (64 ≤ t)) :=
  cmpi_sge_ofNat (by omega) (by omega)

theorem masked_re {a : FVec Ideal S128x128 .f32} {A : Fin 128 → Fin 128 → ℝ} (ha : ∀ s t, a (ix2 s t) = ((A s t : ℝ) : EReal))
    (s : Fin 192) (t : Fin 128) : maskedOf a (ix2 s t) = ((msk A s t : ℝ) : EReal) := by
  pointwise [maskedOf]
  unfold msk
  rw [ge_bit t.isLt]
  split
  · rename_i h
    rw [diag_bit h t.isLt, select_decide, ha]
    split <;> simp
  · rw [select_decide, ha]
    split <;> simp

section
variable {l0 l1 l2 : FVec Ideal S48x192 .bf16} {J : Fin 48 → Fin 192 → ℝ} (h0 : ∀ j s, l0 (ix2 j s) = ((J j s : ℝ) : EReal))
  (h1 : ∀ j s, l1 (ix2 j s) = 0) (h2 : ∀ j s, l2 (ix2 j s) = 0)
include h0 h1 h2

theorem zi_re {r : FVec Ideal S192x128 .f32} {R : Fin 192 → Fin 128 → ℝ} (hr : ∀ s t, r (ix2 s t) = ((R s t : ℝ) : EReal))
    (j : Fin 48) (t : Fin 128) : ziOf l0 l1 l2 r (ix2 j t) = ((zi J R j t : ℝ) : EReal) := by
  pointwise [ziOf]
  have e1 : ¬ (96 + j.val < 48) := by omega
  have e2 : ¬ (96 + j.val - 48 < 48) := by omega
  simp only [h0, h1, h2, hr, e1, e2, dif_neg, not_false_iff, zero_mul, Finset.sum_const_zero, ← EReal.coe_sub, ← EReal.coe_mul, sub_self,
    mul_zero, EReal.coe_zero, coe_sum, add_zero, sub_zero]
  rfl

theorem mr_re {p qf : FVec Ideal S48x128 .f32} {P : Fin 48 → Fin 128 → ℝ} (hp : ∀ j t, p (ix2 j t) = ((P j t : ℝ) : EReal))
    (hq : ∀ j t, qf (ix2 j t) = ((Real.exp (dev L j t) : ℝ) : EReal))
    (s : Fin 192) (t : Fin 128) : mixRaw l0 l1 l2 p qf (ix2 s t) = ((mr J L P s t : ℝ) : EReal) := by
  pointwise [mixRaw]
  simp only [h0, h1, h2, hp, hq, ← EReal.coe_sub, ← EReal.coe_mul, sub_self, EReal.coe_zero, sub_zero]
  unfold mr
  rw [← add_zero (((∑ j, _ : ℝ)) : EReal)]
  refine congrArg₂ _ ?_ ?_
  · rw [← coe_sum, ← sum_head (M := EReal) (n := 240) (m := 48) (by norm_num)]
    refine Finset.sum_congr rfl fun x _ => ?_
    by_cases a : x.val < 48
    · simp only [dif_pos a, EReal.coe_mul]
    · simp only [dif_neg a]
      split_ifs <;> simp
  · refine Finset.sum_eq_zero fun x _ => ?_
    split_ifs <;> simp
end

theorem mix_re {m : FVec Ideal S192x128 .f32} {M : Fin 192 → Fin 128 → ℝ} (hm : ∀ s t, m (ix2 s t) = ((M s t : ℝ) : EReal))
    (s t : Fin 128) : mixOf m (ix2 s t) = ((mx M s t : ℝ) : EReal) := by
  pointwise [mixOf]
  have e : 64 + (s.val - 64) < 128 := by omega
  unfold mx
  split
  · rename_i h
    have h : s.val < 64 := h
    have e2 : s.val % 64 = s.val := Nat.mod_eq_of_lt h
    rw [ge_bit t.isLt, diag_bit s.isLt t.isLt, select_decide, select_decide]
    simp only [h, true_and, hm, e2]
    split_ifs <;> simp
  · rename_i h
    have h : ¬ (s.val < 64) := h
    have e2 : 64 + (s.val - 64) = s.val := by omega
    rw [diag_bit e t.isLt, select_decide]
    simp only [h, false_and, if_false, hm, e2]
    split_ifs <;> simp

theorem z_re {qf zi pe zs : FVec Ideal S48x128 .f32} {qs : FVec Ideal S1x128 .f32} {ZI ZS : Fin 48 → Fin 128 → ℝ} {SQ : Fin 128 → ℝ}
    (hq : ∀ j t, qf (ix2 j t) = ((Real.exp (dev L j t) : ℝ) : EReal)) (hp : ∀ j t, pe (ix2 j t) = ((Real.exp (pre L j t) : ℝ) : EReal))
    (hi : ∀ j t, zi (ix2 j t) = ((ZI j t : ℝ) : EReal)) (hs : ∀ j t, zs (ix2 j t) = ((ZS j t : ℝ) : EReal))
    (hc : ∀ t, qs (ix2 0 t) = ((SQ t : ℝ) : EReal)) (j : Fin 48) (t : Fin 128) :
    zOf qf zi pe zs qs (ix2 j t) = ((zz L ZI ZS SQ j t * (Real.log 2)⁻¹ : ℝ) : EReal) := by
  pointwise [zOf]
  rw [hq, hp, hi, hs, hc, c_score]
  simp only [← EReal.coe_mul, ← EReal.coe_add]
  congr 1
  unfold zz
  ring

theorem zs_re {ks : FVec Ideal S48x160 .f32} {qc : FVec Ideal S160x128 .fp8e4m3} {KS : Fin 48 → Fin 160 → ℝ} {QC : Fin 160 → Fin 128 → ℝ}
    (hk : ∀ j d, ks (ix2 j d) = ((KS j d : ℝ) : EReal)) (hq : ∀ d t, qc (ix2 d t) = ((QC d t : ℝ) : EReal))
    (j : Fin 48) (t : Fin 128) : zsOf ks qc (ix2 j t) = ((zs KS QC j t : ℝ) : EReal) := by
  pointwise [zsOf]
  have e1 : ¬ (96 + j.val < 48) := by omega
  have e2 : ¬ (96 + j.val - 48 < 48) := by omega
  simp only [hk, hq, e1, e2, dif_neg, not_false_iff, ← EReal.coe_sub, sub_self, EReal.coe_zero, zero_mul, sub_zero, Finset.sum_const_zero, add_zero,
    ← EReal.coe_mul, coe_sum]
  rfl

theorem p_re {z : FVec Ideal S48x128 .f32} {Z : Fin 48 → Fin 128 → ℝ} (hz : ∀ j t, z (ix2 j t) = ((Z j t * (Real.log 2)⁻¹ : ℝ) : EReal))
    (j : Fin 48) (t : Fin 128) : pOf z (ix2 j t) = ((sm Z j t : ℝ) : EReal) := by
  pointwise [pOf]
  have hl : Real.log 2 ≠ 0 := (Real.log_pos (by norm_num)).ne'
  simp only [hz, bot_f32]
  rw [fold_max_coe _ Finset.univ_nonempty]
  generalize Finset.univ.sup' Finset.univ_nonempty (fun x : Fin 48 => Z x t * (Real.log 2)⁻¹) = M
  have hM : M = M * Real.log 2 * (Real.log 2)⁻¹ := by field_simp
  rw [hM]
  generalize M * Real.log 2 = N
  have hp : ∑ x : Fin 48, Real.exp (Z x t - N) ≠ 0 := (Finset.sum_pos (fun x _ => Real.exp_pos _) Finset.univ_nonempty).ne'
  simp only [← EReal.coe_sub, ← sub_mul, exp2_nat, coe_sum]
  rw [Cert.Re.div_coe _ hp]
  congr 1
  unfold sm
  simp only [Real.exp_sub, ← Finset.sum_div]
  have hN := (Real.exp_pos N).ne'
  rw [div_div_div_cancel_right₀ hN]

theorem out_re {m : FVec Ideal S128x128 .f32} {v : Vec Ideal S1x1x160x128 .bf16} {p pe : FVec Ideal S48x128 .f32} {vs : FVec Ideal S48x160 .f32}
    {X : Fin 128 → Fin 128 → ℝ} {V : Fin 160 → Fin 128 → ℝ} {P : Fin 48 → Fin 128 → ℝ} {VS : Fin 48 → Fin 160 → ℝ}
    (hm : ∀ s t, m (ix2 s t) = ((X s t : ℝ) : EReal)) (hv : ∀ d t, v (ix4 0 0 d t) = ((V d t : ℝ) : EReal))
    (hp : ∀ j t, p (ix2 j t) = ((P j t : ℝ) : EReal)) (he : ∀ j t, pe (ix2 j t) = ((Real.exp (pre L j t) : ℝ) : EReal))
    (hs : ∀ j d, vs (ix2 j d) = ((VS j d : ℝ) : EReal)) (d : Fin 160) (t : Fin 128) :
    outOf m v p pe vs (ix2 d t) = ((ou X V P L VS d t : ℝ) : EReal) := by
  pointwise [outOf]
  simp only [hm, hv, hp, he, hs, ← EReal.coe_sub, ← EReal.coe_mul, sub_self, EReal.coe_zero, sub_zero]
  unfold ou
  rw [← add_zero (((_ + _ : ℝ)) : EReal)]
  refine congrArg₂ _ ?_ ?_
  · rw [EReal.coe_add, ← coe_sum, ← coe_sum, ← sum_head2]
    refine Finset.sum_congr rfl fun x _ => ?_
    split_ifs <;> simp
  · rw [← add_zero (0 : EReal)]
    refine congrArg₂ _ ?_ ?_ <;>
    · refine Finset.sum_eq_zero fun x _ => ?_
      split_ifs <;> simp

theorem kn_re {w : FVec Ideal S48x128 .f32} {r : FVec Ideal S1x128 .f32} {kc : FVec Ideal S160x128 .fp8e4m3} {dec : FVec Ideal S48x1 .f32}
    {ks : FVec Ideal S48x160 .f32} {SK : Fin 128 → ℝ} {KC : Fin 160 → Fin 128 → ℝ} {KS : Fin 48 → Fin 160 → ℝ}
    (hw : ∀ j t, w (ix2 j t) = ((we L j t : ℝ) : EReal)) (hr : ∀ t, r (ix2 0 t) = ((SK t : ℝ) : EReal))
    (hc : ∀ d t, kc (ix2 d t) = ((KC d t : ℝ) : EReal)) (hd : ∀ j, dec (ix2 j 0) = ((Real.exp (pre L j 127) : ℝ) : EReal))
    (hk : ∀ j d, ks (ix2 j d) = ((KS j d : ℝ) : EReal)) (j : Fin 48) (d : Fin 160) :
    ksNext w r kc dec ks (ix2 j d) = ((kn L SK KC KS j d : ℝ) : EReal) := by
  pointwise [ksNext]
  have e1 : ¬ (96 + j.val < 48) := by omega
  have e2 : ¬ (96 + j.val - 48 < 48) := by omega
  simp only [hw, hr, hc, hd, hk, e1, e2, dif_neg, not_false_iff, ← EReal.coe_sub, sub_self, EReal.coe_zero, zero_mul, sub_zero, Finset.sum_const_zero, add_zero,
    ← EReal.coe_mul, coe_sum, ← EReal.coe_add]
  rfl

theorem vn_re {w : FVec Ideal S48x128 .f32} {v : Vec Ideal S1x1x160x128 .bf16} {dec : FVec Ideal S48x1 .f32}
    {vs : FVec Ideal S48x160 .f32} {V : Fin 160 → Fin 128 → ℝ} {VS : Fin 48 → Fin 160 → ℝ}
    (hw : ∀ j t, w (ix2 j t) = ((we L j t : ℝ) : EReal)) (hv : ∀ d t, v (ix4 0 0 d t) = ((V d t : ℝ) : EReal))
    (hd : ∀ j, dec (ix2 j 0) = ((Real.exp (pre L j 127) : ℝ) : EReal))
    (hs : ∀ j d, vs (ix2 j d) = ((VS j d : ℝ) : EReal)) (j : Fin 48) (d : Fin 160) :
    vsNext w v dec vs (ix2 j d) = ((vn L V VS j d : ℝ) : EReal) := by
  pointwise [vsNext]
  have e1 : ¬ (96 + j.val < 48) := by omega
  have e2 : ¬ (96 + j.val - 48 < 48) := by omega
  simp only [hw, hv, hd, hs, e1, e2, dif_neg, not_false_iff, ← EReal.coe_sub, sub_self, EReal.coe_zero, zero_mul, sub_zero, Finset.sum_const_zero, add_zero,
    ← EReal.coe_mul, coe_sum, ← EReal.coe_add]
  rfl

end Cert.KernelIdeal.Stage
end
-- ==== Proof.Ladder.lean ====
module

public import proofs.«01_k».proof.Proof.PairVec

/-! The scales' integer words: the scratch's 0/1 tables, the exponent found by eight comparisons, and the powers of two
built from their bits. -/

@[expose] public section
set_option maxRecDepth 16384
noncomputable section
namespace Cert.KernelIdeal.Stage
open Idealize.ShloMosaic Idealize.SL.Sem Cert.KernelIdeal Cert.KernelIdeal.Gen Pointwise Cert.Re WordCmp

/-- A truth value widened and read as a float is 1 or 0. -/
theorem bit_re (p : Prop) [Decidable p] : FloatOps.sitofp (F := Ideal) FTy.f32 (BitVec.setWidth 32 (BitVec.ofBool (decide p))) = ((if p then 1 else 0 : ℝ) : EReal) := by
  show (((BitVec.setWidth 32 (BitVec.ofBool (decide p))).toInt : ℝ) : EReal) = _
  by_cases h : p <;> simp [h]

/-- The printed floor division by 64, on an index. -/
def fl (t : ℕ) : BitVec 32 :=
  Scalar.select
    (IntOp.andi
      (IntOp.cmpi CmpIPredicate.ne
        (IntOp.subi (BitVec.setWidth 32 (IntOp.cmpi CmpIPredicate.sgt (BitVec.ofNat 32 t) 0#32))
          (BitVec.setWidth 32 (IntOp.cmpi CmpIPredicate.slt (BitVec.ofNat 32 t) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 t) 64#32) 0#32))
    (IntOp.subi (IntOp.divsi ArithUnit.vector (BitVec.ofNat 32 t) 64#32) 1#32)
    (IntOp.divsi ArithUnit.vector (BitVec.ofNat 32 t) 64#32)

theorem fl_eq : ∀ t : Fin 128, fl t.val = BitVec.ofNat 32 (t.val / 64) := by decide +kernel
theorem fl_mid : ∀ t : Fin 128, IntOp.addi (IntOp.muli (fl t.val) 64#32) 32#32 = BitVec.ofNat 32 (t.val / 64 * 64 + 32) := by decide +kernel

theorem uLeft_re (s t : Fin 128) : uLeft (F := Ideal) (ix2 s t) = ((UM s ⟨t.val, by omega⟩ : ℝ) : EReal) := by
  pointwise [uLeft]
  rw [cmpi_sle_ofNat (by omega) (by omega), bit_re]
  simp only [UM, t.isLt, if_true]

theorem uRight_re (s t : Fin 128) : uRight (F := Ideal) (ix2 s t) = ((UM s ⟨128 + t.val, by omega⟩ : ℝ) : EReal) := by
  pointwise [uRight]
  have h1 : ¬ (128 + t.val < 128) := by omega
  have e : (FloatOps.sitofp (F := Ideal) FTy.f32 (BitVec.setWidth 32 (IntOp.cmpi CmpIPredicate.sle (BitVec.ofNat 32 s.val) (BitVec.ofNat 32 t.val)))
      - FloatOps.sitofp (F := Ideal) FTy.f32 (BitVec.setWidth 32 (IntOp.cmpi CmpIPredicate.sle (BitVec.ofNat 32 s.val) (IntOp.addi (IntOp.muli (fl t.val) 64#32) 32#32))))
      * FloatOps.sitofp (F := Ideal) FTy.f32 (BitVec.setWidth 32 (IntOp.cmpi CmpIPredicate.eq (fl s.val) (fl t.val))) = ((UM s ⟨128 + t.val, by omega⟩ : ℝ) : EReal) := by
    rw [fl_mid, fl_eq, fl_eq, cmpi_sle_ofNat (by omega) (by omega), cmpi_sle_ofNat (by omega) (by omega), cmpi_eq_ofNat (by omega) (by omega),
      bit_re, bit_re, bit_re, ← EReal.coe_sub, ← EReal.coe_mul]
    simp only [UM, h1, if_false, Nat.add_sub_cancel_left]
  exact e

/-- A power of two's bits. -/
theorem bits_fields : ∀ e : Fin 255, ((BitVec.ofNat 32 e.val <<< 23).extractLsb' 23 8).toNat = e.val
    ∧ ((BitVec.ofNat 32 e.val <<< 23).extractLsb' 0 23).toNat = 0
    ∧ ((BitVec.ofNat 32 e.val <<< 23).extractLsb' 31 1 == 1#1) = false := by decide +kernel

theorem ieee_pow2 (e : ℕ) (h1 : 1 ≤ e) (h2 : e ≤ 254) (b : BitVec 32) (ha : (b.extractLsb' 23 8).toNat = e)
    (hb : (b.extractLsb' 0 23).toNat = 0) (hc : (b.extractLsb' 31 1 == 1#1) = false) :
    Ideal.ieee 8 23 b = (((2:ℝ) ^ ((e:ℤ) - 127) : ℝ) : EReal) := by
  unfold Ideal.ieee
  have ha' : (b.extractLsb' 23 8).toNat = e := ha
  have hc' : (b.extractLsb' (8 + 23) 1 == 1#1) = false := hc
  simp only [ha', hb, hc']
  have g1 : ¬ (e = 2 ^ 8 - 1) := by norm_num; omega
  have g2 : ¬ (e = 0) := by omega
  rw [if_neg g1, if_neg g2]
  congr 1
  norm_num
  rw [show (8388608:ℝ) = (2:ℝ) ^ (23:ℤ) from by norm_num, ← zpow_add₀ (by norm_num)]
  congr 1
  ring

theorem pow2_bits (e : ℕ) (h1 : 1 ≤ e) (h2 : e ≤ 254) :
    Ideal.ofBits FTy.f32 (IntOp.shli ArithUnit.vector (BitVec.ofNat 32 e) 23#32) = (((2:ℝ) ^ ((e:ℤ) - 127) : ℝ) : EReal) := by
  have h := bits_fields ⟨e, Nat.lt_succ_of_le h2⟩
  have hs : IntOp.shli ArithUnit.vector (BitVec.ofNat 32 e) 23#32 = BitVec.ofNat 32 e <<< 23 := by
    unfold IntOp.shli
    rw [if_pos (by decide)]
    rfl
  rw [hs]
  exact ieee_pow2 e h1 h2 _ h.1 h.2.1 h.2.2

/-- One comparison of the ladder: the base and the exponent after it. -/
def nb (y b c : EReal) : EReal := Scalar.select (FloatOps.cmpf (F := Ideal) (φ := .f32) .oge y (b * c)) (b * c) b
def ne (y b c : EReal) (e n : BitVec 32) : BitVec 32 := Scalar.select (FloatOps.cmpf (F := Ideal) (φ := .f32) .oge y (b * c)) (IntOp.addi e n) e

def b0 : EReal := Ideal.ofBits .f32 0x00800000#32
def b1 (y : EReal) := nb y b0 (Ideal.ofBits .f32 0x7F000000#32)
def e1 (y : EReal) := ne y b0 (Ideal.ofBits .f32 0x7F000000#32) 1#32 127#32
def b2 (y : EReal) := nb y (b1 y) (Ideal.ofBits .f32 0x5F800000#32)
def e2 (y : EReal) := ne y (b1 y) (Ideal.ofBits .f32 0x5F800000#32) (e1 y) 64#32
def b3 (y : EReal) := nb y (b2 y) (Ideal.ofBits .f32 0x4F800000#32)
def e3 (y : EReal) := ne y (b2 y) (Ideal.ofBits .f32 0x4F800000#32) (e2 y) 32#32
def b4 (y : EReal) := nb y (b3 y) (Ideal.ofBits .f32 0x47800000#32)
def e4 (y : EReal) := ne y (b3 y) (Ideal.ofBits .f32 0x47800000#32) (e3 y) 16#32
def b5 (y : EReal) := nb y (b4 y) (Ideal.ofBits .f32 0x43800000#32)
def e5 (y : EReal) := ne y (b4 y) (Ideal.ofBits .f32 0x43800000#32) (e4 y) 8#32
def b6 (y : EReal) := nb y (b5 y) (Ideal.ofBits .f32 0x41800000#32)
def e6 (y : EReal) := ne y (b5 y) (Ideal.ofBits .f32 0x41800000#32) (e5 y) 4#32
def b7 (y : EReal) := nb y (b6 y) (Ideal.ofBits .f32 0x40800000#32)
def e7 (y : EReal) := ne y (b6 y) (Ideal.ofBits .f32 0x40800000#32) (e6 y) 2#32
def e8 (y : EReal) := ne y (b7 y) (Ideal.ofBits .f32 0x40000000#32) (e7 y) 1#32

theorem field_apply (y : FVec Ideal S8x128 .f32) (i : S8x128.Idx) :
    fieldOf y i = Scalar.select (FloatOps.cmpf (F := Ideal) (φ := .f32) .olt (y i) b0) 0#32 (IntOp.subi (e8 (y i)) 126#32) := rfl

/-- What a step keeps: the base is a power of two at most `y`, the exponent word names it, and `y` is less than `2 ^ k` bases. -/
def Inv (y : ℝ) (b : EReal) (e : BitVec 32) (k : ℕ) : Prop :=
  ∃ n : ℕ, b = (((2:ℝ) ^ ((n:ℤ) - 127) : ℝ) : EReal) ∧ e = BitVec.ofNat 32 n ∧ 1 ≤ n ∧ (2:ℝ) ^ ((n:ℤ) - 127) ≤ y ∧ y < (2:ℝ) ^ ((n:ℤ) - 127 + k)

theorem inv_step {y : ℝ} {b c : EReal} {e : BitVec 32} {k m : ℕ} (h : Inv y b e k) (hc : c = (((2:ℝ) ^ (m:ℤ) : ℝ) : EReal)) (hk : k ≤ 2 * m) :
    Inv y (nb y b c) (ne y b c e (BitVec.ofNat 32 m)) m := by
  obtain ⟨n, rfl, rfl, h1, h2, h3⟩ := h
  subst hc
  unfold nb ne
  have hm : ((((2:ℝ) ^ ((n:ℤ) - 127) : ℝ) : EReal)) * (((2:ℝ) ^ (m:ℤ) : ℝ) : EReal) = (((2:ℝ) ^ ((n:ℤ) - 127 + m) : ℝ) : EReal) := by
    rw [← EReal.coe_mul, zpow_add₀ (by norm_num)]
  rw [hm]
  by_cases hy : (2:ℝ) ^ ((n:ℤ) - 127 + m) ≤ y
  · have hb : FloatOps.cmpf (F := Ideal) (φ := .f32) .oge (y : EReal) (((2:ℝ) ^ ((n:ℤ) - 127 + m) : ℝ) : EReal) = 1#1 := by
      show BitVec.ofBool (decide ((((2:ℝ) ^ ((n:ℤ) - 127 + m) : ℝ) : EReal) ≤ (y : EReal))) = 1#1
      rw [decide_eq_true (EReal.coe_le_coe_iff.mpr hy)]; rfl
    rw [hb]
    refine ⟨n + m, ?_, ?_, by omega, ?_, ?_⟩
    · rw [select_one]; push_cast; ring_nf
    · rw [select_one]; simp [IntOp.addi, BitVec.ofNat_add]
    · push_cast; rw [show (n:ℤ) + m - 127 = n - 127 + m from by ring]; exact hy
    · refine h3.trans_le (zpow_le_zpow_right₀ (by norm_num) ?_)
      push_cast; omega
  · have hb : FloatOps.cmpf (F := Ideal) (φ := .f32) .oge (y : EReal) (((2:ℝ) ^ ((n:ℤ) - 127 + m) : ℝ) : EReal) = 0#1 := by
      show BitVec.ofBool (decide ((((2:ℝ) ^ ((n:ℤ) - 127 + m) : ℝ) : EReal) ≤ (y : EReal))) = 0#1
      rw [decide_eq_false (fun h => hy (EReal.coe_le_coe_iff.mp h))]; rfl
    rw [hb]
    exact ⟨n, rfl, rfl, h1, h2, not_le.mp hy⟩

/-- The exponent of a scale: zero below the smallest normal number. -/
def expo (y : ℝ) : ℤ := if y < (2:ℝ) ^ (-126:ℤ) then 0 else ⌊Real.log y / Real.log 2⌋ + 1
/-- The scale. -/
def scl (y : ℝ) : ℝ := (2:ℝ) ^ expo y

theorem c_two (m : ℕ) (w : BitVec 32) (hm : m ≤ 127) (h : w = IntOp.shli ArithUnit.vector (BitVec.ofNat 32 (127 + m)) 23#32) :
    Ideal.ofBits .f32 w = (((2:ℝ) ^ (m:ℤ) : ℝ) : EReal) := by
  rw [h, pow2_bits _ (by omega) (by omega)]
  congr 2
  push_cast; ring

theorem b0_eq : b0 = (((2:ℝ) ^ (-126:ℤ) : ℝ) : EReal) := by
  have := pow2_bits 1 (by norm_num) (by norm_num)
  rw [show (2:ℝ) ^ (-126:ℤ) = (2:ℝ) ^ (((1:ℕ):ℤ) - 127) from by norm_num, ← this]
  rfl

theorem field_re {v : FVec Ideal S8x128 .f32} {i : S8x128.Idx} {y : ℝ} (h : v i = (y : EReal)) (hy : y < (2:ℝ) ^ (120:ℤ)) :
    ∃ n : ℕ, fieldOf v i = BitVec.ofNat 32 n - 126#32 ∧ 1 ≤ n ∧ n ≤ 247 ∧ ((n:ℤ) - 126 = expo y) := by
  rw [field_apply, h]
  by_cases hl : y < (2:ℝ) ^ (-126:ℤ)
  · have hb : FloatOps.cmpf (F := Ideal) (φ := .f32) .olt (y : EReal) b0 = 1#1 := by
      rw [b0_eq]
      show BitVec.ofBool (decide ((y : EReal) < (((2:ℝ) ^ (-126:ℤ) : ℝ) : EReal))) = 1#1
      rw [decide_eq_true (EReal.coe_lt_coe_iff.mpr hl)]; rfl
    rw [hb]
    exact ⟨126, rfl, by norm_num, by norm_num, by unfold expo; rw [if_pos hl]; rfl⟩
  · have hb : FloatOps.cmpf (F := Ideal) (φ := .f32) .olt (y : EReal) b0 = 0#1 := by
      rw [b0_eq]
      show BitVec.ofBool (decide ((y : EReal) < (((2:ℝ) ^ (-126:ℤ) : ℝ) : EReal))) = 0#1
      rw [decide_eq_false (fun h => hl (EReal.coe_lt_coe_iff.mp h))]; rfl
    rw [hb]
    have hl' := not_lt.mp hl
    have i0 : Inv y b0 1#32 254 := ⟨1, by rw [b0_eq]; norm_num, rfl, le_rfl, by norm_num at hl' ⊢; exact hl',
      hy.trans_le (zpow_le_zpow_right₀ (by norm_num) (by norm_num))⟩
    have i1 : Inv y (b1 y) (e1 y) 127 := inv_step i0 (c_two 127 _ (by norm_num) rfl) (by norm_num)
    have i2 : Inv y (b2 y) (e2 y) 64 := inv_step i1 (c_two 64 _ (by norm_num) rfl) (by norm_num)
    have i3 : Inv y (b3 y) (e3 y) 32 := inv_step i2 (c_two 32 _ (by norm_num) rfl) (by norm_num)
    have i4 : Inv y (b4 y) (e4 y) 16 := inv_step i3 (c_two 16 _ (by norm_num) rfl) (by norm_num)
    have i5 : Inv y (b5 y) (e5 y) 8 := inv_step i4 (c_two 8 _ (by norm_num) rfl) (by norm_num)
    have i6 : Inv y (b6 y) (e6 y) 4 := inv_step i5 (c_two 4 _ (by norm_num) rfl) (by norm_num)
    have i7 : Inv y (b7 y) (e7 y) 2 := inv_step i6 (c_two 2 _ (by norm_num) rfl) (by norm_num)
    obtain ⟨n, -, h2, h3, h4, h5⟩ : Inv y (nb y (b7 y) (Ideal.ofBits .f32 0x40000000#32)) (e8 y) 1 :=
      inv_step i7 (c_two 1 _ (by norm_num) rfl) (by norm_num)
    have hy0 : 0 < y := lt_of_lt_of_le (by positivity) hl'
    have hlog : 0 < Real.log 2 := Real.log_pos (by norm_num)
    refine ⟨n, ?_, h3, ?_, ?_⟩
    · rw [select_zero, h2]; rfl
    · have := (zpow_lt_zpow_iff_right₀ (by norm_num : (1:ℝ) < 2)).mp (h4.trans_lt hy)
      omega
    · unfold expo
      rw [if_neg hl]
      have : ⌊Real.log y / Real.log 2⌋ = (n:ℤ) - 127 := by
        rw [Int.floor_eq_iff]
        constructor
        · rw [le_div_iff₀ hlog, ← Real.log_zpow]
          exact Real.log_le_log (by positivity) h4
        · rw [div_lt_iff₀ hlog]
          have := Real.log_lt_log hy0 h5
          rw [Real.log_zpow] at this
          push_cast at this ⊢
          exact this
      rw [this]; ring

theorem scale_re {v : FVec Ideal S8x128 .f32} {i : Fin 8} {t : Fin 128} {y : ℝ} (h : v (ix2 i t) = (y : EReal)) (hy : y < (2:ℝ) ^ (120:ℤ)) :
    scaleOf (F := Ideal) (fieldOf v) (ix2 i t) = ((scl y : ℝ) : EReal) := by
  obtain ⟨n, h1, h2, h3, h4⟩ := field_re h hy
  pointwise [scaleOf]
  rw [h1]
  have e : IntOp.addi (BitVec.ofNat 32 n - 126#32) 127#32 = BitVec.ofNat 32 (n + 1) := by
    rw [BitVec.ofNat_add]
    unfold IntOp.addi
    generalize BitVec.ofNat 32 n = x
    rw [BitVec.sub_eq_add_neg, BitVec.add_assoc]; rfl
  rw [e, pow2_bits _ (by omega) (by omega), scl, ← h4]
  congr 2
  push_cast; ring

theorem inv_re {v : FVec Ideal S8x128 .f32} {i : Fin 8} {t : Fin 128} {y : ℝ} (h : v (ix2 i t) = (y : EReal)) (hy : y < (2:ℝ) ^ (120:ℤ)) :
    invOf (F := Ideal) (fieldOf v) (ix2 i t) = (((scl y)⁻¹ : ℝ) : EReal) := by
  obtain ⟨n, h1, h2, h3, h4⟩ := field_re h hy
  pointwise [invOf]
  rw [h1]
  have e : IntOp.subi 127#32 (BitVec.ofNat 32 n - 126#32) = BitVec.ofNat 32 (253 - n) := by
    have h : (253 - n) + n = 253 := by omega
    have h' : BitVec.ofNat 32 (253 - n) + BitVec.ofNat 32 n = 253#32 := by rw [← BitVec.ofNat_add, h]
    unfold IntOp.subi
    rw [← BitVec.add_sub_cancel (BitVec.ofNat 32 (253 - n)) (BitVec.ofNat 32 n), h']
    generalize BitVec.ofNat 32 n = x
    simp only [BitVec.sub_eq_add_neg]
    rw [BitVec.neg_add]
    simp only [BitVec.sub_eq_add_neg, BitVec.neg_neg]
    rw [BitVec.add_comm (-x), ← BitVec.add_assoc]; rfl
  rw [e, pow2_bits _ (by omega) (by omega), scl, ← h4, ← zpow_neg]
  congr 2
  omega

end Cert.KernelIdeal.Stage
end
-- ==== Proof.Scales.lean ====
module

public import proofs.«01_k».proof.Proof.Ladder

/-! The scales, their reciprocals and the codes of a block of 1024 tokens, over the reals. -/

@[expose] public section
set_option maxRecDepth 16384
noncomputable section
namespace Cert.KernelIdeal.Stage
open Idealize.ShloMosaic Idealize.SL.Sem Cert.KernelIdeal Cert.KernelIdeal.Gen Pointwise Cert.Re WordCmp

/-- The largest magnitude of chunk `c`. -/
def am (X : Fin 160 → ℕ → ℝ) (c : ℕ) : ℝ :=
  (Finset.univ : Finset (Fin 64 × Fin 160)).sup' Finset.univ_nonempty (fun p => |X p.2 (64 * c + p.1.val)|)
/-- The constant 1/448, rounded. -/
def k448 : ℝ := 9586981 * (2:ℝ) ^ (-32:ℤ)
theorem c_k448 : Ideal.ofBits FTy.f32 991054117#32 = ((k448 : ℝ) : EReal) := by
  unfold k448
  simp [Ideal.ofBits, Ideal.ieee, -EReal.coe_mul]
/-- The scale of chunk `c`. -/
def sl (X : Fin 160 → ℕ → ℝ) (c : ℕ) : ℝ := scl (am X c * k448)
/-- The codes. -/
def cd (X : Fin 160 → ℕ → ℝ) (d : Fin 160) (s : ℕ) : ℝ := min 448 (max (-448) (X d s * (sl X (s / 64))⁻¹))

variable {X : Vec Ideal S1x1x160x1024 .bf16} {Xr : Fin 160 → ℕ → ℝ}

section
variable (hX : ∀ d (s : ℕ) (hs : s < 1024), X (ix4 0 0 d ⟨s, hs⟩) = ((Xr d s : ℝ) : EReal))
include hX
theorem blk0_re (d : Fin 160) (t : Fin 128) : blk0 X (ix4 0 0 d t) = ((Xr d (128 * 0 + t.val) : ℝ) : EReal) := by
  rw [← hX d (128 * 0 + t.val) (by omega)]
  refine View.ld_unit_apply_of _ _ _ _ _ _ (fun a => ?_)
  fin_cases a <;> simp [ix4]
theorem blk1_re (d : Fin 160) (t : Fin 128) : blk1 X (ix4 0 0 d t) = ((Xr d (128 * 1 + t.val) : ℝ) : EReal) := by
  rw [← hX d (128 * 1 + t.val) (by omega)]
  refine View.ld_unit_apply_of _ _ _ _ _ _ (fun a => ?_)
  fin_cases a <;> simp [ix4]
theorem blk2_re (d : Fin 160) (t : Fin 128) : blk2 X (ix4 0 0 d t) = ((Xr d (128 * 2 + t.val) : ℝ) : EReal) := by
  rw [← hX d (128 * 2 + t.val) (by omega)]
  refine View.ld_unit_apply_of _ _ _ _ _ _ (fun a => ?_)
  fin_cases a <;> simp [ix4]
theorem blk3_re (d : Fin 160) (t : Fin 128) : blk3 X (ix4 0 0 d t) = ((Xr d (128 * 3 + t.val) : ℝ) : EReal) := by
  rw [← hX d (128 * 3 + t.val) (by omega)]
  refine View.ld_unit_apply_of _ _ _ _ _ _ (fun a => ?_)
  fin_cases a <;> simp [ix4]
theorem blk4_re (d : Fin 160) (t : Fin 128) : blk4 X (ix4 0 0 d t) = ((Xr d (128 * 4 + t.val) : ℝ) : EReal) := by
  rw [← hX d (128 * 4 + t.val) (by omega)]
  refine View.ld_unit_apply_of _ _ _ _ _ _ (fun a => ?_)
  fin_cases a <;> simp [ix4]
theorem blk5_re (d : Fin 160) (t : Fin 128) : blk5 X (ix4 0 0 d t) = ((Xr d (128 * 5 + t.val) : ℝ) : EReal) := by
  rw [← hX d (128 * 5 + t.val) (by omega)]
  refine View.ld_unit_apply_of _ _ _ _ _ _ (fun a => ?_)
  fin_cases a <;> simp [ix4]
theorem blk6_re (d : Fin 160) (t : Fin 128) : blk6 X (ix4 0 0 d t) = ((Xr d (128 * 6 + t.val) : ℝ) : EReal) := by
  rw [← hX d (128 * 6 + t.val) (by omega)]
  refine View.ld_unit_apply_of _ _ _ _ _ _ (fun a => ?_)
  fin_cases a <;> simp [ix4]
theorem blk7_re (d : Fin 160) (t : Fin 128) : blk7 X (ix4 0 0 d t) = ((Xr d (128 * 7 + t.val) : ℝ) : EReal) := by
  rw [← hX d (128 * 7 + t.val) (by omega)]
  refine View.ld_unit_apply_of _ _ _ _ _ _ (fun a => ?_)
  fin_cases a <;> simp [ix4]
end

theorem absRow_re {x : Vec Ideal S1x1x160x128 .bf16} {R : Fin 160 → Fin 128 → ℝ} (h : ∀ d t, x (ix4 0 0 d t) = ((R d t : ℝ) : EReal))
    (a : Fin 1) (t : Fin 128) : absRow x (ix2 a t) = ((Finset.univ.sup' Finset.univ_nonempty (fun d => |R d t|) : ℝ) : EReal) := by
  rw [Subsingleton.elim a 0]
  pointwise [absRow]
  have e : ∀ d, FloatOps.absf (F := Ideal) (φ := .bf16) (x (ix4 0 0 d t)) = ((|R d t| : ℝ) : EReal) := fun d => by
    rw [h]; exact absf_coe_bf16 _
  simp only [e, bot_f32]
  exact fold_max_coe _ Finset.univ_nonempty _

section
variable {r0 r1 r2 r3 r4 r5 r6 r7 : FVec Ideal S1x128 .f32} {R : ℕ → Fin 128 → ℝ}
  (h0 : ∀ (a : Fin 1) t, r0 (ix2 a t) = ((R 0 t : ℝ) : EReal))
  (h1 : ∀ (a : Fin 1) t, r1 (ix2 a t) = ((R 1 t : ℝ) : EReal))
  (h2 : ∀ (a : Fin 1) t, r2 (ix2 a t) = ((R 2 t : ℝ) : EReal))
  (h3 : ∀ (a : Fin 1) t, r3 (ix2 a t) = ((R 3 t : ℝ) : EReal))
  (h4 : ∀ (a : Fin 1) t, r4 (ix2 a t) = ((R 4 t : ℝ) : EReal))
  (h5 : ∀ (a : Fin 1) t, r5 (ix2 a t) = ((R 5 t : ℝ) : EReal))
  (h6 : ∀ (a : Fin 1) t, r6 (ix2 a t) = ((R 6 t : ℝ) : EReal))
  (h7 : ∀ (a : Fin 1) t, r7 (ix2 a t) = ((R 7 t : ℝ) : EReal))

theorem ladder_re (i : Fin 8) (x : Fin 128) :
    (if i.val < 1 then ((R 0 x : ℝ) : EReal) else if i.val - 1 < 1 then ((R 1 x : ℝ) : EReal) else if i.val - 1 - 1 < 1 then ((R 2 x : ℝ) : EReal)
      else if i.val - 1 - 1 - 1 < 1 then ((R 3 x : ℝ) : EReal) else if i.val - 1 - 1 - 1 - 1 < 1 then ((R 4 x : ℝ) : EReal)
      else if i.val - 1 - 1 - 1 - 1 - 1 < 1 then ((R 5 x : ℝ) : EReal) else if i.val - 1 - 1 - 1 - 1 - 1 - 1 < 1 then ((R 6 x : ℝ) : EReal)
      else ((R 7 x : ℝ) : EReal)) = ((R i.val x : ℝ) : EReal) := by
  fin_cases i <;> rfl

include h0 h1 h2 h3 h4 h5 h6 h7 in
theorem halfMax_re (i : Fin 8) (t : Fin 128) : halfMax r0 r1 r2 r3 r4 r5 r6 r7 (ix2 i t) =
    ((if t.val < 64 then Finset.univ.sup' Finset.univ_nonempty (fun x : Fin 128 => if x.val < 64 then R i.val x else 0)
      else Finset.univ.sup' Finset.univ_nonempty (fun x : Fin 128 => if x.val < 64 then 0 else R i.val x) : ℝ) : EReal) := by
  pointwise [halfMax]
  simp only [h0, h1, h2, h3, h4, h5, h6, h7, dite_eq_ite, ladder_re, bot_f32]
  have e1 : ∀ x : Fin 128, Scalar.select (IntOp.cmpi CmpIPredicate.slt (BitVec.ofNat 32 x.val) 64#32) ((R i.val x : ℝ) : EReal) 0
      = ((if x.val < 64 then R i.val x else 0 : ℝ) : EReal) := fun x => by
    rw [cmpi_slt_ofNat (by omega) (by omega), select_decide]; split <;> rfl
  have e2 : ∀ x : Fin 128, Scalar.select (IntOp.cmpi CmpIPredicate.slt (BitVec.ofNat 32 x.val) 64#32) 0 ((R i.val x : ℝ) : EReal)
      = ((if x.val < 64 then 0 else R i.val x : ℝ) : EReal) := fun x => by
    rw [cmpi_slt_ofNat (by omega) (by omega), select_decide]; split <;> rfl
  simp only [e1, e2]
  rw [fold_max_coe _ Finset.univ_nonempty, fold_max_coe _ Finset.univ_nonempty, cmpi_slt_ofNat (by omega) (by omega), select_decide]
  split <;> rfl
end

theorem am_nonneg (Y : Fin 160 → ℕ → ℝ) (c : ℕ) : 0 ≤ am Y c :=
  (abs_nonneg _).trans (Finset.le_sup' (fun p : Fin 64 × Fin 160 => |Y p.2 (64 * c + p.1.val)|) (Finset.mem_univ (0, 0)))

theorem am_lo (Y : Fin 160 → ℕ → ℝ) (i : ℕ) :
    Finset.univ.sup' Finset.univ_nonempty (fun x : Fin 128 => if x.val < 64 then Finset.univ.sup' Finset.univ_nonempty (fun d => |Y d (128 * i + x.val)|) else 0)
      = am Y (2 * i) := by
  apply le_antisymm
  · refine Finset.sup'_le _ _ fun x _ => ?_
    split
    · rename_i h
      refine Finset.sup'_le _ _ fun d _ => ?_
      rw [show 128 * i + x.val = 64 * (2 * i) + x.val from by ring]
      exact Finset.le_sup' (fun p : Fin 64 × Fin 160 => |Y p.2 (64 * (2 * i) + p.1.val)|) (Finset.mem_univ (⟨x.val, h⟩, d))
    · exact am_nonneg _ _
  · refine Finset.sup'_le _ _ fun p _ => ?_
    refine le_trans ?_ (Finset.le_sup' _ (Finset.mem_univ (⟨p.1.val, by omega⟩ : Fin 128)))
    rw [if_pos p.1.isLt, show 64 * (2 * i) + p.1.val = 128 * i + p.1.val from by ring]
    exact Finset.le_sup' (fun d => |Y d (128 * i + p.1.val)|) (Finset.mem_univ p.2)

theorem am_hi (Y : Fin 160 → ℕ → ℝ) (i : ℕ) :
    Finset.univ.sup' Finset.univ_nonempty (fun x : Fin 128 => if x.val < 64 then 0 else Finset.univ.sup' Finset.univ_nonempty (fun d => |Y d (128 * i + x.val)|))
      = am Y (2 * i + 1) := by
  apply le_antisymm
  · refine Finset.sup'_le _ _ fun x _ => ?_
    split
    · exact am_nonneg _ _
    · rename_i h
      refine Finset.sup'_le _ _ fun d _ => ?_
      rw [show 128 * i + x.val = 64 * (2 * i + 1) + (x.val - 64) from by omega]
      exact Finset.le_sup' (fun p : Fin 64 × Fin 160 => |Y p.2 (64 * (2 * i + 1) + p.1.val)|) (Finset.mem_univ (⟨x.val - 64, by omega⟩, d))
  · refine Finset.sup'_le _ _ fun p _ => ?_
    refine le_trans ?_ (Finset.le_sup' _ (Finset.mem_univ (⟨64 + p.1.val, by omega⟩ : Fin 128)))
    rw [if_neg (by simp), show 64 * (2 * i + 1) + p.1.val = 128 * i + (64 + p.1.val) from by ring]
    exact Finset.le_sup' (fun d => |Y d (128 * i + (64 + p.1.val))|) (Finset.mem_univ p.2)

section
variable (hX : ∀ d (s : ℕ) (hs : s < 1024), X (ix4 0 0 d ⟨s, hs⟩) = ((Xr d s : ℝ) : EReal))
include hX

/-- The vector the exponents are taken of. -/
theorem over_re (i : Fin 8) (t : Fin 128) :
    overMax (halfMax (absRow (blk0 X)) (absRow (blk1 X)) (absRow (blk2 X)) (absRow (blk3 X)) (absRow (blk4 X)) (absRow (blk5 X)) (absRow (blk6 X)) (absRow (blk7 X))) (ix2 i t)
      = ((am Xr (2 * i.val + t.val / 64) * k448 : ℝ) : EReal) := by
  have e : ∀ v : FVec Ideal S8x128 .f32, overMax v (ix2 i t) = v (ix2 i t) * Ideal.ofBits FTy.f32 991054117#32 := fun v => by pointwise [overMax]
  have h := halfMax_re (R := fun i x => Finset.univ.sup' Finset.univ_nonempty (fun d => |Xr d (128 * i + x.val)|))
    (absRow_re (blk0_re hX)) (absRow_re (blk1_re hX)) (absRow_re (blk2_re hX)) (absRow_re (blk3_re hX)) (absRow_re (blk4_re hX)) (absRow_re (blk5_re hX))
    (absRow_re (blk6_re hX)) (absRow_re (blk7_re hX)) i t
  have h2 := h.trans (congrArg (fun r : ℝ => (r : EReal)) (if_congr Iff.rfl (am_lo Xr i.val) (am_hi Xr i.val)))
  refine ((e _).trans (congrArg₂ _ h2 c_k448)).trans ?_
  rw [← EReal.coe_mul]
  by_cases ht : t.val < 64
  · rw [if_pos ht, Nat.div_eq_of_lt ht, add_zero]
  · rw [if_neg ht, show t.val / 64 = 1 from by omega]

variable (hB : ∀ c, am Xr c * k448 < (2:ℝ) ^ (120:ℤ))
include hB

theorem scales_re (i : Fin 8) (t : Fin 128) : scales X (ix2 i t) = ((sl Xr (2 * i.val + t.val / 64) : ℝ) : EReal) :=
  scale_re (over_re hX i t) (hB _)
theorem invs_re (i : Fin 8) (t : Fin 128) : invs X (ix2 i t) = (((sl Xr (2 * i.val + t.val / 64))⁻¹ : ℝ) : EReal) :=
  inv_re (over_re hX i t) (hB _)
end

theorem codes_re {x : Vec Ideal S1x1x160x128 .bf16} {v : FVec Ideal S1x128 .f32} {R : Fin 160 → Fin 128 → ℝ} {I : Fin 128 → ℝ}
    (h : ∀ d t, x (ix4 0 0 d t) = ((R d t : ℝ) : EReal)) (hi : ∀ t, v (ix2 0 t) = ((I t : ℝ) : EReal)) (d : Fin 160) (t : Fin 128) :
    codes x v (ix2 d t) = ((min 448 (max (-448) (R d t * I t)) : ℝ) : EReal) := by
  pointwise [codes]
  simp only [dite_eq_ite, ite_self, h, hi, c_448, c_m448, ← EReal.coe_mul, ← coe_max, ← coe_min]

section
variable (hX : ∀ d (s : ℕ) (hs : s < 1024), X (ix4 0 0 d ⟨s, hs⟩) = ((Xr d s : ℝ) : EReal))
variable (hB : ∀ c, am Xr c * k448 < (2:ℝ) ^ (120:ℤ))
include hX hB
theorem srow0_re (t : Fin 128) : row0 (scales X) (ix2 0 t) = ((sl Xr (2 * 0 + t.val / 64) : ℝ) : EReal) := by
  have e : row0 (scales X) (ix2 0 t) = scales X (ix2 0 t) := by pointwise [row0]
  rw [e, scales_re hX hB]; rfl
theorem codes0_re (d : Fin 160) (t : Fin 128) : codes (blk0 X) (row0 (invs X)) (ix2 d t) = ((cd Xr d (128 * 0 + t.val) : ℝ) : EReal) := by
  have e : ∀ t, row0 (invs X) (ix2 0 t) = (((sl Xr (2 * 0 + t.val / 64))⁻¹ : ℝ) : EReal) := fun t => by
    have e : row0 (invs X) (ix2 0 t) = invs X (ix2 0 t) := by pointwise [row0]
    rw [e, invs_re hX hB]; rfl
  rw [codes_re (blk0_re hX) e]
  unfold cd
  rw [show (128 * 0 + t.val) / 64 = 2 * 0 + t.val / 64 from by omega]
theorem srow1_re (t : Fin 128) : row1 (scales X) (ix2 0 t) = ((sl Xr (2 * 1 + t.val / 64) : ℝ) : EReal) := by
  have e : row1 (scales X) (ix2 0 t) = scales X (ix2 1 t) := by pointwise [row1]
  rw [e, scales_re hX hB]; rfl
theorem codes1_re (d : Fin 160) (t : Fin 128) : codes (blk1 X) (row1 (invs X)) (ix2 d t) = ((cd Xr d (128 * 1 + t.val) : ℝ) : EReal) := by
  have e : ∀ t, row1 (invs X) (ix2 0 t) = (((sl Xr (2 * 1 + t.val / 64))⁻¹ : ℝ) : EReal) := fun t => by
    have e : row1 (invs X) (ix2 0 t) = invs X (ix2 1 t) := by pointwise [row1]
    rw [e, invs_re hX hB]; rfl
  rw [codes_re (blk1_re hX) e]
  unfold cd
  rw [show (128 * 1 + t.val) / 64 = 2 * 1 + t.val / 64 from by omega]
theorem srow2_re (t : Fin 128) : row2 (scales X) (ix2 0 t) = ((sl Xr (2 * 2 + t.val / 64) : ℝ) : EReal) := by
  have e : row2 (scales X) (ix2 0 t) = scales X (ix2 2 t) := by pointwise [row2]
  rw [e, scales_re hX hB]; rfl
theorem codes2_re (d : Fin 160) (t : Fin 128) : codes (blk2 X) (row2 (invs X)) (ix2 d t) = ((cd Xr d (128 * 2 + t.val) : ℝ) : EReal) := by
  have e : ∀ t, row2 (invs X) (ix2 0 t) = (((sl Xr (2 * 2 + t.val / 64))⁻¹ : ℝ) : EReal) := fun t => by
    have e : row2 (invs X) (ix2 0 t) = invs X (ix2 2 t) := by pointwise [row2]
    rw [e, invs_re hX hB]; rfl
  rw [codes_re (blk2_re hX) e]
  unfold cd
  rw [show (128 * 2 + t.val) / 64 = 2 * 2 + t.val / 64 from by omega]
theorem srow3_re (t : Fin 128) : row3 (scales X) (ix2 0 t) = ((sl Xr (2 * 3 + t.val / 64) : ℝ) : EReal) := by
  have e : row3 (scales X) (ix2 0 t) = scales X (ix2 3 t) := by pointwise [row3]
  rw [e, scales_re hX hB]; rfl
theorem codes3_re (d : Fin 160) (t : Fin 128) : codes (blk3 X) (row3 (invs X)) (ix2 d t) = ((cd Xr d (128 * 3 + t.val) : ℝ) : EReal) := by
  have e : ∀ t, row3 (invs X) (ix2 0 t) = (((sl Xr (2 * 3 + t.val / 64))⁻¹ : ℝ) : EReal) := fun t => by
    have e : row3 (invs X) (ix2 0 t) = invs X (ix2 3 t) := by pointwise [row3]
    rw [e, invs_re hX hB]; rfl
  rw [codes_re (blk3_re hX) e]
  unfold cd
  rw [show (128 * 3 + t.val) / 64 = 2 * 3 + t.val / 64 from by omega]
theorem srow4_re (t : Fin 128) : row4 (scales X) (ix2 0 t) = ((sl Xr (2 * 4 + t.val / 64) : ℝ) : EReal) := by
  have e : row4 (scales X) (ix2 0 t) = scales X (ix2 4 t) := by pointwise [row4]
  rw [e, scales_re hX hB]; rfl
theorem codes4_re (d : Fin 160) (t : Fin 128) : codes (blk4 X) (row4 (invs X)) (ix2 d t) = ((cd Xr d (128 * 4 + t.val) : ℝ) : EReal) := by
  have e : ∀ t, row4 (invs X) (ix2 0 t) = (((sl Xr (2 * 4 + t.val / 64))⁻¹ : ℝ) : EReal) := fun t => by
    have e : row4 (invs X) (ix2 0 t) = invs X (ix2 4 t) := by pointwise [row4]
    rw [e, invs_re hX hB]; rfl
  rw [codes_re (blk4_re hX) e]
  unfold cd
  rw [show (128 * 4 + t.val) / 64 = 2 * 4 + t.val / 64 from by omega]
theorem srow5_re (t : Fin 128) : row5 (scales X) (ix2 0 t) = ((sl Xr (2 * 5 + t.val / 64) : ℝ) : EReal) := by
  have e : row5 (scales X) (ix2 0 t) = scales X (ix2 5 t) := by pointwise [row5]
  rw [e, scales_re hX hB]; rfl
theorem codes5_re (d : Fin 160) (t : Fin 128) : codes (blk5 X) (row5 (invs X)) (ix2 d t) = ((cd Xr d (128 * 5 + t.val) : ℝ) : EReal) := by
  have e : ∀ t, row5 (invs X) (ix2 0 t) = (((sl Xr (2 * 5 + t.val / 64))⁻¹ : ℝ) : EReal) := fun t => by
    have e : row5 (invs X) (ix2 0 t) = invs X (ix2 5 t) := by pointwise [row5]
    rw [e, invs_re hX hB]; rfl
  rw [codes_re (blk5_re hX) e]
  unfold cd
  rw [show (128 * 5 + t.val) / 64 = 2 * 5 + t.val / 64 from by omega]
theorem srow6_re (t : Fin 128) : row6 (scales X) (ix2 0 t) = ((sl Xr (2 * 6 + t.val / 64) : ℝ) : EReal) := by
  have e : row6 (scales X) (ix2 0 t) = scales X (ix2 6 t) := by pointwise [row6]
  rw [e, scales_re hX hB]; rfl
theorem codes6_re (d : Fin 160) (t : Fin 128) : codes (blk6 X) (row6 (invs X)) (ix2 d t) = ((cd Xr d (128 * 6 + t.val) : ℝ) : EReal) := by
  have e : ∀ t, row6 (invs X) (ix2 0 t) = (((sl Xr (2 * 6 + t.val / 64))⁻¹ : ℝ) : EReal) := fun t => by
    have e : row6 (invs X) (ix2 0 t) = invs X (ix2 6 t) := by pointwise [row6]
    rw [e, invs_re hX hB]; rfl
  rw [codes_re (blk6_re hX) e]
  unfold cd
  rw [show (128 * 6 + t.val) / 64 = 2 * 6 + t.val / 64 from by omega]
theorem srow7_re (t : Fin 128) : row7 (scales X) (ix2 0 t) = ((sl Xr (2 * 7 + t.val / 64) : ℝ) : EReal) := by
  have e : row7 (scales X) (ix2 0 t) = scales X (ix2 7 t) := by pointwise [row7]
  rw [e, scales_re hX hB]; rfl
theorem codes7_re (d : Fin 160) (t : Fin 128) : codes (blk7 X) (row7 (invs X)) (ix2 d t) = ((cd Xr d (128 * 7 + t.val) : ℝ) : EReal) := by
  have e : ∀ t, row7 (invs X) (ix2 0 t) = (((sl Xr (2 * 7 + t.val / 64))⁻¹ : ℝ) : EReal) := fun t => by
    have e : row7 (invs X) (ix2 0 t) = invs X (ix2 7 t) := by pointwise [row7]
    rw [e, invs_re hX hB]; rfl
  rw [codes_re (blk7_re hX) e]
  unfold cd
  rw [show (128 * 7 + t.val) / 64 = 2 * 7 + t.val / 64 from by omega]
end

end Cert.KernelIdeal.Stage
end
-- ==== Proof.Point.lean ====
module

public import proofs.«01_k».proof.Proof.Scales

/-! One grid point over the reals: the states before and after each pair of chunks, and each pair's output. -/

@[expose] public section
set_option maxRecDepth 16384
noncomputable section
namespace Cert.KernelIdeal.Stage
open Idealize.ShloMosaic Idealize.SL.Sem Cert.KernelIdeal Cert.KernelIdeal.Gen Pointwise Cert.Re WordCmp

/-- The gates' logarithms of pair `p`. -/
def Lp (F : Fin 48 → ℕ → ℝ) (p : ℕ) (j : Fin 48) (t : Fin 128) : ℝ := lsg (F j (128 * p + t.val))
/-- The scales of pair `p`. -/
def Sp (X : Fin 160 → ℕ → ℝ) (p : ℕ) (t : Fin 128) : ℝ := sl X (2 * p + t.val / 64)
/-- The codes of pair `p`. -/
def Cp (X : Fin 160 → ℕ → ℝ) (p : ℕ) (d : Fin 160) (t : Fin 128) : ℝ := cd X d (128 * p + t.val)
/-- The tokens of pair `p`. -/
def Tp (X : Fin 160 → ℕ → ℝ) (p : ℕ) (d : Fin 160) (t : Fin 128) : ℝ := X d (128 * p + t.val)
/-- The key slots before pair `p`. -/
def KSt (K : Fin 160 → ℕ → ℝ) (F : Fin 48 → ℕ → ℝ) : ℕ → Fin 48 → Fin 160 → ℝ
  | 0 => fun _ _ => 0
  | p + 1 => kn (Lp F p) (Sp K p) (Cp K p) (KSt K F p)
/-- The value slots before pair `p`. -/
def VSt (V : Fin 160 → ℕ → ℝ) (F : Fin 48 → ℕ → ℝ) : ℕ → Fin 48 → Fin 160 → ℝ
  | 0 => fun _ _ => 0
  | p + 1 => vn (Lp F p) (Tp V p) (VSt V F p)
/-- The softmax of one pair. -/
def pP (L : Fin 48 → Fin 128 → ℝ) (KC QC : Fin 160 → Fin 128 → ℝ) (SK SQ : Fin 128 → ℝ) (KS : Fin 48 → Fin 160 → ℝ) : Fin 48 → Fin 128 → ℝ :=
  sm (zz L (zi (jn L) (msk (sc KC QC SK))) (zs KS QC) SQ)
/-- The output of one pair. -/
def pO (L : Fin 48 → Fin 128 → ℝ) (KC QC V : Fin 160 → Fin 128 → ℝ) (SK SQ : Fin 128 → ℝ) (KS VS : Fin 48 → Fin 160 → ℝ) : Fin 160 → Fin 128 → ℝ :=
  ou (mx (mr (jn L) L (pP L KC QC SK SQ KS))) V (pP L KC QC SK SQ KS) L VS
/-- The output of pair `p`. -/
def OUp (Q K V : Fin 160 → ℕ → ℝ) (F : Fin 48 → ℕ → ℝ) (p : ℕ) : Fin 160 → Fin 128 → ℝ :=
  pO (Lp F p) (Cp K p) (Cp Q p) (Tp V p) (Sp K p) (Sp Q p) (KSt K F p) (VSt V F p)

section
variable {um : Vec Ideal S128x256 .bf16} (hu : ∀ s t, um (ix2 s t) = ((UM s t : ℝ) : EReal))
  {xf : Vec Ideal S1x1x48x128 .bf16} {Fr : Fin 48 → Fin 128 → ℝ} (hf : ∀ j t, xf (ix4 0 0 j t) = ((Fr j t : ℝ) : EReal))
  {xq xk xv : Vec Ideal S1x1x160x128 .bf16} {V QC KC : Fin 160 → Fin 128 → ℝ} {qinv qsrow kinv ksrow : FVec Ideal S1x128 .f32} {SK SQ : Fin 128 → ℝ}
  (hv : ∀ d t, xv (ix4 0 0 d t) = ((V d t : ℝ) : EReal))
  (hkc : ∀ d t, codes xk kinv (ix2 d t) = ((KC d t : ℝ) : EReal)) (hsk : ∀ t, ksrow (ix2 0 t) = ((SK t : ℝ) : EReal))
  (hqc : ∀ d t, codes xq qinv (ix2 d t) = ((QC d t : ℝ) : EReal)) (hsq : ∀ t, qsrow (ix2 0 t) = ((SQ t : ℝ) : EReal))
  {ks vs : FVec Ideal S48x160 .f32} {KS VS : Fin 48 → Fin 160 → ℝ} (hks : ∀ j d, ks (ix2 j d) = ((KS j d : ℝ) : EReal))
  (hvs : ∀ j d, vs (ix2 j d) = ((VS j d : ℝ) : EReal))

/-- The pair's gates. -/
abbrev Lf (Fr : Fin 48 → Fin 128 → ℝ) (j : Fin 48) (t : Fin 128) : ℝ := lsg (Fr j t)

include hu hf
theorem pairPre_re (j t) : pairPre xf um (ix2 j t) = ((pre (Lf Fr) j t * (Real.log 2)⁻¹ : ℝ) : EReal) := pre_re hu (gate_re hf) j t
theorem pairDev_re (j t) : pairDev xf um (ix2 j t) = ((dev (Lf Fr) j t * (Real.log 2)⁻¹ : ℝ) : EReal) := dev_re hu (gate_re hf) j t
include hkc hsk hks in
theorem pairKs_re (j d) : pairKs xk kinv ksrow xf um ks (ix2 j d) = ((kn (Lf Fr) SK KC KS j d : ℝ) : EReal) :=
  kn_re (we_re (pairPre_re hu hf) (weight_re (gate_re hf))) hsk hkc (decay_re (pairPre_re hu hf)) hks j d
include hv hvs in
theorem pairVs_re (j d) : pairVs xv xf um vs (ix2 j d) = ((vn (Lf Fr) V VS j d : ℝ) : EReal) :=
  vn_re (we_re (pairPre_re hu hf) (weight_re (gate_re hf))) hv (decay_re (pairPre_re hu hf)) hvs j d
include hkc hsk hqc hsq hks in
theorem pairP_re (j t) : pairP xq xk qinv qsrow kinv ksrow xf um ks (ix2 j t) = ((pP (Lf Fr) KC QC SK SQ KS j t : ℝ) : EReal) :=
  p_re (z_re (qf_re (pairDev_re hu hf)) (pe_re (pairPre_re hu hf))
    (zi_re (join_re (kf_re (pairDev_re hu hf) (weight_re (gate_re hf))) (wx_re (pairPre_re hu hf) (weight_re (gate_re hf))))
      (joinb_re (kf_re (pairDev_re hu hf) (weight_re (gate_re hf))) (wx_re (pairPre_re hu hf) (weight_re (gate_re hf))))
      (joinc_re (kf_re (pairDev_re hu hf) (weight_re (gate_re hf))) (wx_re (pairPre_re hu hf) (weight_re (gate_re hf))))
      (masked_re (scores_re hkc hqc hsk)))
    (zs_re hks hqc) hsq) j t
include hkc hsk hqc hsq hks hv hvs in
theorem pairO_re (d t) : pairO xq xk xv qinv qsrow kinv ksrow xf um ks vs (ix2 d t) = ((pO (Lf Fr) KC QC V SK SQ KS VS d t : ℝ) : EReal) :=
  out_re (mix_re (mr_re (join_re (kf_re (pairDev_re hu hf) (weight_re (gate_re hf))) (wx_re (pairPre_re hu hf) (weight_re (gate_re hf))))
      (joinb_re (kf_re (pairDev_re hu hf) (weight_re (gate_re hf))) (wx_re (pairPre_re hu hf) (weight_re (gate_re hf))))
      (joinc_re (kf_re (pairDev_re hu hf) (weight_re (gate_re hf))) (wx_re (pairPre_re hu hf) (weight_re (gate_re hf))))
      (pairP_re hu hf hkc hsk hqc hsq hks) (qf_re (pairDev_re hu hf)))) hv (pairP_re hu hf hkc hsk hqc hsq hks) (pe_re (pairPre_re hu hf)) hvs d t
end

section
variable {X0 X1 X2 : Vec Ideal S1x1x160x1024 .bf16} {X3 : Vec Ideal S1x1x48x1024 .bf16} {U : Vec Ideal S128x256 .bf16}
  {Q K V : Fin 160 → ℕ → ℝ} {F : Fin 48 → ℕ → ℝ}
  (h0 : ∀ d (s : ℕ) (hs : s < 1024), X0 (ix4 0 0 d ⟨s, hs⟩) = ((Q d s : ℝ) : EReal))
  (h1 : ∀ d (s : ℕ) (hs : s < 1024), X1 (ix4 0 0 d ⟨s, hs⟩) = ((K d s : ℝ) : EReal))
  (h2 : ∀ d (s : ℕ) (hs : s < 1024), X2 (ix4 0 0 d ⟨s, hs⟩) = ((V d s : ℝ) : EReal))
  (h3 : ∀ d (s : ℕ) (hs : s < 1024), X3 (ix4 0 0 d ⟨s, hs⟩) = ((F d s : ℝ) : EReal))
  (hU : ∀ s t, U (ix2 s t) = ((UM s t : ℝ) : EReal))
  (b0 : ∀ c, am Q c * k448 < (2:ℝ) ^ (120:ℤ)) (b1 : ∀ c, am K c * k448 < (2:ℝ) ^ (120:ℤ))

include h3 in
theorem gblk0_re (j : Fin 48) (t : Fin 128) : gblk0 X3 (ix4 0 0 j t) = ((F j (128 * 0 + t.val) : ℝ) : EReal) := by
  rw [← h3 j (128 * 0 + t.val) (by omega)]
  refine View.ld_unit_apply_of _ _ _ _ _ _ (fun a => ?_)
  fin_cases a <;> simp [ix4]
include h3 in
theorem gblk1_re (j : Fin 48) (t : Fin 128) : gblk1 X3 (ix4 0 0 j t) = ((F j (128 * 1 + t.val) : ℝ) : EReal) := by
  rw [← h3 j (128 * 1 + t.val) (by omega)]
  refine View.ld_unit_apply_of _ _ _ _ _ _ (fun a => ?_)
  fin_cases a <;> simp [ix4]
include h3 in
theorem gblk2_re (j : Fin 48) (t : Fin 128) : gblk2 X3 (ix4 0 0 j t) = ((F j (128 * 2 + t.val) : ℝ) : EReal) := by
  rw [← h3 j (128 * 2 + t.val) (by omega)]
  refine View.ld_unit_apply_of _ _ _ _ _ _ (fun a => ?_)
  fin_cases a <;> simp [ix4]
include h3 in
theorem gblk3_re (j : Fin 48) (t : Fin 128) : gblk3 X3 (ix4 0 0 j t) = ((F j (128 * 3 + t.val) : ℝ) : EReal) := by
  rw [← h3 j (128 * 3 + t.val) (by omega)]
  refine View.ld_unit_apply_of _ _ _ _ _ _ (fun a => ?_)
  fin_cases a <;> simp [ix4]
include h3 in
theorem gblk4_re (j : Fin 48) (t : Fin 128) : gblk4 X3 (ix4 0 0 j t) = ((F j (128 * 4 + t.val) : ℝ) : EReal) := by
  rw [← h3 j (128 * 4 + t.val) (by omega)]
  refine View.ld_unit_apply_of _ _ _ _ _ _ (fun a => ?_)
  fin_cases a <;> simp [ix4]
include h3 in
theorem gblk5_re (j : Fin 48) (t : Fin 128) : gblk5 X3 (ix4 0 0 j t) = ((F j (128 * 5 + t.val) : ℝ) : EReal) := by
  rw [← h3 j (128 * 5 + t.val) (by omega)]
  refine View.ld_unit_apply_of _ _ _ _ _ _ (fun a => ?_)
  fin_cases a <;> simp [ix4]
include h3 in
theorem gblk6_re (j : Fin 48) (t : Fin 128) : gblk6 X3 (ix4 0 0 j t) = ((F j (128 * 6 + t.val) : ℝ) : EReal) := by
  rw [← h3 j (128 * 6 + t.val) (by omega)]
  refine View.ld_unit_apply_of _ _ _ _ _ _ (fun a => ?_)
  fin_cases a <;> simp [ix4]
include h3 in
theorem gblk7_re (j : Fin 48) (t : Fin 128) : gblk7 X3 (ix4 0 0 j t) = ((F j (128 * 7 + t.val) : ℝ) : EReal) := by
  rw [← h3 j (128 * 7 + t.val) (by omega)]
  refine View.ld_unit_apply_of _ _ _ _ _ _ (fun a => ?_)
  fin_cases a <;> simp [ix4]

theorem kst0_re (j d) : kst0 X1 X3 U (ix2 j d) = ((KSt K F 0 j d : ℝ) : EReal) := Ideal.ofBits_zero_f32
theorem vst0_re (j d) : vst0 X2 X3 U (ix2 j d) = ((VSt V F 0 j d : ℝ) : EReal) := Ideal.ofBits_zero_f32
include h1 h3 hU b1 in
theorem kst1_re (j d) : kst1 X1 X3 U (ix2 j d) = ((KSt K F 1 j d : ℝ) : EReal) :=
  pairKs_re hU (gblk0_re h3) (codes0_re h1 b1) (srow0_re h1 b1) (kst0_re) j d
include h2 h3 hU in
theorem vst1_re (j d) : vst1 X2 X3 U (ix2 j d) = ((VSt V F 1 j d : ℝ) : EReal) :=
  pairVs_re hU (gblk0_re h3) (blk0_re h2) (vst0_re) j d
include h0 h1 h2 h3 hU b0 b1 in
theorem out0_re (d t) : out0 X0 X1 X2 X3 U (ix2 d t) = ((OUp Q K V F 0 d t : ℝ) : EReal) :=
  pairO_re hU (gblk0_re h3) (blk0_re h2) (codes0_re h1 b1) (srow0_re h1 b1) (codes0_re h0 b0) (srow0_re h0 b0)
    (kst0_re) (vst0_re) d t
include h1 h3 hU b1 in
theorem kst2_re (j d) : kst2 X1 X3 U (ix2 j d) = ((KSt K F 2 j d : ℝ) : EReal) :=
  pairKs_re hU (gblk1_re h3) (codes1_re h1 b1) (srow1_re h1 b1) (kst1_re h1 h3 hU b1) j d
include h2 h3 hU in
theorem vst2_re (j d) : vst2 X2 X3 U (ix2 j d) = ((VSt V F 2 j d : ℝ) : EReal) :=
  pairVs_re hU (gblk1_re h3) (blk1_re h2) (vst1_re h2 h3 hU) j d
include h0 h1 h2 h3 hU b0 b1 in
theorem out1_re (d t) : out1 X0 X1 X2 X3 U (ix2 d t) = ((OUp Q K V F 1 d t : ℝ) : EReal) :=
  pairO_re hU (gblk1_re h3) (blk1_re h2) (codes1_re h1 b1) (srow1_re h1 b1) (codes1_re h0 b0) (srow1_re h0 b0)
    (kst1_re h1 h3 hU b1) (vst1_re h2 h3 hU) d t
include h1 h3 hU b1 in
theorem kst3_re (j d) : kst3 X1 X3 U (ix2 j d) = ((KSt K F 3 j d : ℝ) : EReal) :=
  pairKs_re hU (gblk2_re h3) (codes2_re h1 b1) (srow2_re h1 b1) (kst2_re h1 h3 hU b1) j d
include h2 h3 hU in
theorem vst3_re (j d) : vst3 X2 X3 U (ix2 j d) = ((VSt V F 3 j d : ℝ) : EReal) :=
  pairVs_re hU (gblk2_re h3) (blk2_re h2) (vst2_re h2 h3 hU) j d
include h0 h1 h2 h3 hU b0 b1 in
theorem out2_re (d t) : out2 X0 X1 X2 X3 U (ix2 d t) = ((OUp Q K V F 2 d t : ℝ) : EReal) :=
  pairO_re hU (gblk2_re h3) (blk2_re h2) (codes2_re h1 b1) (srow2_re h1 b1) (codes2_re h0 b0) (srow2_re h0 b0)
    (kst2_re h1 h3 hU b1) (vst2_re h2 h3 hU) d t
include h1 h3 hU b1 in
theorem kst4_re (j d) : kst4 X1 X3 U (ix2 j d) = ((KSt K F 4 j d : ℝ) : EReal) :=
  pairKs_re hU (gblk3_re h3) (codes3_re h1 b1) (srow3_re h1 b1) (kst3_re h1 h3 hU b1) j d
include h2 h3 hU in
theorem vst4_re (j d) : vst4 X2 X3 U (ix2 j d) = ((VSt V F 4 j d : ℝ) : EReal) :=
  pairVs_re hU (gblk3_re h3) (blk3_re h2) (vst3_re h2 h3 hU) j d
include h0 h1 h2 h3 hU b0 b1 in
theorem out3_re (d t) : out3 X0 X1 X2 X3 U (ix2 d t) = ((OUp Q K V F 3 d t : ℝ) : EReal) :=
  pairO_re hU (gblk3_re h3) (blk3_re h2) (codes3_re h1 b1) (srow3_re h1 b1) (codes3_re h0 b0) (srow3_re h0 b0)
    (kst3_re h1 h3 hU b1) (vst3_re h2 h3 hU) d t
include h1 h3 hU b1 in
theorem kst5_re (j d) : kst5 X1 X3 U (ix2 j d) = ((KSt K F 5 j d : ℝ) : EReal) :=
  pairKs_re hU (gblk4_re h3) (codes4_re h1 b1) (srow4_re h1 b1) (kst4_re h1 h3 hU b1) j d
include h2 h3 hU in
theorem vst5_re (j d) : vst5 X2 X3 U (ix2 j d) = ((VSt V F 5 j d : ℝ) : EReal) :=
  pairVs_re hU (gblk4_re h3) (blk4_re h2) (vst4_re h2 h3 hU) j d
include h0 h1 h2 h3 hU b0 b1 in
theorem out4_re (d t) : out4 X0 X1 X2 X3 U (ix2 d t) = ((OUp Q K V F 4 d t : ℝ) : EReal) :=
  pairO_re hU (gblk4_re h3) (blk4_re h2) (codes4_re h1 b1) (srow4_re h1 b1) (codes4_re h0 b0) (srow4_re h0 b0)
    (kst4_re h1 h3 hU b1) (vst4_re h2 h3 hU) d t
include h1 h3 hU b1 in
theorem kst6_re (j d) : kst6 X1 X3 U (ix2 j d) = ((KSt K F 6 j d : ℝ) : EReal) :=
  pairKs_re hU (gblk5_re h3) (codes5_re h1 b1) (srow5_re h1 b1) (kst5_re h1 h3 hU b1) j d
include h2 h3 hU in
theorem vst6_re (j d) : vst6 X2 X3 U (ix2 j d) = ((VSt V F 6 j d : ℝ) : EReal) :=
  pairVs_re hU (gblk5_re h3) (blk5_re h2) (vst5_re h2 h3 hU) j d
include h0 h1 h2 h3 hU b0 b1 in
theorem out5_re (d t) : out5 X0 X1 X2 X3 U (ix2 d t) = ((OUp Q K V F 5 d t : ℝ) : EReal) :=
  pairO_re hU (gblk5_re h3) (blk5_re h2) (codes5_re h1 b1) (srow5_re h1 b1) (codes5_re h0 b0) (srow5_re h0 b0)
    (kst5_re h1 h3 hU b1) (vst5_re h2 h3 hU) d t
include h1 h3 hU b1 in
theorem kst7_re (j d) : kst7 X1 X3 U (ix2 j d) = ((KSt K F 7 j d : ℝ) : EReal) :=
  pairKs_re hU (gblk6_re h3) (codes6_re h1 b1) (srow6_re h1 b1) (kst6_re h1 h3 hU b1) j d
include h2 h3 hU in
theorem vst7_re (j d) : vst7 X2 X3 U (ix2 j d) = ((VSt V F 7 j d : ℝ) : EReal) :=
  pairVs_re hU (gblk6_re h3) (blk6_re h2) (vst6_re h2 h3 hU) j d
include h0 h1 h2 h3 hU b0 b1 in
theorem out6_re (d t) : out6 X0 X1 X2 X3 U (ix2 d t) = ((OUp Q K V F 6 d t : ℝ) : EReal) :=
  pairO_re hU (gblk6_re h3) (blk6_re h2) (codes6_re h1 b1) (srow6_re h1 b1) (codes6_re h0 b0) (srow6_re h0 b0)
    (kst6_re h1 h3 hU b1) (vst6_re h2 h3 hU) d t
include h1 h3 hU b1 in
theorem kst8_re (j d) : kst8 X1 X3 U (ix2 j d) = ((KSt K F 8 j d : ℝ) : EReal) :=
  pairKs_re hU (gblk7_re h3) (codes7_re h1 b1) (srow7_re h1 b1) (kst7_re h1 h3 hU b1) j d
include h2 h3 hU in
theorem vst8_re (j d) : vst8 X2 X3 U (ix2 j d) = ((VSt V F 8 j d : ℝ) : EReal) :=
  pairVs_re hU (gblk7_re h3) (blk7_re h2) (vst7_re h2 h3 hU) j d
include h0 h1 h2 h3 hU b0 b1 in
theorem out7_re (d t) : out7 X0 X1 X2 X3 U (ix2 d t) = ((OUp Q K V F 7 d t : ℝ) : EReal) :=
  pairO_re hU (gblk7_re h3) (blk7_re h2) (codes7_re h1 b1) (srow7_re h1 b1) (codes7_re h0 b0) (srow7_re h0 b0)
    (kst7_re h1 h3 hU b1) (vst7_re h2 h3 hU) d t
end

end Cert.KernelIdeal.Stage
end
-- ==== Proof.RefReal.lean ====
module

public import proofs.«01_k».proof.Proof.Point

/-! One chunk (64 tokens) over the reals, as the reference states it: `L j s` is the logarithm of the gate of slot `j` at
token `s` of the chunk. -/

@[expose] public section
noncomputable section
namespace Cert.Re
open Cert.KernelIdeal.Stage (sl cd am scl k448)

/-- The running sum of the gates' logarithms within the chunk. -/
def gr (L : Fin 48 → Fin 64 → ℝ) (j : Fin 48) (t : Fin 64) : ℝ := ∑ s : Fin 64, L j s * (if s.val ≤ t.val then 1 else 0)
/-- The weight of a token's key and value. -/
def wr (L : Fin 48 → Fin 64 → ℝ) (j : Fin 48) (t : Fin 64) : ℝ := 1 - Real.exp (L j t)
def qfr (L : Fin 48 → Fin 64 → ℝ) (j : Fin 48) (t : Fin 64) : ℝ := Real.exp (gr L j t - gr L j 32)
def kfr (L : Fin 48 → Fin 64 → ℝ) (j : Fin 48) (t : Fin 64) : ℝ := Real.exp (gr L j 32 - gr L j t) * wr L j t
def wer (L : Fin 48 → Fin 64 → ℝ) (j : Fin 48) (t : Fin 64) : ℝ := Real.exp (gr L j 63 - gr L j t) * wr L j t
/-- The chunk's causal scores. -/
def ar (QC KC : Fin 160 → Fin 64 → ℝ) (sq sk : ℝ) (t s : Fin 64) : ℝ :=
  if s.val ≤ t.val then (∑ d, QC d t * KC d s) * (sq * sk) else 0
/-- The logits. -/
def zr (L : Fin 48 → Fin 64 → ℝ) (A : Fin 64 → Fin 64 → ℝ) (KS : Fin 48 → Fin 160 → ℝ) (QC : Fin 160 → Fin 64 → ℝ) (sq : ℝ)
    (t : Fin 64) (j : Fin 48) : ℝ :=
  (Real.sqrt 160)⁻¹ * (qfr L j t * (∑ s, A t s * kfr L j s) + Real.exp (gr L j t) * ((∑ d, QC d t * KS j d) * sq))
/-- The softmax over the slots. -/
def smr (Z : Fin 64 → Fin 48 → ℝ) (t : Fin 64) (j : Fin 48) : ℝ := Real.exp (Z t j) / ∑ x, Real.exp (Z t x)
def mxr (L : Fin 48 → Fin 64 → ℝ) (P : Fin 64 → Fin 48 → ℝ) (t s : Fin 64) : ℝ :=
  if s.val ≤ t.val then ∑ j, P t j * qfr L j t * kfr L j s else 0
/-- The chunk's output. -/
def our (L : Fin 48 → Fin 64 → ℝ) (P : Fin 64 → Fin 48 → ℝ) (V : Fin 160 → Fin 64 → ℝ) (VS : Fin 48 → Fin 160 → ℝ)
    (t : Fin 64) (d : Fin 160) : ℝ :=
  (∑ s, mxr L P t s * V d s) + ∑ j, P t j * Real.exp (gr L j t) * VS j d
/-- The key slots after the chunk. -/
def knr (L : Fin 48 → Fin 64 → ℝ) (sk : ℝ) (KC : Fin 160 → Fin 64 → ℝ) (KS : Fin 48 → Fin 160 → ℝ) (j : Fin 48) (d : Fin 160) : ℝ :=
  Real.exp (gr L j 63) * KS j d + ∑ s, wer L j s * (KC d s * sk)
/-- The value slots after the chunk. -/
def vnr (L : Fin 48 → Fin 64 → ℝ) (V : Fin 160 → Fin 64 → ℝ) (VS : Fin 48 → Fin 160 → ℝ) (j : Fin 48) (d : Fin 160) : ℝ :=
  Real.exp (gr L j 63) * VS j d + ∑ s, wer L j s * V d s

/-- The gates' logarithms, the codes and the tokens of chunk `c`. -/
def Lc (F : Fin 48 → ℕ → ℝ) (c : ℕ) (j : Fin 48) (t : Fin 64) : ℝ := lsg (F j (64 * c + t.val))
def Cc (X : Fin 160 → ℕ → ℝ) (c : ℕ) (d : Fin 160) (t : Fin 64) : ℝ := cd X d (64 * c + t.val)
def Tc (X : Fin 160 → ℕ → ℝ) (c : ℕ) (d : Fin 160) (t : Fin 64) : ℝ := X d (64 * c + t.val)
/-- The key slots before chunk `c`. -/
def KR (K : Fin 160 → ℕ → ℝ) (F : Fin 48 → ℕ → ℝ) : ℕ → Fin 48 → Fin 160 → ℝ
  | 0 => fun _ _ => 0
  | c + 1 => knr (Lc F c) (sl K c) (Cc K c) (KR K F c)
/-- The value slots before chunk `c`. -/
def VR (V : Fin 160 → ℕ → ℝ) (F : Fin 48 → ℕ → ℝ) : ℕ → Fin 48 → Fin 160 → ℝ
  | 0 => fun _ _ => 0
  | c + 1 => vnr (Lc F c) (Tc V c) (VR V F c)
/-- The logits and the softmax of chunk `c`. -/
def ZR (Q K : Fin 160 → ℕ → ℝ) (F : Fin 48 → ℕ → ℝ) (c : ℕ) : Fin 64 → Fin 48 → ℝ :=
  zr (Lc F c) (ar (Cc Q c) (Cc K c) (sl Q c) (sl K c)) (KR K F c) (Cc Q c) (sl Q c)
def PR (Q K : Fin 160 → ℕ → ℝ) (F : Fin 48 → ℕ → ℝ) (c : ℕ) : Fin 64 → Fin 48 → ℝ := smr (ZR Q K F c)
/-- The output of chunk `c`. -/
def OR (Q K V : Fin 160 → ℕ → ℝ) (F : Fin 48 → ℕ → ℝ) (c : ℕ) : Fin 64 → Fin 160 → ℝ :=
  our (Lc F c) (PR Q K F c) (Tc V c) (VR V F c)

end Cert.Re
end
-- ==== Proof.Bridge.lean ====
module

public import proofs.«01_k».proof.Proof.RefReal

/-! A pair of chunks is two chunks one after the other: what the body computes for 128 tokens at once is what the
reference computes for the first 64 and then for the next 64. -/

@[expose] public section
noncomputable section
namespace Cert.Re
open Finset
open Cert.KernelIdeal.Stage (sl cd am scl k448 Lp Sp Cp Tp KSt VSt pP pO OUp)

/-- Token `i` of the pair's first chunk. -/
def lo (i : Fin 64) : Fin 128 := ⟨i.val, by omega⟩
/-- Token `i` of the pair's second chunk. -/
def hi (i : Fin 64) : Fin 128 := ⟨64 + i.val, by omega⟩

theorem lo_or_hi (t : Fin 128) : (∃ i, t = lo i) ∨ ∃ i, t = hi i := by
  by_cases h : t.val < 64
  · exact Or.inl ⟨⟨t.val, h⟩, rfl⟩
  · exact Or.inr ⟨⟨t.val - 64, by omega⟩, Fin.ext (by simp [hi]; omega)⟩

theorem sum128 (f : Fin 128 → ℝ) : ∑ s, f s = ∑ i, f (lo i) + ∑ i, f (hi i) := Fin.sum_univ_add (a := 64) (b := 64) f

theorem sum192 (f : Fin 192 → ℝ) : ∑ s, f s = ∑ i : Fin 64, f ⟨i.val, by omega⟩ + ∑ i : Fin 64, f ⟨64 + i.val, by omega⟩ + ∑ i : Fin 64, f ⟨128 + i.val, by omega⟩ := by
  have h := Fin.sum_univ_add (a := 128) (b := 64) f
  rw [sum128] at h
  exact h

section
variable {L : Fin 48 → Fin 128 → ℝ} {L0 L1 : Fin 48 → Fin 64 → ℝ} (e0 : ∀ j i, L j (lo i) = L0 j i) (e1 : ∀ j i, L j (hi i) = L1 j i)
include e0 e1

theorem pre_lo (j t) : pre L j (lo t) = gr L0 j t := by
  unfold pre gr
  rw [sum128, sum_eq_zero (s := univ) (f := fun i => L j (hi i) * _), add_zero]
  · refine sum_congr rfl fun s _ => ?_
    rw [e0]; rfl
  · intro s _
    rw [if_neg (by simp only [hi, lo]; omega), mul_zero]

theorem pre_hi (j t) : pre L j (hi t) = gr L0 j 63 + gr L1 j t := by
  unfold pre gr
  rw [sum128]
  congr 1 <;> refine sum_congr rfl fun s _ => ?_
  · rw [e0, if_pos (by simp only [hi, lo]; omega), if_pos (by have := s.isLt; simp; omega)]
  · rw [e1]
    congr 1
    exact if_congr (by simp only [hi]; omega) rfl rfl

theorem dev_lo (j t) : dev L j (lo t) = gr L0 j t - gr L0 j 32 := by
  unfold dev gr
  rw [sum128, sum_eq_zero (s := univ) (f := fun i => L j (hi i) * _), add_zero, ← sum_sub_distrib]
  · refine sum_congr rfl fun s _ => ?_
    have ht : (lo t).val / 64 = 0 := by simp only [lo]; omega
    have hs : (lo s).val / 64 = 0 := by simp only [lo]; omega
    rw [e0, ht, hs, if_pos rfl, mul_one, mul_sub]
    simp [lo]
  · intro s _
    have ht : (lo t).val / 64 = 0 := by simp only [lo]; omega
    have hs : (hi s).val / 64 = 1 := by simp only [hi]; omega
    rw [ht, hs]; simp

theorem dev_hi (j t) : dev L j (hi t) = gr L1 j t - gr L1 j 32 := by
  unfold dev gr
  rw [sum128, sum_eq_zero (s := univ) (f := fun i => L j (lo i) * _), zero_add, ← sum_sub_distrib]
  · refine sum_congr rfl fun s _ => ?_
    have ht : (hi t).val / 64 = 1 := by simp only [hi]; omega
    have hs : (hi s).val / 64 = 1 := by simp only [hi]; omega
    rw [e1, ht, hs, if_pos rfl, mul_one, mul_sub]
    congr 2
    · exact if_congr (by simp only [hi]; omega) rfl rfl
    · exact if_congr (by simp only [hi]; have : ((32 : Fin 64).val) = 32 := rfl; omega) rfl rfl
  · intro s _
    have ht : (hi t).val / 64 = 1 := by simp only [hi]; omega
    have hs : (lo s).val / 64 = 0 := by simp only [lo]; omega
    rw [ht, hs]; simp

theorem kf_lo (j s) : kf L j (lo s) = kfr L0 j s := by
  unfold kf kfr wt wr
  rw [dev_lo e0 e1, e0, neg_sub]
theorem kf_hi (j s) : kf L j (hi s) = kfr L1 j s := by
  unfold kf kfr wt wr
  rw [dev_hi e0 e1, e1, neg_sub]
theorem qf_lo (j t) : Real.exp (dev L j (lo t)) = qfr L0 j t := by rw [dev_lo e0 e1]; rfl
theorem qf_hi (j t) : Real.exp (dev L j (hi t)) = qfr L1 j t := by rw [dev_hi e0 e1]; rfl
theorem we_lo (j s) : we L j (lo s) = Real.exp (gr L1 j 63) * wer L0 j s := by
  unfold we wer wt wr
  rw [show (127 : Fin 128) = hi 63 from rfl, pre_hi e0 e1, pre_lo e0 e1, e0, ← mul_assoc, ← Real.exp_add]
  congr 2; ring
theorem we_hi (j s) : we L j (hi s) = wer L1 j s := by
  unfold we wer wt wr
  rw [show (127 : Fin 128) = hi 63 from rfl, pre_hi e0 e1, pre_hi e0 e1, e1]
  congr 2; ring

omit e0 e1 in
theorem gr_le (h : ∀ j t, L0 j t ≤ 0) (j : Fin 48) (t : Fin 64) : gr L0 j t ≤ 0 :=
  sum_nonpos fun s _ => mul_nonpos_of_nonpos_of_nonneg (h j s) (by split <;> norm_num)
omit e0 e1 in
theorem gr_last (h : ∀ j t, L0 j t ≤ 0) (j : Fin 48) (t : Fin 64) : gr L0 j 63 ≤ gr L0 j t := by
  refine sum_le_sum fun s _ => ?_
  rw [if_pos (by have := s.isLt; simp; omega), mul_one]
  split
  · rw [mul_one]
  · rw [mul_zero]; exact h j s

theorem wx_lo (h0 : ∀ j t, L0 j t ≤ 0) (h1 : ∀ j t, L1 j t ≤ 0) (j s) : wx L j (lo s) = Real.exp (gr L1 j 32) * wer L0 j s := by
  unfold wx wer wt wr
  rw [show (96 : Fin 128) = hi 32 from rfl, pre_hi e0 e1, pre_lo e0 e1, e0, ← mul_assoc, ← Real.exp_add, min_eq_left]
  · congr 2; ring
  · have a := gr_le h1 j 32
    have b := gr_last h0 j s
    linarith

theorem kn_two {SK : Fin 128 → ℝ} {KC : Fin 160 → Fin 128 → ℝ} {KC0 KC1 : Fin 160 → Fin 64 → ℝ} {k0 k1 : ℝ} (s0 : ∀ i, SK (lo i) = k0)
    (s1 : ∀ i, SK (hi i) = k1) (c0 : ∀ d i, KC d (lo i) = KC0 d i) (c1 : ∀ d i, KC d (hi i) = KC1 d i) (KS) (j d) :
    kn L SK KC KS j d = knr L1 k1 KC1 (knr L0 k0 KC0 KS) j d := by
  unfold kn knr
  rw [show (127 : Fin 128) = hi 63 from rfl, pre_hi e0 e1, sum128, mul_add, Real.exp_add, mul_sum]
  simp only [we_lo e0 e1, we_hi e0 e1, s0, s1, c0, c1]
  rw [← add_assoc]
  congr 1
  · congr 1
    · ring
    · refine sum_congr rfl fun s _ => ?_; ring
  · refine sum_congr rfl fun s _ => ?_; ring

theorem vn_two {V : Fin 160 → Fin 128 → ℝ} {V0 V1 : Fin 160 → Fin 64 → ℝ} (c0 : ∀ d i, V d (lo i) = V0 d i) (c1 : ∀ d i, V d (hi i) = V1 d i) (VS) (j d) :
    vn L V VS j d = vnr L1 V1 (vnr L0 V0 VS) j d := by
  unfold vn vnr
  rw [show (127 : Fin 128) = hi 63 from rfl, pre_hi e0 e1, sum128, mul_add, Real.exp_add, mul_sum]
  simp only [we_lo e0 e1, we_hi e0 e1, c0, c1]
  rw [← add_assoc]
  congr 1
  congr 1
  · ring
  · refine sum_congr rfl fun s _ => ?_; ring

theorem jn_lo (j) (i : Fin 64) : jn L j ⟨i.val, by omega⟩ = kfr L0 j i := by
  rw [← kf_lo e0 e1]; unfold jn; rw [dif_pos (by simp; omega)]; rfl
theorem jn_hi (j) (i : Fin 64) : jn L j ⟨64 + i.val, by omega⟩ = kfr L1 j i := by
  rw [← kf_hi e0 e1]; unfold jn; rw [dif_pos (by simp; omega)]; rfl
theorem jn_x (h0 : ∀ j t, L0 j t ≤ 0) (h1 : ∀ j t, L1 j t ≤ 0) (j) (i : Fin 64) : jn L j ⟨128 + i.val, by omega⟩ = Real.exp (gr L1 j 32) * wer L0 j i := by
  rw [← wx_lo e0 e1 h0 h1]; unfold jn; rw [dif_neg (by simp)]
  congr 1; exact Fin.ext (by simp [lo])

variable {SK SQ : Fin 128 → ℝ} {KC QC : Fin 160 → Fin 128 → ℝ} {KC0 KC1 QC0 QC1 : Fin 160 → Fin 64 → ℝ} {k0 k1 q0 q1 : ℝ}
  (s0 : ∀ i, SK (lo i) = k0) (s1 : ∀ i, SK (hi i) = k1) (r0 : ∀ i, SQ (lo i) = q0) (r1 : ∀ i, SQ (hi i) = q1)
  (c0 : ∀ d i, KC d (lo i) = KC0 d i) (c1 : ∀ d i, KC d (hi i) = KC1 d i) (d0 : ∀ d i, QC d (lo i) = QC0 d i) (d1 : ∀ d i, QC d (hi i) = QC1 d i)
  (n0 : ∀ j t, L0 j t ≤ 0) (n1 : ∀ j t, L1 j t ≤ 0)
include s0 r0 c0 d0 in
theorem zz_lo (KS) (t j) : zz L (zi (jn L) (msk (sc KC QC SK))) (zs KS QC) SQ j (lo t) = zr L0 (ar QC0 KC0 q0 k0) KS QC0 q0 t j := by
  have hz : zi (jn L) (msk (sc KC QC SK)) j (lo t) = ∑ s, kfr L0 j s * (if s.val ≤ t.val then (∑ d, QC0 d t * KC0 d s) * k0 else 0) := by
    unfold zi
    rw [sum192, sum_eq_zero (s := univ) (f := fun i : Fin 64 => jn L j ⟨64 + i.val, _⟩ * _), add_zero,
      sum_eq_zero (s := univ) (f := fun i : Fin 64 => jn L j ⟨128 + i.val, _⟩ * _), add_zero]
    · refine sum_congr rfl fun s _ => ?_
      rw [jn_lo e0 e1]
      congr 1
      unfold msk
      rw [dif_pos (by simp; omega)]
      refine if_congr (by simp only [dg, lo]; omega) ?_ rfl
      unfold sc
      rw [if_pos (by simp), show (0 : Fin 128) = lo 0 from rfl, s0]
      congr 1
      refine sum_congr rfl fun d _ => ?_
      rw [d0, mul_comm]; congr 1; exact c0 d s
    · intro s _
      unfold msk
      rw [dif_neg (by simp), if_neg (by simp only [lo]; omega), mul_zero]
    · intro s _
      unfold msk
      rw [dif_pos (by simp; omega), if_neg (by simp only [dg, lo]; omega), mul_zero]
  unfold zz zr ar zs
  rw [hz, qf_lo e0 e1, pre_lo e0 e1, r0, mul_comm _ (q0 * _), mul_comm q0, mul_assoc]
  congr 1
  rw [mul_add, mul_left_comm, mul_sum]
  congr 1
  · congr 1
    refine sum_congr rfl fun s _ => ?_
    split <;> ring
  · rw [mul_left_comm, mul_comm q0]
    congr 2
    refine sum_congr rfl fun d _ => ?_
    rw [d0, mul_comm]

include s0 s1 r1 c0 c1 d1 n0 n1 in
theorem zz_hi (KS) (t j) : zz L (zi (jn L) (msk (sc KC QC SK))) (zs KS QC) SQ j (hi t)
    = zr L1 (ar QC1 KC1 q1 k1) (knr L0 k0 KC0 KS) QC1 q1 t j := by
  have hz : zi (jn L) (msk (sc KC QC SK)) j (hi t) = ∑ s, kfr L1 j s * (if s.val ≤ t.val then (∑ d, QC1 d t * KC1 d s) * k1 else 0)
      + ∑ s, Real.exp (gr L1 j 32) * wer L0 j s * ((∑ d, QC1 d t * KC0 d s) * k0) := by
    unfold zi
    rw [sum192, sum_eq_zero (s := univ) (f := fun i : Fin 64 => jn L j ⟨i.val, _⟩ * _), zero_add]
    · congr 1 <;> refine sum_congr rfl fun s _ => ?_
      · rw [jn_hi e0 e1]
        congr 1
        unfold msk
        rw [dif_pos (by simp; omega)]
        refine if_congr (by simp only [dg, hi]; omega) ?_ rfl
        unfold sc
        rw [if_neg (by simp), show (64 : Fin 128) = hi 0 from rfl, s1]
        congr 1
        refine sum_congr rfl fun d _ => ?_
        rw [d1, mul_comm]; congr 1; exact c1 d s
      · rw [jn_x e0 e1 n0 n1]
        congr 1
        unfold msk
        rw [dif_neg (by simp), if_pos (by simp [hi])]
        unfold sc
        rw [if_pos (by simp), show (0 : Fin 128) = lo 0 from rfl, s0]
        congr 1
        refine sum_congr rfl fun d _ => ?_
        rw [d1, mul_comm]; congr 1
        rw [← c0]; congr 1; exact Fin.ext (by simp [lo])
    · intro s _
      unfold msk
      rw [dif_pos (by simp; omega), if_neg (by simp only [dg, hi]; omega), mul_zero]
  have hx : qfr L1 j t * Real.exp (gr L1 j 32) = Real.exp (gr L1 j t) := by
    unfold qfr; rw [← Real.exp_add]; congr 1; ring
  have hk : ∑ d, QC1 d t * knr L0 k0 KC0 KS j d = Real.exp (gr L0 j 63) * ∑ d, KS j d * QC1 d t
      + ∑ s, wer L0 j s * ((∑ d, QC1 d t * KC0 d s) * k0) := by
    unfold knr
    simp only [mul_add, sum_add_distrib, mul_sum, sum_mul]
    congr 1
    · refine sum_congr rfl fun d _ => ?_; ring
    · rw [sum_comm]
      refine sum_congr rfl fun d _ => sum_congr rfl fun s _ => ?_; ring
  have hm : ∑ s, Real.exp (gr L1 j 32) * wer L0 j s * ((∑ d, QC1 d t * KC0 d s) * k0) = Real.exp (gr L1 j 32) * ∑ s, wer L0 j s * ((∑ d, QC1 d t * KC0 d s) * k0) := by
    rw [mul_sum]; refine sum_congr rfl fun s _ => ?_; ring
  have ha : ∑ s, ar QC1 KC1 q1 k1 t s * kfr L1 j s = q1 * ∑ s, kfr L1 j s * (if s.val ≤ t.val then (∑ d, QC1 d t * KC1 d s) * k1 else 0) := by
    unfold ar
    rw [mul_sum]
    refine sum_congr rfl fun s _ => ?_
    split <;> ring
  unfold zz zr
  rw [hz, hm, ha, hk, qf_hi e0 e1, pre_hi e0 e1, r1, Real.exp_add]
  have hzs : zs KS QC j (hi t) = ∑ d, KS j d * QC1 d t := by
    unfold zs; refine sum_congr rfl fun d _ => ?_; rw [d1]
  rw [hzs]
  generalize (∑ s, kfr L1 j s * _) = A
  generalize (∑ s, wer L0 j s * _) = B
  generalize (∑ d, KS j d * _) = C
  rw [← hx]
  ring

theorem sm_at {Z : Fin 48 → Fin 128 → ℝ} {Z' : Fin 64 → Fin 48 → ℝ} (x : Fin 128) (t : Fin 64) (h : ∀ j, Z j x = Z' t j) (j) : sm Z j x = smr Z' t j := by
  unfold sm smr
  simp only [h]

include s0 r0 c0 d0 in
theorem pP_lo (KS) (t j) : pP L KC QC SK SQ KS j (lo t) = smr (zr L0 (ar QC0 KC0 q0 k0) KS QC0 q0) t j :=
  sm_at e0 e1 _ _ (fun j => zz_lo e0 e1 s0 r0 c0 d0 KS t j) j
include s0 s1 r1 c0 c1 d1 n0 n1 in
theorem pP_hi (KS) (t j) : pP L KC QC SK SQ KS j (hi t) = smr (zr L1 (ar QC1 KC1 q1 k1) (knr L0 k0 KC0 KS) QC1 q1) t j :=
  sm_at e0 e1 _ _ (fun j => zz_hi e0 e1 s0 s1 r1 c0 c1 d1 n0 n1 KS t j) j

variable {V : Fin 160 → Fin 128 → ℝ} {V0 V1 : Fin 160 → Fin 64 → ℝ} (v0 : ∀ d i, V d (lo i) = V0 d i) (v1 : ∀ d i, V d (hi i) = V1 d i)
include v0 in
theorem ou_lo {P : Fin 48 → Fin 128 → ℝ} {P0 : Fin 64 → Fin 48 → ℝ} (hp : ∀ t j, P j (lo t) = P0 t j) (VS) (d t) :
    ou (mx (mr (jn L) L P)) V P L VS d (lo t) = our L0 P0 V0 VS t d := by
  unfold ou our
  rw [sum128, sum_eq_zero (s := univ) (f := fun i => V d (hi i) * _), add_zero]
  · congr 1
    · refine sum_congr rfl fun s _ => ?_
      rw [v0, mul_comm]
      congr 1
      unfold mx mxr
      rw [if_neg (by simp only [lo]; omega)]
      refine if_congr (by simp only [dg, lo]; omega) ?_ rfl
      unfold mr
      refine sum_congr rfl fun j _ => ?_
      have := jn_lo e0 e1 j s
      rw [qf_lo e0 e1, hp, ← this]
      simp only [lo]; ring
    · refine sum_congr rfl fun j _ => ?_
      rw [pre_lo e0 e1, hp]; ring
  · intro s _
    unfold mx
    rw [if_neg (by simp only [lo]; omega), if_neg (by simp only [dg, lo, hi]; omega), mul_zero]

include n0 n1 v0 v1 in
theorem ou_hi {P : Fin 48 → Fin 128 → ℝ} {P1 : Fin 64 → Fin 48 → ℝ} (hp : ∀ t j, P j (hi t) = P1 t j) (VS) (d t) :
    ou (mx (mr (jn L) L P)) V P L VS d (hi t) = our L1 P1 V1 (vnr L0 V0 VS) t d := by
  have hx : ∀ j, qfr L1 j t * Real.exp (gr L1 j 32) = Real.exp (gr L1 j t) := by
    intro j; unfold qfr; rw [← Real.exp_add]; congr 1; ring
  have hl : ∀ s : Fin 64, mx (mr (jn L) L P) (lo s) (hi t) = ∑ j, wer L0 j s * (P1 t j * Real.exp (gr L1 j t)) := by
    intro s
    unfold mx mr
    rw [if_pos (by simp only [lo, hi]; omega)]
    refine sum_congr rfl fun j _ => ?_
    have e : (⟨128 + (lo s).val % 64, by omega⟩ : Fin 192) = ⟨128 + s.val, by omega⟩ := Fin.ext (by simp only [lo]; omega)
    rw [e, jn_x e0 e1 n0 n1, qf_hi e0 e1, hp, ← hx]; ring
  have hh : ∀ s : Fin 64, mx (mr (jn L) L P) (hi s) (hi t) = mxr L1 P1 t s := by
    intro s
    unfold mx mxr
    rw [if_neg (by simp only [hi]; omega)]
    refine if_congr (by simp only [dg, hi]; omega) ?_ rfl
    unfold mr
    refine sum_congr rfl fun j _ => ?_
    have := jn_hi e0 e1 j s
    rw [qf_hi e0 e1, hp, ← this]
    simp only [hi]; ring
  unfold ou our
  rw [sum128]
  simp only [hl, hh, v0, v1, hp, pre_hi e0 e1, Real.exp_add]
  unfold vnr
  simp only [mul_add, sum_add_distrib, mul_sum]
  rw [sum_comm, add_comm (∑ j, ∑ s, _) (∑ s, V1 d s * _), add_assoc]
  congr 1
  · refine sum_congr rfl fun s _ => ?_; ring
  · rw [add_comm]
    congr 1
    · refine sum_congr rfl fun s _ => ?_; ring
    · refine sum_congr rfl fun s _ => sum_congr rfl fun s _ => ?_; ring
end

theorem lsg_le (x : ℝ) : lsg x ≤ 0 := by
  unfold lsg
  have h1 : min x 0 ≤ 0 := min_le_right _ _
  have h2 : 0 ≤ Real.log (1 + Real.exp (-|x|)) := Real.log_nonneg (by have := Real.exp_pos (-|x|); linarith)
  exact div_nonpos_of_nonpos_of_nonneg (by linarith) (by norm_num)

theorem Lp_lo (F p) (j) (i : Fin 64) : Lp F p j (lo i) = Lc F (2 * p) j i := by
  unfold Lp Lc lo; congr 2; simp only; omega
theorem Lp_hi (F p) (j) (i : Fin 64) : Lp F p j (hi i) = Lc F (2 * p + 1) j i := by
  unfold Lp Lc hi; congr 2; simp only; omega
theorem Cp_lo (X p) (d) (i : Fin 64) : Cp X p d (lo i) = Cc X (2 * p) d i := by
  unfold Cp Cc lo; congr 1; simp only; omega
theorem Cp_hi (X p) (d) (i : Fin 64) : Cp X p d (hi i) = Cc X (2 * p + 1) d i := by
  unfold Cp Cc hi; congr 1; simp only; omega
theorem Tp_lo (X p) (d) (i : Fin 64) : Tp X p d (lo i) = Tc X (2 * p) d i := by
  unfold Tp Tc lo; congr 1; simp only; omega
theorem Tp_hi (X p) (d) (i : Fin 64) : Tp X p d (hi i) = Tc X (2 * p + 1) d i := by
  unfold Tp Tc hi; congr 1; simp only; omega
theorem Sp_lo (X p) (i : Fin 64) : Sp X p (lo i) = sl X (2 * p) := by
  unfold Sp lo; congr 1; simp only; omega
theorem Sp_hi (X p) (i : Fin 64) : Sp X p (hi i) = sl X (2 * p + 1) := by
  unfold Sp hi; congr 1; simp only; omega
theorem Lc_le (F c) (j) (t : Fin 64) : Lc F c j t ≤ 0 := lsg_le _

/-- The key slots before pair `p` are the key slots before chunk `2 p`. -/
theorem KSt_eq (K F) (p : ℕ) : KSt K F p = KR K F (2 * p) := by
  induction p with
  | zero => rfl
  | succ p ih =>
    funext j d
    show kn (Lp F p) (Sp K p) (Cp K p) (KSt K F p) j d = KR K F (2 * p + 1 + 1) j d
    rw [kn_two (Lp_lo F p) (Lp_hi F p) (Sp_lo K p) (Sp_hi K p) (Cp_lo K p) (Cp_hi K p), ih]
    rfl
/-- The value slots before pair `p` are the value slots before chunk `2 p`. -/
theorem VSt_eq (V F) (p : ℕ) : VSt V F p = VR V F (2 * p) := by
  induction p with
  | zero => rfl
  | succ p ih =>
    funext j d
    show vn (Lp F p) (Tp V p) (VSt V F p) j d = VR V F (2 * p + 1 + 1) j d
    rw [vn_two (Lp_lo F p) (Lp_hi F p) (Tp_lo V p) (Tp_hi V p), ih]
    rfl

/-- The outputs of pair `p` are the outputs of chunks `2 p` and `2 p + 1`. -/
theorem OUp_lo (Q K V F) (p : ℕ) (d) (t : Fin 64) : OUp Q K V F p d (lo t) = OR Q K V F (2 * p) t d := by
  unfold OUp pO
  rw [KSt_eq, VSt_eq]
  exact ou_lo (Lp_lo F p) (Lp_hi F p) (Tp_lo V p) (fun t j => pP_lo (Lp_lo F p) (Lp_hi F p) (Sp_lo K p) (Sp_lo Q p) (Cp_lo K p) (Cp_lo Q p) _ t j) _ d t
theorem OUp_hi (Q K V F) (p : ℕ) (d) (t : Fin 64) : OUp Q K V F p d (hi t) = OR Q K V F (2 * p + 1) t d := by
  unfold OUp pO
  rw [KSt_eq, VSt_eq]
  exact ou_hi (Lp_lo F p) (Lp_hi F p) (Lc_le F _) (Lc_le F _) (Tp_lo V p) (Tp_hi V p)
    (fun t j => pP_hi (Lp_lo F p) (Lp_hi F p) (Sp_lo K p) (Sp_hi K p) (Sp_hi Q p) (Cp_lo K p) (Cp_hi K p) (Cp_hi Q p) (Lc_le F _) (Lc_le F _) _ t j) _ d t
theorem OUp_eq (Q K V F) (s : ℕ) (hs : s % 128 < 128) (hs' : s % 64 < 64) (d) : OUp Q K V F (s / 128) d ⟨s % 128, hs⟩ = OR Q K V F (s / 64) ⟨s % 64, hs'⟩ d := by
  by_cases h : s % 128 < 64
  · rw [show (⟨s % 128, hs⟩ : Fin 128) = lo ⟨s % 64, hs'⟩ from Fin.ext (by simp only [lo]; omega), OUp_lo,
      show s / 64 = 2 * (s / 128) from by omega]
  · rw [show (⟨s % 128, hs⟩ : Fin 128) = hi ⟨s % 64, hs'⟩ from Fin.ext (by simp only [hi]; omega), OUp_hi,
      show s / 64 = 2 * (s / 128) + 1 from by omega]

end Cert.Re
end
-- ==== Proof.KTiles.lean ====
module

public import proofs.«01_k».proof.Proof.KPoints
public import proofs.«01_k».proof.Proof.Bridge

/-! What one grid point leaves in its output blocks, over the reals, at every index of the block. -/

@[expose] public section
set_option maxRecDepth 16384
noncomputable section
namespace Cert.KernelIdeal.Stage
open Idealize.ShloMosaic Idealize.SL.Sem Cert.KernelIdeal Cert.KernelIdeal.Gen Pointwise Cert.Re

/-- Eight tiles of 128 tokens side by side, read at an index. -/
theorem canon8 {e : EltTy} (G : Fin 160 → (s : ℕ) → s < 1024 → Elt Ideal e) (g0 g1 g2 g3 g4 g5 g6 g7 : S1x1x160x128.Idx → Elt Ideal e)
    (e0 : ∀ d (t : Fin 128), g0 (ix4 0 0 d t) = G d (128 * 0 + t.val) (by omega))
    (e1 : ∀ d (t : Fin 128), g1 (ix4 0 0 d t) = G d (128 * 1 + t.val) (by omega))
    (e2 : ∀ d (t : Fin 128), g2 (ix4 0 0 d t) = G d (128 * 2 + t.val) (by omega))
    (e3 : ∀ d (t : Fin 128), g3 (ix4 0 0 d t) = G d (128 * 3 + t.val) (by omega))
    (e4 : ∀ d (t : Fin 128), g4 (ix4 0 0 d t) = G d (128 * 4 + t.val) (by omega))
    (e5 : ∀ d (t : Fin 128), g5 (ix4 0 0 d t) = G d (128 * 5 + t.val) (by omega))
    (e6 : ∀ d (t : Fin 128), g6 (ix4 0 0 d t) = G d (128 * 6 + t.val) (by omega))
    (e7 : ∀ d (t : Fin 128), g7 (ix4 0 0 d t) = G d (128 * 7 + t.val) (by omega))
    (d : Fin 160) (s : ℕ) (hs : s < 1024) :
    View.canon (Val := Elt Ideal) (s := S1x1x160x1024) (e := e) [⟨Rect.unit (s := S1x1x160x1024) ![0, 0, 0, 896] S1x1x160x128.size inb_S1x1x160x1024_S1x1x160x128_0_0_0_896, g7⟩, ⟨Rect.unit (s := S1x1x160x1024) ![0, 0, 0, 768] S1x1x160x128.size inb_S1x1x160x1024_S1x1x160x128_0_0_0_768, g6⟩, ⟨Rect.unit (s := S1x1x160x1024) ![0, 0, 0, 640] S1x1x160x128.size inb_S1x1x160x1024_S1x1x160x128_0_0_0_640, g5⟩, ⟨Rect.unit (s := S1x1x160x1024) ![0, 0, 0, 512] S1x1x160x128.size inb_S1x1x160x1024_S1x1x160x128_0_0_0_512, g4⟩, ⟨Rect.unit (s := S1x1x160x1024) ![0, 0, 0, 384] S1x1x160x128.size inb_S1x1x160x1024_S1x1x160x128_0_0_0_384, g3⟩, ⟨Rect.unit (s := S1x1x160x1024) ![0, 0, 0, 256] S1x1x160x128.size inb_S1x1x160x1024_S1x1x160x128_0_0_0_256, g2⟩, ⟨Rect.unit (s := S1x1x160x1024) ![0, 0, 0, 128] S1x1x160x128.size inb_S1x1x160x1024_S1x1x160x128_0_0_0_128, g1⟩, ⟨Rect.unit (s := S1x1x160x1024) ![0, 0, 0, 0] S1x1x160x128.size inb_S1x1x160x1024_S1x1x160x128_0_0_0_0, g0⟩] (ix4 0 0 d ⟨s, hs⟩) = G d s hs := by
  refine View.canon_apply_of_pieces (fun y : S1x1x160x1024.Idx => G (y 2) (y 3).val (y 3).isLt) _ ?_ (ix4 0 0 d ⟨s, hs⟩) (View.cover_of_tiledL (s := S1x1x160x1024) _ S1x1x160x128.size (by sl_kernel_rfl) _)
  have hx : ∀ x : S1x1x160x128.Idx, x = ix4 0 0 (x 2) (x 3) := by
    intro x
    funext a
    match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl
  intro pc hpc x
  rcases List.mem_cons.mp hpc with rfl | hpc
  · refine ((congrArg g7 (hx x)).trans (e7 (x 2) (x 3))).trans ?_
    congr 1
    · exact Fin.ext (by show (x 2).val = 0 + 1 * (x 2).val; omega)
    · show 128 * 7 + (x 3).val = 896 + 1 * (x 3).val; omega
  rcases List.mem_cons.mp hpc with rfl | hpc
  · refine ((congrArg g6 (hx x)).trans (e6 (x 2) (x 3))).trans ?_
    congr 1
    · exact Fin.ext (by show (x 2).val = 0 + 1 * (x 2).val; omega)
    · show 128 * 6 + (x 3).val = 768 + 1 * (x 3).val; omega
  rcases List.mem_cons.mp hpc with rfl | hpc
  · refine ((congrArg g5 (hx x)).trans (e5 (x 2) (x 3))).trans ?_
    congr 1
    · exact Fin.ext (by show (x 2).val = 0 + 1 * (x 2).val; omega)
    · show 128 * 5 + (x 3).val = 640 + 1 * (x 3).val; omega
  rcases List.mem_cons.mp hpc with rfl | hpc
  · refine ((congrArg g4 (hx x)).trans (e4 (x 2) (x 3))).trans ?_
    congr 1
    · exact Fin.ext (by show (x 2).val = 0 + 1 * (x 2).val; omega)
    · show 128 * 4 + (x 3).val = 512 + 1 * (x 3).val; omega
  rcases List.mem_cons.mp hpc with rfl | hpc
  · refine ((congrArg g3 (hx x)).trans (e3 (x 2) (x 3))).trans ?_
    congr 1
    · exact Fin.ext (by show (x 2).val = 0 + 1 * (x 2).val; omega)
    · show 128 * 3 + (x 3).val = 384 + 1 * (x 3).val; omega
  rcases List.mem_cons.mp hpc with rfl | hpc
  · refine ((congrArg g2 (hx x)).trans (e2 (x 2) (x 3))).trans ?_
    congr 1
    · exact Fin.ext (by show (x 2).val = 0 + 1 * (x 2).val; omega)
    · show 128 * 2 + (x 3).val = 256 + 1 * (x 3).val; omega
  rcases List.mem_cons.mp hpc with rfl | hpc
  · refine ((congrArg g1 (hx x)).trans (e1 (x 2) (x 3))).trans ?_
    congr 1
    · exact Fin.ext (by show (x 2).val = 0 + 1 * (x 2).val; omega)
    · show 128 * 1 + (x 3).val = 128 + 1 * (x 3).val; omega
  rcases List.mem_cons.mp hpc with rfl | hpc
  · refine ((congrArg g0 (hx x)).trans (e0 (x 2) (x 3))).trans ?_
    congr 1
    · exact Fin.ext (by show (x 2).val = 0 + 1 * (x 2).val; omega)
    · show 128 * 0 + (x 3).val = 0 + 1 * (x 3).val; omega
  nomatch hpc

theorem scr0_re (s : Fin 128) (t : Fin 256) : scr0 (F := Ideal) (ix2 s t) = ((UM s t : ℝ) : EReal) := by
  refine View.canon_apply_of_pieces (Val := Elt Ideal) (S := S128x256) (e := .bf16) (fun y : S128x256.Idx => ((UM (y 0) (y 1) : ℝ) : EReal)) _ ?_ (ix2 s t) (View.cover_of_tiledL (s := S128x256) _ S128x128.size (by sl_kernel_rfl) _)
  have hx : ∀ x : S128x128.Idx, x = ix2 (x 0) (x 1) := by
    intro x
    funext a
    match a with
    | ⟨0, _⟩ => rfl
    | ⟨1, _⟩ => rfl
  intro pc hpc x
  rcases List.mem_cons.mp hpc with rfl | hpc
  · refine ((congrArg (uRight (F := Ideal)) (hx x)).trans (uRight_re (x 0) (x 1))).trans ?_
    refine congrArg Real.toEReal ?_
    congr 1
    · exact Fin.ext (by show (x 0).val = 0 + 1 * (x 0).val; omega)
    · exact Fin.ext (by show 128 + (x 1).val = 128 + 1 * (x 1).val; omega)
  rcases List.mem_cons.mp hpc with rfl | hpc
  · refine ((congrArg (uLeft (F := Ideal)) (hx x)).trans (uLeft_re (x 0) (x 1))).trans ?_
    refine congrArg Real.toEReal ?_
    congr 1
    · exact Fin.ext (by show (x 0).val = 0 + 1 * (x 0).val; omega)
    · exact Fin.ext (by show (x 1).val = 0 + 1 * (x 1).val; omega)
  nomatch hpc

section
variable {X0 X1 X2 : Vec Ideal S1x1x160x1024 .bf16} {X3 : Vec Ideal S1x1x48x1024 .bf16}
  {Q K V : Fin 160 → ℕ → ℝ} {F : Fin 48 → ℕ → ℝ}
  (h0 : ∀ d (s : ℕ) (hs : s < 1024), X0 (ix4 0 0 d ⟨s, hs⟩) = ((Q d s : ℝ) : EReal))
  (h1 : ∀ d (s : ℕ) (hs : s < 1024), X1 (ix4 0 0 d ⟨s, hs⟩) = ((K d s : ℝ) : EReal))
  (h2 : ∀ d (s : ℕ) (hs : s < 1024), X2 (ix4 0 0 d ⟨s, hs⟩) = ((V d s : ℝ) : EReal))
  (h3 : ∀ d (s : ℕ) (hs : s < 1024), X3 (ix4 0 0 d ⟨s, hs⟩) = ((F d s : ℝ) : EReal))
  (b0 : ∀ c, am Q c * k448 < (2:ℝ) ^ (120:ℤ)) (b1 : ∀ c, am K c * k448 < (2:ℝ) ^ (120:ℤ))
include h0 b0 in
theorem cBlk_re (d : Fin 160) (s : ℕ) (hs : s < 1024) : cBlk X0 (ix4 0 0 d ⟨s, hs⟩) = ((cd Q d s : ℝ) : EReal) := by
  refine canon8 (e := .fp8e4m3) (fun d s _ => ((cd Q d s : ℝ) : EReal)) _ _ _ _ _ _ _ _ (fun d t => Eq.trans (by pointwise [codesOut]) (codes0_re h0 b0 d t)) (fun d t => Eq.trans (by pointwise [codesOut]) (codes1_re h0 b0 d t)) (fun d t => Eq.trans (by pointwise [codesOut]) (codes2_re h0 b0 d t)) (fun d t => Eq.trans (by pointwise [codesOut]) (codes3_re h0 b0 d t)) (fun d t => Eq.trans (by pointwise [codesOut]) (codes4_re h0 b0 d t)) (fun d t => Eq.trans (by pointwise [codesOut]) (codes5_re h0 b0 d t)) (fun d t => Eq.trans (by pointwise [codesOut]) (codes6_re h0 b0 d t)) (fun d t => Eq.trans (by pointwise [codesOut]) (codes7_re h0 b0 d t)) d s hs
include h0 h1 h2 h3 b0 b1 in
theorem oBlk_re (d : Fin 160) (s : ℕ) (hs : s < 1024) : oBlk X0 X1 X2 X3 (ix4 0 0 d ⟨s, hs⟩) = ((OR Q K V F (s / 64) ⟨s % 64, Nat.mod_lt _ (by decide)⟩ d : ℝ) : EReal) := by
  have p0 : ∀ d (t : Fin 128), outStore (out0 X0 X1 X2 X3 scr0) (ix4 0 0 d t) = ((OR Q K V F ((128 * 0 + t.val) / 64) ⟨(128 * 0 + t.val) % 64, Nat.mod_lt _ (by decide)⟩ d : ℝ) : EReal) := by
    intro d t
    have e : outStore (out0 X0 X1 X2 X3 scr0) (ix4 0 0 d t) = out0 X0 X1 X2 X3 scr0 (ix2 d t) := by pointwise [outStore]
    rw [e, out0_re h0 h1 h2 h3 scr0_re b0 b1, ← OUp_eq Q K V F (128 * 0 + t.val) (Nat.mod_lt _ (by decide))]
    refine congrArg Real.toEReal ?_
    congr 1
    · omega
    · exact Fin.ext (by show t.val = (128 * 0 + t.val) % 128; omega)
  have p1 : ∀ d (t : Fin 128), outStore (out1 X0 X1 X2 X3 scr0) (ix4 0 0 d t) = ((OR Q K V F ((128 * 1 + t.val) / 64) ⟨(128 * 1 + t.val) % 64, Nat.mod_lt _ (by decide)⟩ d : ℝ) : EReal) := by
    intro d t
    have e : outStore (out1 X0 X1 X2 X3 scr0) (ix4 0 0 d t) = out1 X0 X1 X2 X3 scr0 (ix2 d t) := by pointwise [outStore]
    rw [e, out1_re h0 h1 h2 h3 scr0_re b0 b1, ← OUp_eq Q K V F (128 * 1 + t.val) (Nat.mod_lt _ (by decide))]
    refine congrArg Real.toEReal ?_
    congr 1
    · omega
    · exact Fin.ext (by show t.val = (128 * 1 + t.val) % 128; omega)
  have p2 : ∀ d (t : Fin 128), outStore (out2 X0 X1 X2 X3 scr0) (ix4 0 0 d t) = ((OR Q K V F ((128 * 2 + t.val) / 64) ⟨(128 * 2 + t.val) % 64, Nat.mod_lt _ (by decide)⟩ d : ℝ) : EReal) := by
    intro d t
    have e : outStore (out2 X0 X1 X2 X3 scr0) (ix4 0 0 d t) = out2 X0 X1 X2 X3 scr0 (ix2 d t) := by pointwise [outStore]
    rw [e, out2_re h0 h1 h2 h3 scr0_re b0 b1, ← OUp_eq Q K V F (128 * 2 + t.val) (Nat.mod_lt _ (by decide))]
    refine congrArg Real.toEReal ?_
    congr 1
    · omega
    · exact Fin.ext (by show t.val = (128 * 2 + t.val) % 128; omega)
  have p3 : ∀ d (t : Fin 128), outStore (out3 X0 X1 X2 X3 scr0) (ix4 0 0 d t) = ((OR Q K V F ((128 * 3 + t.val) / 64) ⟨(128 * 3 + t.val) % 64, Nat.mod_lt _ (by decide)⟩ d : ℝ) : EReal) := by
    intro d t
    have e : outStore (out3 X0 X1 X2 X3 scr0) (ix4 0 0 d t) = out3 X0 X1 X2 X3 scr0 (ix2 d t) := by pointwise [outStore]
    rw [e, out3_re h0 h1 h2 h3 scr0_re b0 b1, ← OUp_eq Q K V F (128 * 3 + t.val) (Nat.mod_lt _ (by decide))]
    refine congrArg Real.toEReal ?_
    congr 1
    · omega
    · exact Fin.ext (by show t.val = (128 * 3 + t.val) % 128; omega)
  have p4 : ∀ d (t : Fin 128), outStore (out4 X0 X1 X2 X3 scr0) (ix4 0 0 d t) = ((OR Q K V F ((128 * 4 + t.val) / 64) ⟨(128 * 4 + t.val) % 64, Nat.mod_lt _ (by decide)⟩ d : ℝ) : EReal) := by
    intro d t
    have e : outStore (out4 X0 X1 X2 X3 scr0) (ix4 0 0 d t) = out4 X0 X1 X2 X3 scr0 (ix2 d t) := by pointwise [outStore]
    rw [e, out4_re h0 h1 h2 h3 scr0_re b0 b1, ← OUp_eq Q K V F (128 * 4 + t.val) (Nat.mod_lt _ (by decide))]
    refine congrArg Real.toEReal ?_
    congr 1
    · omega
    · exact Fin.ext (by show t.val = (128 * 4 + t.val) % 128; omega)
  have p5 : ∀ d (t : Fin 128), outStore (out5 X0 X1 X2 X3 scr0) (ix4 0 0 d t) = ((OR Q K V F ((128 * 5 + t.val) / 64) ⟨(128 * 5 + t.val) % 64, Nat.mod_lt _ (by decide)⟩ d : ℝ) : EReal) := by
    intro d t
    have e : outStore (out5 X0 X1 X2 X3 scr0) (ix4 0 0 d t) = out5 X0 X1 X2 X3 scr0 (ix2 d t) := by pointwise [outStore]
    rw [e, out5_re h0 h1 h2 h3 scr0_re b0 b1, ← OUp_eq Q K V F (128 * 5 + t.val) (Nat.mod_lt _ (by decide))]
    refine congrArg Real.toEReal ?_
    congr 1
    · omega
    · exact Fin.ext (by show t.val = (128 * 5 + t.val) % 128; omega)
  have p6 : ∀ d (t : Fin 128), outStore (out6 X0 X1 X2 X3 scr0) (ix4 0 0 d t) = ((OR Q K V F ((128 * 6 + t.val) / 64) ⟨(128 * 6 + t.val) % 64, Nat.mod_lt _ (by decide)⟩ d : ℝ) : EReal) := by
    intro d t
    have e : outStore (out6 X0 X1 X2 X3 scr0) (ix4 0 0 d t) = out6 X0 X1 X2 X3 scr0 (ix2 d t) := by pointwise [outStore]
    rw [e, out6_re h0 h1 h2 h3 scr0_re b0 b1, ← OUp_eq Q K V F (128 * 6 + t.val) (Nat.mod_lt _ (by decide))]
    refine congrArg Real.toEReal ?_
    congr 1
    · omega
    · exact Fin.ext (by show t.val = (128 * 6 + t.val) % 128; omega)
  have p7 : ∀ d (t : Fin 128), outStore (out7 X0 X1 X2 X3 scr0) (ix4 0 0 d t) = ((OR Q K V F ((128 * 7 + t.val) / 64) ⟨(128 * 7 + t.val) % 64, Nat.mod_lt _ (by decide)⟩ d : ℝ) : EReal) := by
    intro d t
    have e : outStore (out7 X0 X1 X2 X3 scr0) (ix4 0 0 d t) = out7 X0 X1 X2 X3 scr0 (ix2 d t) := by pointwise [outStore]
    rw [e, out7_re h0 h1 h2 h3 scr0_re b0 b1, ← OUp_eq Q K V F (128 * 7 + t.val) (Nat.mod_lt _ (by decide))]
    refine congrArg Real.toEReal ?_
    congr 1
    · omega
    · exact Fin.ext (by show t.val = (128 * 7 + t.val) % 128; omega)
  exact canon8 (e := .bf16) (fun d s _ => ((OR Q K V F (s / 64) ⟨s % 64, Nat.mod_lt _ (by decide)⟩ d : ℝ) : EReal)) _ _ _ _ _ _ _ _ p0 p1 p2 p3 p4 p5 p6 p7 d s hs
end

end Cert.KernelIdeal.Stage
end
-- ==== Proof.KRead.lean ====
module

public import proofs.«01_k».proof.Proof.KPoints
public import proofs.«01_k».proof.Proof.Point

/-! What one grid point reads: its batch entry's and head's tokens, out of the arguments. -/

@[expose] public section
set_option maxRecDepth 16384
noncomputable section
namespace Cert.KernelIdeal.Stage
open Idealize.ShloMosaic Idealize.SL.Sem Cert.KernelIdeal Cert.KernelIdeal.Gen Pointwise Cert.Re

section
variable (m : (ℓ : Loc nD τ sig) → Buf (Elt Ideal) ℓ)
theorem V0_eq (c : Dev nD) : Gen.V m c main_v0 = transpose S24x18x160x1024 [0, 2, 3, 1] (m ((c.tc : Thread nD τ).loc main_arg0)) transposes_S24x1024x18x160_S24x18x160x1024_0_2_3_1 := by
  show StableHlo.after hostOps0 (fun b => m (c, b)) (Proc.devRef .tc main_v0) = _
  simp only [hostOps0, StableHlo.TRef.ternary, StableHlo.TRef.unary, StableHlo.TRef.toBuf, StableHlo.TRef.ofBuf, cast_eq, List.flatten_cons, List.flatten_nil, List.append_nil, List.cons_append, List.nil_append]
  after_results_simp <;> rfl
theorem rd0 (X : FVec Ideal S24x18x160x1024 .bf16) (t : Fin cfg0.N) (b : Fin 24) (h : Fin 18) (ht : t.val = 18 * b.val + h.val) (d : Fin 160) (s : Fin 1024) :
    ((cfg0.win 0).blk t).view.read (Elt Ideal) X (ix4 0 0 d s) = X (ix4 b h d s) := by
  blk_simp
  refine congrArg X ?_
  have hi := (by decide +kernel : ∀ t : Fin grid0.N, win0_0.index t = ![t.val / 18, t.val % 18, 0, 0]) t
  have hb : t.val / 18 = b.val := by omega
  have hh : t.val % 18 = h.val := by omega
  rw [hb, hh] at hi
  blk_ext [hi]
theorem iblk0_at (c : Dev nD) (t : Fin cfg0.N) (b : Fin 24) (h : Fin 18) (ht : t.val = 18 * b.val + h.val) (d : Fin 160) (s : Fin 1024) :
    iblk m c 0 t (ix4 0 0 d s) = m ((c.tc : Thread nD τ).loc main_arg0) (ix4 b s h d) := by
  refine (rd0 (Gen.V m c main_v0) t b h ht d s).trans ?_
  rw [V0_eq]
  pointwise []
theorem V1_eq (c : Dev nD) : Gen.V m c main_v1 = transpose S24x18x160x1024 [0, 2, 3, 1] (m ((c.tc : Thread nD τ).loc main_arg1)) transposes_S24x1024x18x160_S24x18x160x1024_0_2_3_1 := by
  show StableHlo.after hostOps0 (fun b => m (c, b)) (Proc.devRef .tc main_v1) = _
  simp only [hostOps0, StableHlo.TRef.ternary, StableHlo.TRef.unary, StableHlo.TRef.toBuf, StableHlo.TRef.ofBuf, cast_eq, List.flatten_cons, List.flatten_nil, List.append_nil, List.cons_append, List.nil_append]
  after_results_simp <;> rfl
theorem rd1 (X : FVec Ideal S24x18x160x1024 .bf16) (t : Fin cfg0.N) (b : Fin 24) (h : Fin 18) (ht : t.val = 18 * b.val + h.val) (d : Fin 160) (s : Fin 1024) :
    ((cfg0.win 1).blk t).view.read (Elt Ideal) X (ix4 0 0 d s) = X (ix4 b h d s) := by
  blk_simp
  refine congrArg X ?_
  have hi := (by decide +kernel : ∀ t : Fin grid0.N, win0_1.index t = ![t.val / 18, t.val % 18, 0, 0]) t
  have hb : t.val / 18 = b.val := by omega
  have hh : t.val % 18 = h.val := by omega
  rw [hb, hh] at hi
  blk_ext [hi]
theorem iblk1_at (c : Dev nD) (t : Fin cfg0.N) (b : Fin 24) (h : Fin 18) (ht : t.val = 18 * b.val + h.val) (d : Fin 160) (s : Fin 1024) :
    iblk m c 1 t (ix4 0 0 d s) = m ((c.tc : Thread nD τ).loc main_arg1) (ix4 b s h d) := by
  refine (rd1 (Gen.V m c main_v1) t b h ht d s).trans ?_
  rw [V1_eq]
  pointwise []
theorem V2_eq (c : Dev nD) : Gen.V m c main_v2 = transpose S24x18x160x1024 [0, 2, 3, 1] (m ((c.tc : Thread nD τ).loc main_arg2)) transposes_S24x1024x18x160_S24x18x160x1024_0_2_3_1 := by
  show StableHlo.after hostOps0 (fun b => m (c, b)) (Proc.devRef .tc main_v2) = _
  simp only [hostOps0, StableHlo.TRef.ternary, StableHlo.TRef.unary, StableHlo.TRef.toBuf, StableHlo.TRef.ofBuf, cast_eq, List.flatten_cons, List.flatten_nil, List.append_nil, List.cons_append, List.nil_append]
  after_results_simp <;> rfl
theorem rd2 (X : FVec Ideal S24x18x160x1024 .bf16) (t : Fin cfg0.N) (b : Fin 24) (h : Fin 18) (ht : t.val = 18 * b.val + h.val) (d : Fin 160) (s : Fin 1024) :
    ((cfg0.win 2).blk t).view.read (Elt Ideal) X (ix4 0 0 d s) = X (ix4 b h d s) := by
  blk_simp
  refine congrArg X ?_
  have hi := (by decide +kernel : ∀ t : Fin grid0.N, win0_2.index t = ![t.val / 18, t.val % 18, 0, 0]) t
  have hb : t.val / 18 = b.val := by omega
  have hh : t.val % 18 = h.val := by omega
  rw [hb, hh] at hi
  blk_ext [hi]
theorem iblk2_at (c : Dev nD) (t : Fin cfg0.N) (b : Fin 24) (h : Fin 18) (ht : t.val = 18 * b.val + h.val) (d : Fin 160) (s : Fin 1024) :
    iblk m c 2 t (ix4 0 0 d s) = m ((c.tc : Thread nD τ).loc main_arg2) (ix4 b s h d) := by
  refine (rd2 (Gen.V m c main_v2) t b h ht d s).trans ?_
  rw [V2_eq]
  pointwise []
theorem V3_eq (c : Dev nD) : Gen.V m c main_v3 = transpose S24x18x48x1024 [0, 2, 3, 1] (m ((c.tc : Thread nD τ).loc main_arg3)) transposes_S24x1024x18x48_S24x18x48x1024_0_2_3_1 := by
  show StableHlo.after hostOps0 (fun b => m (c, b)) (Proc.devRef .tc main_v3) = _
  simp only [hostOps0, StableHlo.TRef.ternary, StableHlo.TRef.unary, StableHlo.TRef.toBuf, StableHlo.TRef.ofBuf, cast_eq, List.flatten_cons, List.flatten_nil, List.append_nil, List.cons_append, List.nil_append]
  after_results_simp <;> rfl
theorem rd3 (X : FVec Ideal S24x18x48x1024 .bf16) (t : Fin cfg0.N) (b : Fin 24) (h : Fin 18) (ht : t.val = 18 * b.val + h.val) (d : Fin 48) (s : Fin 1024) :
    ((cfg0.win 3).blk t).view.read (Elt Ideal) X (ix4 0 0 d s) = X (ix4 b h d s) := by
  blk_simp
  refine congrArg X ?_
  have hi := (by decide +kernel : ∀ t : Fin grid0.N, win0_3.index t = ![t.val / 18, t.val % 18, 0, 0]) t
  have hb : t.val / 18 = b.val := by omega
  have hh : t.val % 18 = h.val := by omega
  rw [hb, hh] at hi
  blk_ext [hi]
theorem iblk3_at (c : Dev nD) (t : Fin cfg0.N) (b : Fin 24) (h : Fin 18) (ht : t.val = 18 * b.val + h.val) (d : Fin 48) (s : Fin 1024) :
    iblk m c 3 t (ix4 0 0 d s) = m ((c.tc : Thread nD τ).loc main_arg3) (ix4 b s h d) := by
  refine (rd3 (Gen.V m c main_v3) t b h ht d s).trans ?_
  rw [V3_eq]
  pointwise []
end

end Cert.KernelIdeal.Stage
end
-- ==== Proof.KVals.lean ====
module

public import proofs.«01_k».proof.Proof.KTiles
public import proofs.«01_k».proof.Proof.KRead

/-! What each output array of the kernel holds after the run, over the reals, at every index: the chunk recurrence's
values of the head's own tokens. -/

@[expose] public section
set_option maxRecDepth 16384
noncomputable section
namespace Cert.KernelIdeal.Stage
open Idealize.ShloMosaic Idealize.SL.Sem Cert.KernelIdeal Cert.KernelIdeal.Gen Pointwise Cert.Re

section
variable (m : (ℓ : Loc nD τ sig) → Buf (Elt Ideal) ℓ)

/-- The grid point of a batch entry and a head. -/
def ptOf (b : Fin 24) (h : Fin 18) : Fin cfg0.N := ⟨18 * b.val + h.val, by rw [show cfg0.N = 432 from N_0]; omega⟩

variable {m} {c : Dev nD} {b : Fin 24} {h : Fin 18} {Q K V : Fin 160 → ℕ → ℝ} {F : Fin 48 → ℕ → ℝ}
  (h0 : ∀ d (s : ℕ) (hs : s < 1024), m ((c.tc : Thread nD τ).loc main_arg0) (ix4 b ⟨s, hs⟩ h d) = ((Q d s : ℝ) : EReal))
  (h1 : ∀ d (s : ℕ) (hs : s < 1024), m ((c.tc : Thread nD τ).loc main_arg1) (ix4 b ⟨s, hs⟩ h d) = ((K d s : ℝ) : EReal))
  (h2 : ∀ d (s : ℕ) (hs : s < 1024), m ((c.tc : Thread nD τ).loc main_arg2) (ix4 b ⟨s, hs⟩ h d) = ((V d s : ℝ) : EReal))
  (h3 : ∀ j (s : ℕ) (hs : s < 1024), m ((c.tc : Thread nD τ).loc main_arg3) (ix4 b ⟨s, hs⟩ h j) = ((F j s : ℝ) : EReal))
  (b0 : ∀ c, am Q c * k448 < (2:ℝ) ^ (120:ℤ)) (b1 : ∀ c, am K c * k448 < (2:ℝ) ^ (120:ℤ))
include h0 in
theorem blk0_in (d : Fin 160) (s : ℕ) (hs : s < 1024) : iblk m c 0 (ptOf b h) (ix4 0 0 d ⟨s, hs⟩) = ((Q d s : ℝ) : EReal) :=
  (iblk0_at m c (ptOf b h) b h rfl d ⟨s, hs⟩).trans (h0 d s hs)
include h1 in
theorem blk1_in (d : Fin 160) (s : ℕ) (hs : s < 1024) : iblk m c 1 (ptOf b h) (ix4 0 0 d ⟨s, hs⟩) = ((K d s : ℝ) : EReal) :=
  (iblk1_at m c (ptOf b h) b h rfl d ⟨s, hs⟩).trans (h1 d s hs)
include h2 in
theorem blk2_in (d : Fin 160) (s : ℕ) (hs : s < 1024) : iblk m c 2 (ptOf b h) (ix4 0 0 d ⟨s, hs⟩) = ((V d s : ℝ) : EReal) :=
  (iblk2_at m c (ptOf b h) b h rfl d ⟨s, hs⟩).trans (h2 d s hs)
include h3 in
theorem blk3_in (d : Fin 48) (s : ℕ) (hs : s < 1024) : iblk m c 3 (ptOf b h) (ix4 0 0 d ⟨s, hs⟩) = ((F d s : ℝ) : EReal) :=
  (iblk3_at m c (ptOf b h) b h rfl d ⟨s, hs⟩).trans (h3 d s hs)
include h0 h1 h2 h3 b0 b1 in
theorem kG4 (d : Fin 160) (s : ℕ) (hs : s < 1024) : Value.G4 m c (ix4 b h d ⟨s, hs⟩) = ((OR Q K V F (s / 64) ⟨s % 64, Nat.mod_lt _ (by decide)⟩ d : ℝ) : EReal) := by
  have hl : Value.loc4Of (ix4 b h d ⟨s, hs⟩) = ix4 0 0 d ⟨s, hs⟩ := by
    funext a
    match a with
    | ⟨0, _⟩ => exact Fin.ext (Nat.mod_one _)
    | ⟨1, _⟩ => exact Fin.ext (Nat.mod_one _)
    | ⟨2, _⟩ => exact Fin.ext (Nat.mod_eq_of_lt (d).isLt)
    | ⟨3, _⟩ => exact Fin.ext (Nat.mod_eq_of_lt hs)
  have hp : Value.pt4Of (ix4 b h d ⟨s, hs⟩) = (ptOf b h).val := by
    have e2 : (d).val / 160 = 0 := Nat.div_eq_of_lt (d).isLt
    have e3 : s / 1024 = 0 := Nat.div_eq_of_lt hs
    show 18 * (b.val / 1 - 0) + 1 * (h.val / 1 - 0) + 1 * ((d).val / 160 - 0) + 1 * (s / 1024 - 0) = 18 * b.val + h.val
    rw [e2, e3]; omega
  rw [G4_at m c _ (ptOf b h) hp, hl]
  exact oBlk_re (blk0_in h0) (blk1_in h1) (blk2_in h2) (blk3_in h3) b0 b1 d s hs
include h1 h3 b1 in
theorem kG5 (j : Fin 48) (d : Fin 160) : Value.G5 m c (ix4 b h j d) = ((KR K F 16 j d : ℝ) : EReal) := by
  have hl : Value.loc5Of (ix4 b h j d) = ix4 0 0 j d := by
    funext a
    match a with
    | ⟨0, _⟩ => exact Fin.ext (Nat.mod_one _)
    | ⟨1, _⟩ => exact Fin.ext (Nat.mod_one _)
    | ⟨2, _⟩ => exact Fin.ext (Nat.mod_eq_of_lt (j).isLt)
    | ⟨3, _⟩ => exact Fin.ext (Nat.mod_eq_of_lt (d).isLt)
  have hp : Value.pt5Of (ix4 b h j d) = (ptOf b h).val := by
    have e2 : (j).val / 48 = 0 := Nat.div_eq_of_lt (j).isLt
    have e3 : (d).val / 160 = 0 := Nat.div_eq_of_lt (d).isLt
    show 18 * (b.val / 1 - 0) + 1 * (h.val / 1 - 0) + 1 * ((j).val / 48 - 0) + 1 * ((d).val / 160 - 0) = 18 * b.val + h.val
    rw [e2, e3]; omega
  rw [G5_at m c _ (ptOf b h) hp, hl]
  refine Eq.trans (by pointwise []) ((kst8_re (blk1_in h1) (blk3_in h3) scr0_re b1 j d).trans ?_)
  rw [KSt_eq]
include h2 h3 in
theorem kG6 (j : Fin 48) (d : Fin 160) : Value.G6 m c (ix4 b h j d) = ((VR V F 16 j d : ℝ) : EReal) := by
  have hl : Value.loc6Of (ix4 b h j d) = ix4 0 0 j d := by
    funext a
    match a with
    | ⟨0, _⟩ => exact Fin.ext (Nat.mod_one _)
    | ⟨1, _⟩ => exact Fin.ext (Nat.mod_one _)
    | ⟨2, _⟩ => exact Fin.ext (Nat.mod_eq_of_lt (j).isLt)
    | ⟨3, _⟩ => exact Fin.ext (Nat.mod_eq_of_lt (d).isLt)
  have hp : Value.pt6Of (ix4 b h j d) = (ptOf b h).val := by
    have e2 : (j).val / 48 = 0 := Nat.div_eq_of_lt (j).isLt
    have e3 : (d).val / 160 = 0 := Nat.div_eq_of_lt (d).isLt
    show 18 * (b.val / 1 - 0) + 1 * (h.val / 1 - 0) + 1 * ((j).val / 48 - 0) + 1 * ((d).val / 160 - 0) = 18 * b.val + h.val
    rw [e2, e3]; omega
  rw [G6_at m c _ (ptOf b h) hp, hl]
  refine Eq.trans (by pointwise []) ((vst8_re (blk2_in h2) (blk3_in h3) scr0_re j d).trans ?_)
  rw [VSt_eq]
include h0 b0 in
theorem kG7 (d : Fin 160) (s : ℕ) (hs : s < 1024) : Value.G7 m c (ix4 b h d ⟨s, hs⟩) = ((cd Q d s : ℝ) : EReal) := by
  have hl : Value.loc7Of (ix4 b h d ⟨s, hs⟩) = ix4 0 0 d ⟨s, hs⟩ := by
    funext a
    match a with
    | ⟨0, _⟩ => exact Fin.ext (Nat.mod_one _)
    | ⟨1, _⟩ => exact Fin.ext (Nat.mod_one _)
    | ⟨2, _⟩ => exact Fin.ext (Nat.mod_eq_of_lt (d).isLt)
    | ⟨3, _⟩ => exact Fin.ext (Nat.mod_eq_of_lt hs)
  have hp : Value.pt7Of (ix4 b h d ⟨s, hs⟩) = (ptOf b h).val := by
    have e2 : (d).val / 160 = 0 := Nat.div_eq_of_lt (d).isLt
    have e3 : s / 1024 = 0 := Nat.div_eq_of_lt hs
    show 18 * (b.val / 1 - 0) + 1 * (h.val / 1 - 0) + 1 * ((d).val / 160 - 0) + 1 * (s / 1024 - 0) = 18 * b.val + h.val
    rw [e2, e3]; omega
  rw [G7_at m c _ (ptOf b h) hp, hl]
  exact cBlk_re (blk0_in h0) b0 d s hs
include h0 b0 in
theorem kG8 (i : Fin 8) (t : Fin 128) : Value.G8 m c (ix4 b h i t) = ((sl Q (2 * i.val + t.val / 64) : ℝ) : EReal) := by
  have hl : Value.loc8Of (ix4 b h i t) = ix4 0 0 i t := by
    funext a
    match a with
    | ⟨0, _⟩ => exact Fin.ext (Nat.mod_one _)
    | ⟨1, _⟩ => exact Fin.ext (Nat.mod_one _)
    | ⟨2, _⟩ => exact Fin.ext (Nat.mod_eq_of_lt (i).isLt)
    | ⟨3, _⟩ => exact Fin.ext (Nat.mod_eq_of_lt (t).isLt)
  have hp : Value.pt8Of (ix4 b h i t) = (ptOf b h).val := by
    have e2 : (i).val / 8 = 0 := Nat.div_eq_of_lt (i).isLt
    have e3 : (t).val / 128 = 0 := Nat.div_eq_of_lt (t).isLt
    show 18 * (b.val / 1 - 0) + 1 * (h.val / 1 - 0) + 1 * ((i).val / 8 - 0) + 1 * ((t).val / 128 - 0) = 18 * b.val + h.val
    rw [e2, e3]; omega
  rw [G8_at m c _ (ptOf b h) hp, hl]
  exact Eq.trans (by pointwise []) (scales_re (blk0_in h0) b0 i t)
include h1 b1 in
theorem kG9 (d : Fin 160) (s : ℕ) (hs : s < 1024) : Value.G9 m c (ix4 b h d ⟨s, hs⟩) = ((cd K d s : ℝ) : EReal) := by
  have hl : Value.loc9Of (ix4 b h d ⟨s, hs⟩) = ix4 0 0 d ⟨s, hs⟩ := by
    funext a
    match a with
    | ⟨0, _⟩ => exact Fin.ext (Nat.mod_one _)
    | ⟨1, _⟩ => exact Fin.ext (Nat.mod_one _)
    | ⟨2, _⟩ => exact Fin.ext (Nat.mod_eq_of_lt (d).isLt)
    | ⟨3, _⟩ => exact Fin.ext (Nat.mod_eq_of_lt hs)
  have hp : Value.pt9Of (ix4 b h d ⟨s, hs⟩) = (ptOf b h).val := by
    have e2 : (d).val / 160 = 0 := Nat.div_eq_of_lt (d).isLt
    have e3 : s / 1024 = 0 := Nat.div_eq_of_lt hs
    show 18 * (b.val / 1 - 0) + 1 * (h.val / 1 - 0) + 1 * ((d).val / 160 - 0) + 1 * (s / 1024 - 0) = 18 * b.val + h.val
    rw [e2, e3]; omega
  rw [G9_at m c _ (ptOf b h) hp, hl]
  exact cBlk_re (blk1_in h1) b1 d s hs
include h1 b1 in
theorem kG10 (i : Fin 8) (t : Fin 128) : Value.G10 m c (ix4 b h i t) = ((sl K (2 * i.val + t.val / 64) : ℝ) : EReal) := by
  have hl : Value.loc10Of (ix4 b h i t) = ix4 0 0 i t := by
    funext a
    match a with
    | ⟨0, _⟩ => exact Fin.ext (Nat.mod_one _)
    | ⟨1, _⟩ => exact Fin.ext (Nat.mod_one _)
    | ⟨2, _⟩ => exact Fin.ext (Nat.mod_eq_of_lt (i).isLt)
    | ⟨3, _⟩ => exact Fin.ext (Nat.mod_eq_of_lt (t).isLt)
  have hp : Value.pt10Of (ix4 b h i t) = (ptOf b h).val := by
    have e2 : (i).val / 8 = 0 := Nat.div_eq_of_lt (i).isLt
    have e3 : (t).val / 128 = 0 := Nat.div_eq_of_lt (t).isLt
    show 18 * (b.val / 1 - 0) + 1 * (h.val / 1 - 0) + 1 * ((i).val / 8 - 0) + 1 * ((t).val / 128 - 0) = 18 * b.val + h.val
    rw [e2, e3]; omega
  rw [G10_at m c _ (ptOf b h) hp, hl]
  exact Eq.trans (by pointwise []) (scales_re (blk1_in h1) b1 i t)
end

end Cert.KernelIdeal.Stage
end
-- ==== Proof.RefGate.lean ====
module

public import proofs.«01_k».proof.Proof.Gen.ReferenceIdeal.Read
public import proofs.«01_k».proof.Proof.RefReal
public import Idealize.ShloMosaic.Lib.Pointwise

/-! The reference's gates at real arguments: their logarithms, the running sums within a chunk, the weights. -/

@[expose] public section
set_option maxRecDepth 16384
noncomputable section
namespace Cert.ReferenceIdeal.Read
open Idealize.ShloMosaic Idealize.SL.Sem Cert.ReferenceIdeal Cert.ReferenceIdeal.Gen Pointwise Cert.Re

theorem foldl_sum {M : Type} [AddCommMonoid M] {α : Type} (l : List α) (f : α → M) (a : M) :
    l.foldl (fun r n => r + f n) a = a + (l.map f).sum := by
  induction l generalizing a with
  | nil => simp
  | cons x l ih => rw [List.foldl_cons, ih, List.map_cons, List.sum_cons, add_assoc]

/-- A window of 64 positions ending at `t`, the positions before the first token left out, is the tokens up to `t`. -/
theorem window_sum (l : Fin 64 → ℝ) (t : Fin 64) :
    ∑ x : Fin 64, (if h : 63 ≤ t.val + x.val ∧ t.val + x.val - 63 < 64 then l ⟨t.val + x.val - 63, h.2⟩ else 0) = ∑ s : Fin 64, l s * (if s.val ≤ t.val then 1 else 0) := by
  simp only [mul_ite, mul_one, mul_zero]
  rw [← Finset.sum_filter]
  have e : ∀ x : Fin 64, (if h : 63 ≤ t.val + x.val ∧ t.val + x.val - 63 < 64 then l ⟨t.val + x.val - 63, h.2⟩ else 0)
      = if 63 ≤ t.val + x.val then l ⟨(t.val + x.val - 63) % 64, Nat.mod_lt _ (by norm_num)⟩ else 0 := by
    intro x
    by_cases hx : 63 ≤ t.val + x.val
    · have h2 : t.val + x.val - 63 < 64 := by omega
      rw [dif_pos ⟨hx, h2⟩, if_pos hx]
      congr 1
      exact Fin.ext (Nat.mod_eq_of_lt h2).symm
    · rw [dif_neg (fun h => hx h.1), if_neg hx]
  simp only [e]
  rw [← Finset.sum_filter]
  refine Finset.sum_bij' (fun x _ => ⟨(t.val + x.val - 63) % 64, Nat.mod_lt _ (by norm_num)⟩) (fun s _ => ⟨(s.val + 63 - t.val) % 64, Nat.mod_lt _ (by norm_num)⟩) ?_ ?_ ?_ ?_ ?_
  · intro x hx
    simp only [Finset.mem_filter, Finset.mem_univ, true_and] at hx ⊢
    show (t.val + x.val - 63) % 64 ≤ t.val
    omega
  · intro s hs
    simp only [Finset.mem_filter, Finset.mem_univ, true_and] at hs ⊢
    show 63 ≤ t.val + (s.val + 63 - t.val) % 64
    omega
  · intro x hx
    simp only [Finset.mem_filter, Finset.mem_univ, true_and] at hx
    apply Fin.ext
    show ((t.val + x.val - 63) % 64 + 63 - t.val) % 64 = x.val
    omega
  · intro s hs
    simp only [Finset.mem_filter, Finset.mem_univ, true_and] at hs
    apply Fin.ext
    show (t.val + (s.val + 63 - t.val) % 64 - 63) % 64 = s.val
    omega
  · intro x hx; rfl

abbrev Wn : Shape := ⟨5, ![1, 1, 1, 64, 1]⟩

/-- The window's positions. -/
def winEquiv : Wn.Idx ≃ Fin 64 where
  toFun i := i 3
  invFun x := ix5 0 0 0 x 0
  left_inv i := by
    funext a
    fin_cases a
    · exact Subsingleton.elim (α := Fin 1) _ _
    · exact Subsingleton.elim (α := Fin 1) _ _
    · exact Subsingleton.elim (α := Fin 1) _ _
    · rfl
    · exact Subsingleton.elim (α := Fin 1) _ _
  right_inv x := rfl

/-- The running sum over the tokens of a chunk. -/
theorem cumsum_re (x : FVec Ideal S24x16x18x64x48 .f32) (b : Fin 24) (n : Fin 16) (h : Fin 18) (j : Fin 48) (l : Fin 64 → ℝ)
    (hx : ∀ t, x (ix5 b n h t j) = ((l t : ℝ) : EReal)) (init : FVec Ideal S_ .f32) (hi : ∀ i, init i = 0)
    (hw : S24x16x18x64x48.ReduceWindows ![1, 1, 1, 64, 1] ![1, 1, 1, 1, 1] ![0, 0, 0, 63, 0] ![0, 0, 0, 0, 0] S24x16x18x64x48) (hu : 0 < S_.numel) (t : Fin 64) :
    Host.reduceWindowAdd ![1, 1, 1, 64, 1] ![1, 1, 1, 1, 1] ![0, 0, 0, 63, 0] ![0, 0, 0, 0, 0] x init hw hu (ix5 b n h t j)
      = ((∑ s : Fin 64, l s * (if s.val ≤ t.val then 1 else 0) : ℝ) : EReal) := by
  rw [← window_sum]
  show Host.reduceWindow (fun a b : EReal => a + b) ![1, 1, 1, 64, 1] ![1, 1, 1, 1, 1] ![0, 0, 0, 63, 0] ![0, 0, 0, 0, 0] x (fun _ : (⟨0, ![]⟩ : Shape).Idx => init (Shape.Idx.first hu)) hw (by decide) (ix5 b n h t j) = _
  rw [hi]
  unfold Host.reduceWindow
  simp only []
  refine (foldl_sum _ _ _).trans ?_
  rw [zero_add, ← coe_sum]
  have e1 : ∀ f : Fin Wn.numel → EReal, ((List.finRange Wn.numel).map f).sum = ∑ n, f n := fun f => (List.sum_ofFn (f := f) ▸ by rw [List.ofFn_eq_map])
  refine (e1 _).trans ?_
  have e2 : ∀ f : Wn.Idx → EReal, ∑ n : Fin Wn.numel, f (Wn.rowMajor.symm n) = ∑ y : Fin 64, f (winEquiv.symm y) := fun f =>
    (Equiv.sum_comp Wn.rowMajor.symm f).trans (Equiv.sum_comp winEquiv.symm f).symm
  refine (e2 (fun i => if hin : ∀ a, (![0, 0, 0, 63, 0] : Fin 5 → ℕ) a ≤ ((ix5 b n h t j : S24x16x18x64x48.Idx) a).val * (![1, 1, 1, 1, 1] : Fin 5 → ℕ) a + (i a).val ∧ ((ix5 b n h t j : S24x16x18x64x48.Idx) a).val * (![1, 1, 1, 1, 1] : Fin 5 → ℕ) a + (i a).val - (![0, 0, 0, 63, 0] : Fin 5 → ℕ) a < S24x16x18x64x48.size a then x (fun a => ⟨_, (hin a).2⟩) else 0)).trans ?_
  refine Finset.sum_congr rfl fun y _ => ?_
  have hy : winEquiv.symm y = ix5 0 0 0 y 0 := rfl
  rw [hy]
  by_cases hc : 63 ≤ t.val + y.val ∧ t.val + y.val - 63 < 64
  · rw [dif_pos hc, ← hx, dif_pos]
    · congr 1
      funext a
      fin_cases a <;> apply Fin.ext <;> simp [ix5]
    · intro a
      fin_cases a <;> simp [ix5, S24x16x18x64x48]
      all_goals omega
  · rw [dif_neg hc, dif_neg]
    · rfl
    · intro hin
      apply hc
      have := hin 3
      simpa [ix5, S24x16x18x64x48] using this

section
variable {x3 : Vec Ideal S24x1024x18x48 .bf16} {b : Fin 24} {h : Fin 18} {Fr : Fin 48 → ℕ → ℝ}
  (h3 : ∀ j (s : ℕ) (hs : s < 1024), x3 (ix4 b ⟨s, hs⟩ h j) = ((Fr j s : ℝ) : EReal))
include h3

theorem la_re (n : Fin 16) (t : Fin 64) (j : Fin 48) : val_main_v62 x3 (ix5 b n h t j) = ((Lc Fr n j t : ℝ) : EReal) := by
  pointwise [val_main_v62, val_main_v61, val_main_v60, val_main_v59, val_main_v58, val_main_v57, val_main_v56, val_main_v55, val_main_v54, val_main_v53, val_main_v52, val_main_v51, val_main_cst_11, val_main_cst_12]
  have ht : n.val * 64 + t.val < 1024 := by omega
  have hp : ¬ (1 + Real.exp (-|Fr j (n.val * 64 + t.val)|) ≤ 0) := by have := Real.exp_pos (-|Fr j (n.val * 64 + t.val)|); linarith
  rw [h3 j _ ht, absf_coe, min_zero, ← EReal.coe_neg, Ideal.exp_coe]
  have e : Ideal.ofBits FTy.f32 1090519040#32 = ((8 : ℝ) : EReal) := c_8
  rw [e]
  show Ideal.div (_ - Ideal.log (1 + _)) _ = _
  rw [one_eq, ← EReal.coe_add, Ideal.log_coe, if_neg hp, ← EReal.coe_sub, Cert.Re.div_coe _ (by norm_num)]
  unfold Lc lsg
  rw [Nat.mul_comm 64]

theorem g_re (n : Fin 16) (t : Fin 64) (j : Fin 48) : val_main_v65 x3 (ix5 b n h t j) = ((gr (Lc Fr n) j t : ℝ) : EReal) :=
  cumsum_re _ b n h j _ (fun t => la_re h3 n t j) _ (fun i => by show Ideal.ofBits .f32 0x00000000#32 = 0; exact Ideal.ofBits_zero_f32) _ _ t

theorem w_re (n : Fin 16) (t : Fin 64) (j : Fin 48) : val_main_v64 x3 (ix5 b n h t j) = ((wr (Lc Fr n) j t : ℝ) : EReal) := by
  pointwise [val_main_v64, val_main_v63]
  rw [la_re h3, Ideal.exp_coe, one_eq, ← EReal.coe_sub, ← EReal.coe_neg, neg_sub]
  rfl

theorem we_re (n : Fin 16) (t : Fin 64) (j : Fin 48) : val_main_v73 x3 (ix5 b n h t j) = ((wer (Lc Fr n) j t : ℝ) : EReal) := by
  pointwise [val_main_v73, val_main_v72, val_main_v71, val_main_v70, val_main_v69, val_main_v67, val_main_v66]
  rw [g_re h3, g_re h3, w_re h3, ← EReal.coe_sub, Ideal.exp_coe, ← EReal.coe_mul]
  rfl

theorem qf_re (n : Fin 16) (t : Fin 64) (j : Fin 48) : val_main_v81 x3 (ix5 b n h t j) = ((qfr (Lc Fr n) j t : ℝ) : EReal) := by
  pointwise [val_main_v81, val_main_v80, val_main_v79, val_main_v78, val_main_v77, val_main_v76]
  rw [g_re h3, g_re h3, ← EReal.coe_sub, Ideal.exp_coe]
  rfl

theorem kf_re (n : Fin 16) (t : Fin 64) (j : Fin 48) : val_main_v85 x3 (ix5 b n h t j) = ((kfr (Lc Fr n) j t : ℝ) : EReal) := by
  pointwise [val_main_v85, val_main_v84, val_main_v83, val_main_v82, val_main_v78, val_main_v77, val_main_v76]
  rw [g_re h3, g_re h3, w_re h3, ← EReal.coe_sub, Ideal.exp_coe, ← EReal.coe_mul]
  rfl

theorem eb_re (n : Fin 16) (t : Fin 64) (j : Fin 48) : val_main_v86 x3 (ix5 b n h t j) = ((Real.exp (gr (Lc Fr n) j t) : ℝ) : EReal) := by
  pointwise [val_main_v86]
  rw [g_re h3, Ideal.exp_coe]
end

end Cert.ReferenceIdeal.Read
end
-- ==== Proof.RefRegion.lean ====
module

public import proofs.«01_k».proof.Proof.RefGate

/-! The reference's quantiser: what its kernel leaves in its four results, and the scales it is given. -/

@[expose] public section
set_option maxRecDepth 16384
noncomputable section
namespace Cert.ReferenceIdeal.Value
open Idealize.ShloMosaic Idealize.ShloMosaic.TcCoe Idealize.SL Idealize.SL.Sem Idealize.ShloMosaic.StableHlo Cert.ReferenceIdeal Cert.ReferenceIdeal.Gen

variable (m : (ℓ : Loc nD τ sig) → Buf (Elt Ideal) ℓ)

theorem whole_ld (x : Vec Ideal S24x16x18x64x160 .f32) : View.ld x r0_0 = x := by
  funext i
  refine View.ld_unit_apply_of _ _ _ _ _ _ (fun a => ?_)
  fin_cases a <;> simp

theorem iblk0 (c : Dev nD) (t : Fin cfg0.N) : iblk m c 0 t = V m c main_v2 := by
  funext y
  unfold iblk
  blk_simp
  congr 1
  blk_ext [show win0_0.index t = ![0, 0, 0, 0, 0] from (by decide +kernel : ∀ t : Fin grid0.N, win0_0.index t = ![0, 0, 0, 0, 0]) t]
theorem rd1 (X : FVec Ideal S24x16x18x64x160 .f32) (t : Fin cfg0.N) : ((cfg0.win 1).blk t).view.read (Elt Ideal) X = X := by
  funext y
  blk_simp
  refine congrArg X ?_
  blk_ext [show win0_1.index t = ![0, 0, 0, 0, 0] from (by decide +kernel : ∀ t : Fin grid0.N, win0_1.index t = ![0, 0, 0, 0, 0]) t]
theorem iblk1 (c : Dev nD) (t : Fin cfg0.N) : iblk m c 1 t = V m c main_v41 := by
  exact rd1 _ t
theorem iblk2 (c : Dev nD) (t : Fin cfg0.N) : iblk m c 2 t = V m c main_v5 := by
  funext y
  unfold iblk
  blk_simp
  congr 1
  blk_ext [show win0_2.index t = ![0, 0, 0, 0, 0] from (by decide +kernel : ∀ t : Fin grid0.N, win0_2.index t = ![0, 0, 0, 0, 0]) t]
theorem rd3 (X : FVec Ideal S24x16x18x64x160 .f32) (t : Fin cfg0.N) : ((cfg0.win 3).blk t).view.read (Elt Ideal) X = X := by
  funext y
  blk_simp
  refine congrArg X ?_
  blk_ext [show win0_3.index t = ![0, 0, 0, 0, 0] from (by decide +kernel : ∀ t : Fin grid0.N, win0_3.index t = ![0, 0, 0, 0, 0]) t]
theorem iblk3 (c : Dev nD) (t : Fin cfg0.N) : iblk m c 3 t = V m c main_v43 := by
  exact rd3 _ t
theorem fin4 (c : Dev nD) : reg_main_v44_0 m c = k0_pay3 (V m c main_v41) (V m c main_v2) := by
  unfold reg_main_v44_0
  refine (dats m 0 c).arrAt_eq_of_after_last 4 ⟨0, by decide⟩ (by decide +kernel) _ (fun j => ?_)
  blk_simp
  refine (congrFun (after0_4 m c _) _).trans ?_
  frame_out
  exact congrFun (congrArg₂ (fun u v => k0_pay3 u v) (iblk1 m c _) (iblk0 m c _)) j
theorem fin5 (c : Dev nD) : reg_main_v44_1 m c = k0_pay1 (k0_pay5 (V m c main_v43) (V m c main_v5)) (Scalar.ofBits .f32 0xC3E00000#32) (Scalar.ofBits .f32 0x43E00000#32) := by
  unfold reg_main_v44_1
  refine (dats m 0 c).arrAt_eq_of_after_last 5 ⟨0, by decide⟩ (by decide +kernel) _ (fun j => ?_)
  blk_simp
  refine (congrFun (after0_5 m c _) _).trans ?_
  frame_out
  unfold k0_pay6
  exact congrFun (congrArg₂ (fun u v => k0_pay1 (k0_pay5 u v) (Scalar.ofBits .f32 0xC3E00000#32) (Scalar.ofBits .f32 0x43E00000#32)) ((whole_ld _).trans (iblk3 m c _)) ((whole_ld _).trans (iblk2 m c _))) j
theorem fin6 (c : Dev nD) : reg_main_v44_2 m c = k0_pay4 (V m c main_v41) (V m c main_v2) := by
  unfold reg_main_v44_2
  refine (dats m 0 c).arrAt_eq_of_after_last 6 ⟨0, by decide⟩ (by decide +kernel) _ (fun j => ?_)
  blk_simp
  refine (congrFun (after0_6 m c _) _).trans ?_
  frame_out
  exact congrFun (congrArg₂ (fun u v => k0_pay4 u v) (iblk1 m c _) (iblk0 m c _)) j
theorem fin7 (c : Dev nD) : reg_main_v44_3 m c = k0_pay2 (k0_pay5 (V m c main_v43) (V m c main_v5)) (Scalar.ofBits .f32 0xC3E00000#32) (Scalar.ofBits .f32 0x43E00000#32) := by
  unfold reg_main_v44_3
  refine (dats m 0 c).arrAt_eq_of_after_last 7 ⟨0, by decide⟩ (by decide +kernel) _ (fun j => ?_)
  blk_simp
  refine (congrFun (after0_7 m c _) _).trans ?_
  frame_out
  unfold k0_pay6
  exact congrFun (congrArg₂ (fun u v => k0_pay2 (k0_pay5 u v) (Scalar.ofBits .f32 0xC3E00000#32) (Scalar.ofBits .f32 0x43E00000#32)) ((whole_ld _).trans (iblk3 m c _)) ((whole_ld _).trans (iblk2 m c _))) j
theorem v41_eq (c : Dev nD) : V m c main_v41 = broadcastInDim S24x16x18x64x160 ![0, 1, 2, 3, 4] bcast_S24x16x18x1x1_S24x16x18x64x160_0_1_2_3_4 (broadcastInDim S24x16x18x1x1 ![0, 1, 2] bcast_S24x16x18_S24x16x18x1x1_0_1_2 (V m c main_v22)) := by
  show Gen.V0 m c (Proc.devRef .tc main_v41) = broadcastInDim S24x16x18x64x160 ![0, 1, 2, 3, 4] bcast_S24x16x18x1x1_S24x16x18x64x160_0_1_2_3_4 (broadcastInDim S24x16x18x1x1 ![0, 1, 2] bcast_S24x16x18_S24x16x18x1x1_0_1_2 (Gen.V0 m c (Proc.devRef .tc main_v22)))
  simp only [Gen.V0, Gen.hostOps0, Gen.hostOps0_1, Gen.hostOps0_2, Gen.hostOps0_3, Gen.hostOps0_4, TRef.ternary, TRef.unary, TRef.toBuf, TRef.ofBuf, cast_eq, List.flatten_cons, List.flatten_nil, List.append_nil, List.cons_append, List.nil_append]
  after_results_simp <;> rfl
theorem v43_eq (c : Dev nD) : V m c main_v43 = broadcastInDim S24x16x18x64x160 ![0, 1, 2, 3, 4] bcast_S24x16x18x1x1_S24x16x18x64x160_0_1_2_3_4 (broadcastInDim S24x16x18x1x1 ![0, 1, 2] bcast_S24x16x18_S24x16x18x1x1_0_1_2 (V m c main_v39)) := by
  show Gen.V0 m c (Proc.devRef .tc main_v43) = broadcastInDim S24x16x18x64x160 ![0, 1, 2, 3, 4] bcast_S24x16x18x1x1_S24x16x18x64x160_0_1_2_3_4 (broadcastInDim S24x16x18x1x1 ![0, 1, 2] bcast_S24x16x18_S24x16x18x1x1_0_1_2 (Gen.V0 m c (Proc.devRef .tc main_v39)))
  simp only [Gen.V0, Gen.hostOps0, Gen.hostOps0_1, Gen.hostOps0_2, Gen.hostOps0_3, Gen.hostOps0_4, TRef.ternary, TRef.unary, TRef.toBuf, TRef.ofBuf, cast_eq, List.flatten_cons, List.flatten_nil, List.append_nil, List.cons_append, List.nil_append]
  after_results_simp <;> rfl
theorem v2_eq (c : Dev nD) : V m c main_v2 = extf (F := Ideal) .f32 (transpose S24x16x18x64x160 [0, 1, 3, 2, 4] (shapeCast _ (m ((c.tc : Thread nD τ).loc main_arg0)) shapeCasts_S24x1024x18x160_S24x16x64x18x160) transposes_S24x16x64x18x160_S24x16x18x64x160_0_1_3_2_4) bitsLt_bf16_f32 := by
  show Gen.V0 m c (Proc.devRef .tc main_v2) = _
  simp only [Gen.V0, Gen.hostOps0, Gen.hostOps0_1, Gen.hostOps0_2, Gen.hostOps0_3, Gen.hostOps0_4, TRef.ternary, TRef.unary, TRef.toBuf, TRef.ofBuf, cast_eq, List.flatten_cons, List.flatten_nil, List.append_nil, List.cons_append, List.nil_append]
  after_results_simp <;> rfl
theorem v5_eq (c : Dev nD) : V m c main_v5 = extf (F := Ideal) .f32 (transpose S24x16x18x64x160 [0, 1, 3, 2, 4] (shapeCast _ (m ((c.tc : Thread nD τ).loc main_arg1)) shapeCasts_S24x1024x18x160_S24x16x64x18x160) transposes_S24x16x64x18x160_S24x16x18x64x160_0_1_3_2_4) bitsLt_bf16_f32 := by
  show Gen.V0 m c (Proc.devRef .tc main_v5) = _
  simp only [Gen.V0, Gen.hostOps0, Gen.hostOps0_1, Gen.hostOps0_2, Gen.hostOps0_3, Gen.hostOps0_4, TRef.ternary, TRef.unary, TRef.toBuf, TRef.ofBuf, cast_eq, List.flatten_cons, List.flatten_nil, List.append_nil, List.cons_append, List.nil_append]
  after_results_simp <;> rfl

end Cert.ReferenceIdeal.Value
end
-- ==== Proof.RefScale.lean ====
module

public import proofs.«01_k».proof.Proof.RefRegion
public import proofs.«01_k».proof.Proof.Point

/-! The scales of the chunks, as the reference takes them: a power of two from the largest magnitude of the chunk. -/

@[expose] public section
set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.StableHlo Pointwise Cert.Re
open Cert.KernelIdeal.Stage (sl cd am scl k448 c_k448)

/-- The magnitudes, by chunk and head. -/
def absOf (x : FVec Ideal S24x1024x18x160 .bf16) : FVec Ideal S24x16x18x64x160 .f32 :=
  Host.absf (extf (F := Ideal) .f32 (transpose S24x16x18x64x160 [0, 1, 3, 2, 4] (shapeCast _ x shapeCasts_S24x1024x18x160_S24x16x64x18x160) transposes_S24x16x64x18x160_S24x16x18x64x160_0_1_3_2_4) bitsLt_bf16_f32)
/-- The chunks' largest magnitudes. -/
def redOf (x : FVec Ideal S24x1024x18x160 .bf16) : FVec Ideal S24x16x18 .f32 :=
  Host.reduce FloatOps.maximumf (absOf x) (constant S_ .f32 0xFF800000#32) reducesTo_S24x16x18x64x160_S24x16x18_d3_4 h_S_
/-- The chunks' largest magnitudes over 448. -/
def overOf (x : FVec Ideal S24x1024x18x160 .bf16) : FVec Ideal S24x16x18 .f32 :=
  mulf (redOf x) (broadcastInDim S24x16x18 ![] bcast_S_S24x16x18 (constant S_ .f32 0x3B124925#32))
/-- The power of two. -/
def scaleOf (o : FVec Ideal S24x16x18 .f32) : FVec Ideal S24x16x18 .f32 :=
  Host.exp (mulf (select (cmpf .olt (o) (broadcastInDim S24x16x18 ![] bcast_S_S24x16x18 (constant S_ .f32 0x00800000#32))) (broadcastInDim S24x16x18 ![] bcast_S_S24x16x18 (id (constant S_ .f32 0x00000000#32))) (addf (Host.floor (Host.divf (Host.log (o)) (broadcastInDim S24x16x18 ![] bcast_S_S24x16x18 (Host.log (constant S_ .f32 0x40000000#32))))) (broadcastInDim S24x16x18 ![] bcast_S_S24x16x18 (constant S_ .f32 0x3F800000#32)))) (broadcastInDim S24x16x18 ![] bcast_S_S24x16x18 (Host.log (constant S_ .f32 0x40000000#32))))

variable (m : (ℓ : Loc nD τ sig) → Buf (Elt Ideal) ℓ)
theorem v22_eq (c : Dev nD) : V m c main_v22 = scaleOf (overOf (m ((c.tc : Thread nD τ).loc main_arg0))) := by
  unfold scaleOf overOf redOf absOf
  show Gen.V0 m c (Proc.devRef .tc main_v22) = _
  simp only [Gen.V0, Gen.hostOps0, Gen.hostOps0_1, Gen.hostOps0_2, Gen.hostOps0_3, Gen.hostOps0_4, TRef.ternary, TRef.unary, TRef.toBuf, TRef.ofBuf, cast_eq, List.flatten_cons, List.flatten_nil, List.append_nil, List.cons_append, List.nil_append]
  after_results_simp <;> rfl
theorem v39_eq (c : Dev nD) : V m c main_v39 = scaleOf (overOf (m ((c.tc : Thread nD τ).loc main_arg1))) := by
  unfold scaleOf overOf redOf absOf
  show Gen.V0 m c (Proc.devRef .tc main_v39) = _
  simp only [Gen.V0, Gen.hostOps0, Gen.hostOps0_1, Gen.hostOps0_2, Gen.hostOps0_3, Gen.hostOps0_4, TRef.ternary, TRef.unary, TRef.toBuf, TRef.ofBuf, cast_eq, List.flatten_cons, List.flatten_nil, List.append_nil, List.cons_append, List.nil_append]
  after_results_simp <;> rfl

section
variable {x : FVec Ideal S24x1024x18x160 .bf16} {Q : Fin 160 → ℕ → ℝ} {b : Fin 24} {h : Fin 18}
    (hx : ∀ d (s : ℕ) (hs : s < 1024), x (ix4 b ⟨s, hs⟩ h d) = ((Q d s : ℝ) : EReal))
include hx
theorem abs_at (n : Fin 16) (t : Fin 64) (d : Fin 160) : absOf x (ix5 b n h t d) = ((|Q d (64 * n.val + t.val)| : ℝ) : EReal) := by
  have e : absOf x (ix5 b n h t d) = FloatOps.absf (F := Ideal) (φ := .f32) (x (ix4 b ⟨64 * n.val + t.val, by omega⟩ h d)) := by
    pointwise [absOf]
    congr 3
    exact Fin.ext (by simp only; omega)
  rw [e, hx]
  exact absf_coe _

theorem red_at (n : Fin 16) : redOf x (ix3 b n h) = ((am Q n.val : ℝ) : EReal) := by
  unfold redOf
  rw [Host.reduce_eq_fold]
  generalize hX : absOf x = X
  have hm : ∀ i : S24x16x18x64x160.Idx, i ∈ (Finset.univ.filter fun i => (reducesTo_S24x16x18x64x160_S24x16x18_d3_4).drop i = ix3 b n h) ↔ (i 0 = b ∧ i 1 = n ∧ i 2 = h) := by
    intro i
    rw [Finset.mem_filter]
    have v0 := Shape.ReducesTo.drop_apply_val_of_eq (reducesTo_S24x16x18x64x160_S24x16x18_d3_4) i 0 0
    have v1 := Shape.ReducesTo.drop_apply_val_of_eq (reducesTo_S24x16x18x64x160_S24x16x18_d3_4) i 1 1
    have v2 := Shape.ReducesTo.drop_apply_val_of_eq (reducesTo_S24x16x18x64x160_S24x16x18_d3_4) i 2 2
    constructor
    · rintro ⟨-, e⟩
      rw [e] at v0 v1 v2
      exact ⟨Fin.ext v0.symm, Fin.ext v1.symm, Fin.ext v2.symm⟩
    · rintro ⟨e0, e1, e2⟩
      refine ⟨Finset.mem_univ _, funext fun a => Fin.ext ?_⟩
      match a with
      | ⟨0, _⟩ => exact v0.trans (congrArg Fin.val e0)
      | ⟨1, _⟩ => exact v1.trans (congrArg Fin.val e1)
      | ⟨2, _⟩ => exact v2.trans (congrArg Fin.val e2)
  have hv : ∀ i ∈ (Finset.univ.filter fun i => (reducesTo_S24x16x18x64x160_S24x16x18_d3_4).drop i = ix3 b n h), X i = ((|Q (i 4) (64 * n.val + (i 3).val)| : ℝ) : EReal) := by
    intro i hi
    obtain ⟨e0, e1, e2⟩ := (hm i).1 hi
    have e : i = ix5 b n h (i 3) (i 4) := by
      funext a
      match a with
      | ⟨0, _⟩ => exact e0
      | ⟨1, _⟩ => exact e1
      | ⟨2, _⟩ => exact e2
      | ⟨3, _⟩ => rfl
      | ⟨4, _⟩ => rfl
    rw [← hX]
    exact (congrArg (absOf x) e).trans (abs_at hx n (i 3) (i 4))
  have hne : (Finset.univ.filter fun i => (reducesTo_S24x16x18x64x160_S24x16x18_d3_4).drop i = ix3 b n h).Nonempty := ⟨ix5 b n h 0 0, (hm _).2 ⟨rfl, rfl, rfl⟩⟩
  refine (Finset.fold_congr hv).trans ?_
  refine (congrArg (fun z => Finset.fold max z _ _) bot_f32).trans ?_
  refine (fold_max_coe _ hne _).trans ?_
  refine congrArg Real.toEReal ?_
  unfold am
  apply le_antisymm
  · refine Finset.sup'_le _ _ fun i _ => ?_
    exact Finset.le_sup' (fun p : Fin 64 × Fin 160 => |Q p.2 (64 * n.val + p.1.val)|) (Finset.mem_univ (i 3, i 4))
  · refine Finset.sup'_le _ _ fun p _ => ?_
    exact Finset.le_sup' (fun i : S24x16x18x64x160.Idx => |Q (i 4) (64 * n.val + (i 3).val)|) ((hm (ix5 b n h p.1 p.2)).2 ⟨rfl, rfl, rfl⟩)

omit hx in
theorem overM_at (y : FVec Ideal S24x16x18 .f32) (n : Fin 16) : (mulf y (broadcastInDim S24x16x18 ![] bcast_S_S24x16x18 (constant S_ .f32 0x3B124925#32))) (ix3 b n h) = y (ix3 b n h) * Ideal.ofBits FTy.f32 991054117#32 := by
  rfl

theorem over_at (n : Fin 16) : overOf x (ix3 b n h) = ((am Q n.val * k448 : ℝ) : EReal) := by
  rw [overOf, overM_at, red_at hx, c_k448, ← EReal.coe_mul]
end

theorem c_two' : Ideal.ofBits FTy.f32 1073741824#32 = ((2 : ℝ) : EReal) := by
  have := Cert.KernelIdeal.Stage.pow2_bits 128 (by norm_num) (by norm_num)
  rw [show (2:ℝ) = (2:ℝ) ^ (((128:ℕ):ℤ) - 127) from by norm_num, ← this]
  rfl

theorem scale_at {o : FVec Ideal S24x16x18 .f32} {b : Fin 24} {n : Fin 16} {h : Fin 18} {y : ℝ} (ho : o (ix3 b n h) = ((y : ℝ) : EReal)) :
    scaleOf o (ix3 b n h) = ((scl y : ℝ) : EReal) := by
  pointwise [scaleOf]
  rw [ho, c_two', show Ideal.ofBits FTy.f32 8388608#32 = (((2:ℝ) ^ (-126:ℤ) : ℝ) : EReal) from Cert.KernelIdeal.Stage.b0_eq,
    show Ideal.log ((2 : ℝ) : EReal) = ((Real.log 2 : ℝ) : EReal) from by rw [Ideal.log_coe, if_neg (by norm_num)]]
  have hp : ∀ k : ℤ, Real.exp ((k : ℝ) * Real.log 2) = (2:ℝ) ^ k := by
    intro k
    rw [mul_comm, ← Real.rpow_def_of_pos (by norm_num), Real.rpow_intCast]
  have h2 : Real.log 2 ≠ 0 := (Real.log_pos (by norm_num)).ne'
  by_cases hy : y < (2:ℝ) ^ (-126:ℤ)
  · rw [if_pos (EReal.coe_lt_coe_iff.2 hy), show id (constant (F := Ideal) S_ FTy.f32 0#32) ix0 = (((0:ℤ):ℝ) : EReal) from by simpa using (by pointwise [] : constant (F := Ideal) S_ FTy.f32 0#32 ix0 = 0), ← EReal.coe_mul, Ideal.exp_coe, hp]
    unfold scl Cert.KernelIdeal.Stage.expo
    rw [if_pos hy]
  · have hpos : ¬ y ≤ 0 := fun h => hy (lt_of_le_of_lt h (by positivity))
    rw [if_neg (fun h => hy (EReal.coe_lt_coe_iff.1 h)), Ideal.log_coe, if_neg hpos, div_coe _ h2, Ideal.liftRound_coe, one_eq, ← EReal.coe_add, ← EReal.coe_mul, Ideal.exp_coe]
    refine congrArg Real.toEReal ?_
    have := hp (⌊Real.log y / Real.log 2⌋ + 1)
    rw [Int.cast_add, Int.cast_one] at this
    rw [this]
    unfold scl Cert.KernelIdeal.Stage.expo
    rw [if_neg hy]

theorem tr_at (x : FVec Ideal S24x1024x18x160 .bf16) (b : Fin 24) (h : Fin 18) (n : Fin 16) (t : Fin 64) (d : Fin 160) :
    (extf (F := Ideal) .f32 (transpose S24x16x18x64x160 [0, 1, 3, 2, 4] (shapeCast _ x shapeCasts_S24x1024x18x160_S24x16x64x18x160) transposes_S24x16x64x18x160_S24x16x18x64x160_0_1_3_2_4) bitsLt_bf16_f32 : FVec Ideal S24x16x18x64x160 .f32) (ix5 b n h t d) = x (ix4 b ⟨64 * n.val + t.val, by omega⟩ h d) := by
  pointwise []
  refine congrArg x ?_
  congr 1
  exact Fin.ext (by simp only; omega)

theorem pay3_at (s x : FVec Ideal S24x16x18x64x160 .f32) (i : S24x16x18x64x160.Idx) :
    k0_pay3 (F := Ideal) s x i = min (Ideal.ofBits .f32 0x43E00000#32) (max (Ideal.ofBits .f32 0xC3E00000#32) (x i * Ideal.div 1 (s i))) := by
  rw [← Ideal.ofBits_one_f32]
  simp only [k0_pay3, shapeCast_self]
  rfl

theorem pay4_at (s x : FVec Ideal S24x16x18x64x160 .f32) (i : S24x16x18x64x160.Idx) :
    k0_pay4 (F := Ideal) s x i = min (Ideal.ofBits .f32 0x43E00000#32) (max (Ideal.ofBits .f32 0xC3E00000#32) (x i * Ideal.div 1 (s i))) := by
  rw [← Ideal.ofBits_one_f32]
  simp only [k0_pay4, k0_pay3, shapeCast_self]
  rfl

theorem pay1_at (s x : FVec Ideal S24x16x18x64x160 .f32) (i : S24x16x18x64x160.Idx) :
    k0_pay1 (F := Ideal) (k0_pay5 s x) (Scalar.ofBits .f32 0xC3E00000#32) (Scalar.ofBits .f32 0x43E00000#32) i = min (Ideal.ofBits .f32 0x43E00000#32) (max (Ideal.ofBits .f32 0xC3E00000#32) (x i * Ideal.div 1 (s i))) := by
  rw [← Ideal.ofBits_one_f32]
  simp only [k0_pay1, k0_pay5, shapeCast_self]
  rfl

theorem pay2_at (s x : FVec Ideal S24x16x18x64x160 .f32) (i : S24x16x18x64x160.Idx) :
    k0_pay2 (F := Ideal) (k0_pay5 s x) (Scalar.ofBits .f32 0xC3E00000#32) (Scalar.ofBits .f32 0x43E00000#32) i = min (Ideal.ofBits .f32 0x43E00000#32) (max (Ideal.ofBits .f32 0xC3E00000#32) (x i * Ideal.div 1 (s i))) := by
  rw [← Ideal.ofBits_one_f32]
  simp only [k0_pay2, k0_pay1, k0_pay5, shapeCast_self]
  rfl

section
variable {m} {c : Dev nD} {b : Fin 24} {h : Fin 18} {Q K : Fin 160 → ℕ → ℝ}
  (h0 : ∀ d (s : ℕ) (hs : s < 1024), m ((c.tc : Thread nD τ).loc main_arg0) (ix4 b ⟨s, hs⟩ h d) = ((Q d s : ℝ) : EReal))
  (h1 : ∀ d (s : ℕ) (hs : s < 1024), m ((c.tc : Thread nD τ).loc main_arg1) (ix4 b ⟨s, hs⟩ h d) = ((K d s : ℝ) : EReal))
include h0 in
theorem v22_at (n : Fin 16) : V m c main_v22 (ix3 b n h) = ((sl Q n.val : ℝ) : EReal) := by
  rw [v22_eq]; exact scale_at (over_at h0 n)
include h1 in
theorem v39_at (n : Fin 16) : V m c main_v39 (ix3 b n h) = ((sl K n.val : ℝ) : EReal) := by
  rw [v39_eq]; exact scale_at (over_at h1 n)
include h0 in
theorem v41_at (n : Fin 16) (t : Fin 64) (d : Fin 160) : V m c main_v41 (ix5 b n h t d) = ((sl Q n.val : ℝ) : EReal) := by
  refine Eq.trans ?_ (v22_at h0 n)
  rw [v41_eq]
  generalize V m c main_v22 = y
  pointwise []
include h1 in
theorem v43_at (n : Fin 16) (t : Fin 64) (d : Fin 160) : V m c main_v43 (ix5 b n h t d) = ((sl K n.val : ℝ) : EReal) := by
  refine Eq.trans ?_ (v39_at h1 n)
  rw [v43_eq]
  generalize V m c main_v39 = y
  pointwise []
include h0 in
theorem v2_at (n : Fin 16) (t : Fin 64) (d : Fin 160) : V m c main_v2 (ix5 b n h t d) = ((Q d (64 * n.val + t.val) : ℝ) : EReal) :=
  (congrFun (v2_eq m c) _).trans ((tr_at _ b h n t d).trans (h0 d (64 * n.val + t.val) (by omega)))
include h1 in
theorem v5_at (n : Fin 16) (t : Fin 64) (d : Fin 160) : V m c main_v5 (ix5 b n h t d) = ((K d (64 * n.val + t.val) : ℝ) : EReal) :=
  (congrFun (v5_eq m c) _).trans ((tr_at _ b h n t d).trans (h1 d (64 * n.val + t.val) (by omega)))

theorem code_of {s x : EReal} {X : Fin 160 → ℕ → ℝ} {n : Fin 16} {t : Fin 64} {d : Fin 160} (hs : s = ((sl X n.val : ℝ) : EReal)) (hx : x = ((X d (64 * n.val + t.val) : ℝ) : EReal)) :
    min (Ideal.ofBits .f32 0x43E00000#32) (max (Ideal.ofBits .f32 0xC3E00000#32) (x * Ideal.div 1 s)) = ((Cc X n.val d t : ℝ) : EReal) := by
  have hp : sl X n.val ≠ 0 := by unfold sl scl; positivity
  rw [hs, hx, show Ideal.ofBits .f32 0x43E00000#32 = ((448 : ℝ) : EReal) from c_448, show Ideal.ofBits .f32 0xC3E00000#32 = ((-448 : ℝ) : EReal) from c_m448, one_eq, div_coe _ hp, ← EReal.coe_mul, coe_max, coe_min]
  unfold Cc cd
  rw [show (64 * n.val + t.val) / 64 = n.val from by omega, one_div]
include h0 in
theorem r0_at (n : Fin 16) (t : Fin 64) (d : Fin 160) : reg_main_v44_0 m c (ix5 b n h t d) = ((Cc Q n.val d t : ℝ) : EReal) :=
  (congrFun (fin4 m c) _).trans ((pay3_at _ _ _).trans (code_of (v41_at h0 n t d) (v2_at h0 n t d)))
include h1 in
theorem r1_at (n : Fin 16) (t : Fin 64) (d : Fin 160) : reg_main_v44_1 m c (ix5 b n h t d) = ((Cc K n.val d t : ℝ) : EReal) :=
  (congrFun (fin5 m c) _).trans ((pay1_at _ _ _).trans (code_of (v43_at h1 n t d) (v5_at h1 n t d)))
include h0 in
theorem r2_at (n : Fin 16) (t : Fin 64) (d : Fin 160) : reg_main_v44_2 m c (ix5 b n h t d) = ((Cc Q n.val d t : ℝ) : EReal) :=
  (congrFun (fin6 m c) _).trans ((pay4_at _ _ _).trans (code_of (v41_at h0 n t d) (v2_at h0 n t d)))
include h1 in
theorem r3_at (n : Fin 16) (t : Fin 64) (d : Fin 160) : reg_main_v44_3 m c (ix5 b n h t d) = ((Cc K n.val d t : ℝ) : EReal) :=
  (congrFun (fin7 m c) _).trans ((pay2_at _ _ _).trans (code_of (v43_at h1 n t d) (v5_at h1 n t d)))

end

end Cert.ReferenceIdeal.Value
end
-- ==== Proof.RefState.lean ====
module

public import proofs.«01_k».proof.Proof.RefGate

/-! The reference's states, softmax and output at real arguments. -/

@[expose] public section
set_option maxRecDepth 16384
noncomputable section
namespace Cert.ReferenceIdeal.Read
open Idealize.ShloMosaic Idealize.SL.Sem Cert.ReferenceIdeal Cert.ReferenceIdeal.Gen Pointwise Cert.Re WordCmp
open Cert.KernelIdeal.Stage (sl cd am scl k448)

section
variable {x2 : Vec Ideal S24x1024x18x160 .bf16} {x3 : Vec Ideal S24x1024x18x48 .bf16} {r2 r3 : FVec Ideal S24x16x18x64x160 .f32}
  {e0 e1 : FVec Ideal S24x16x18 .f32} {b : Fin 24} {h : Fin 18} {Fr : Fin 48 → ℕ → ℝ} {Q K V : Fin 160 → ℕ → ℝ}
  (h2 : ∀ d (s : ℕ) (hs : s < 1024), x2 (ix4 b ⟨s, hs⟩ h d) = ((V d s : ℝ) : EReal))
  (h3 : ∀ j (s : ℕ) (hs : s < 1024), x3 (ix4 b ⟨s, hs⟩ h j) = ((Fr j s : ℝ) : EReal))
  (hq : ∀ (n : Fin 16) t d, r2 (ix5 b n h t d) = ((Cc Q n d t : ℝ) : EReal))
  (hk : ∀ (n : Fin 16) t d, r3 (ix5 b n h t d) = ((Cc K n d t : ℝ) : EReal))
  (hsk : ∀ n : Fin 16, e0 (ix3 b n h) = ((sl K n : ℝ) : EReal)) (hsq : ∀ n : Fin 16, e1 (ix3 b n h) = ((sl Q n : ℝ) : EReal))

include h2 in
theorem v_re (n : Fin 16) (t : Fin 64) (d : Fin 160) : val_main_v47 x2 (ix5 b n h t d) = ((Tc V n d t : ℝ) : EReal) := by
  pointwise [val_main_v47, val_main_v46, val_main_v45]
  rw [h2 d _ (by omega)]
  unfold Tc
  rw [Nat.mul_comm 64]

include h3 hk hsk in
theorem dk_re (n : Fin 16) (j : Fin 48) (d : Fin 160) : val_main_v74 x3 r3 e0 (ix5 b n h j d)
    = ((∑ s, wer (Lc Fr n) j s * (Cc K n d s * sl K n) : ℝ) : EReal) := by
  pointwise [val_main_v74]
  rw [← coe_sum]
  refine Finset.sum_congr rfl fun s _ => ?_
  rw [we_re h3, EReal.coe_mul]
  congr 1
  pointwise [val_main_v50, val_main_v49, val_main_v48]
  rw [hk, hsk, EReal.coe_mul]

include h2 h3 in
theorem dv_re (n : Fin 16) (j : Fin 48) (d : Fin 160) : val_main_v75 x2 x3 (ix5 b n h j d)
    = ((∑ s, wer (Lc Fr n) j s * Tc V n d s : ℝ) : EReal) := by
  pointwise [val_main_v75]
  rw [← coe_sum]
  refine Finset.sum_congr rfl fun s _ => ?_
  rw [we_re h3, v_re h2, EReal.coe_mul]

include h3 hk hsk in
theorem ks1_re (j : Fin 48) (d : Fin 160) : val_main_v104 x3 r3 e0 (ix4 b h j d) = ((KR K Fr 1 j d : ℝ) : EReal) := by
  pointwise [val_main_v104, val_main_v103, val_main_v102, val_main_v101, val_main_v100, val_main_v99, val_main_v98, val_main_v97, val_main_v68, val_main_v67, val_main_v66, val_main_v95, val_main_cst_14]
  rw [g_re h3 0, dk_re h3 hk hsk 0, Ideal.exp_coe]
  simp only [zero_eq]
  rw [← EReal.coe_mul, ← EReal.coe_add]
  rfl

include h2 h3 in
theorem vs1_re (j : Fin 48) (d : Fin 160) : val_main_v112 x2 x3 (ix4 b h j d) = ((VR V Fr 1 j d : ℝ) : EReal) := by
  pointwise [val_main_v112, val_main_v111, val_main_v110, val_main_v109, val_main_v108, val_main_v107, val_main_v106, val_main_v105, val_main_v68, val_main_v67, val_main_v66, val_main_v96, val_main_cst_15]
  rw [g_re h3 0, dv_re h2 h3 0, Ideal.exp_coe]
  simp only [zero_eq]
  rw [← EReal.coe_mul, ← EReal.coe_add]
  rfl

include h3 hk hsk in
theorem ks2_re (j : Fin 48) (d : Fin 160) : val_main_v120 x3 r3 e0 (ix4 b h j d) = ((KR K Fr 2 j d : ℝ) : EReal) := by
  pointwise [val_main_v120, val_main_v119, val_main_v118, val_main_v117, val_main_v116, val_main_v115, val_main_v114, val_main_v113, val_main_v68, val_main_v67, val_main_v66]
  rw [g_re h3 1, dk_re h3 hk hsk 1, Ideal.exp_coe, ks1_re h3 hk hsk]
  skip
  rw [← EReal.coe_mul, ← EReal.coe_add]
  rfl

include h2 h3 in
theorem vs2_re (j : Fin 48) (d : Fin 160) : val_main_v128 x2 x3 (ix4 b h j d) = ((VR V Fr 2 j d : ℝ) : EReal) := by
  pointwise [val_main_v128, val_main_v127, val_main_v126, val_main_v125, val_main_v124, val_main_v123, val_main_v122, val_main_v121, val_main_v68, val_main_v67, val_main_v66]
  rw [g_re h3 1, dv_re h2 h3 1, Ideal.exp_coe, vs1_re h2 h3]
  skip
  rw [← EReal.coe_mul, ← EReal.coe_add]
  rfl

include h3 hk hsk in
theorem ks3_re (j : Fin 48) (d : Fin 160) : val_main_v136 x3 r3 e0 (ix4 b h j d) = ((KR K Fr 3 j d : ℝ) : EReal) := by
  pointwise [val_main_v136, val_main_v135, val_main_v134, val_main_v133, val_main_v132, val_main_v131, val_main_v130, val_main_v129, val_main_v68, val_main_v67, val_main_v66]
  rw [g_re h3 2, dk_re h3 hk hsk 2, Ideal.exp_coe, ks2_re h3 hk hsk]
  skip
  rw [← EReal.coe_mul, ← EReal.coe_add]
  rfl

include h2 h3 in
theorem vs3_re (j : Fin 48) (d : Fin 160) : val_main_v144 x2 x3 (ix4 b h j d) = ((VR V Fr 3 j d : ℝ) : EReal) := by
  pointwise [val_main_v144, val_main_v143, val_main_v142, val_main_v141, val_main_v140, val_main_v139, val_main_v138, val_main_v137, val_main_v68, val_main_v67, val_main_v66]
  rw [g_re h3 2, dv_re h2 h3 2, Ideal.exp_coe, vs2_re h2 h3]
  skip
  rw [← EReal.coe_mul, ← EReal.coe_add]
  rfl

include h3 hk hsk in
theorem ks4_re (j : Fin 48) (d : Fin 160) : val_main_v152 x3 r3 e0 (ix4 b h j d) = ((KR K Fr 4 j d : ℝ) : EReal) := by
  pointwise [val_main_v152, val_main_v151, val_main_v150, val_main_v149, val_main_v148, val_main_v147, val_main_v146, val_main_v145, val_main_v68, val_main_v67, val_main_v66]
  rw [g_re h3 3, dk_re h3 hk hsk 3, Ideal.exp_coe, ks3_re h3 hk hsk]
  skip
  rw [← EReal.coe_mul, ← EReal.coe_add]
  rfl

include h2 h3 in
theorem vs4_re (j : Fin 48) (d : Fin 160) : val_main_v160 x2 x3 (ix4 b h j d) = ((VR V Fr 4 j d : ℝ) : EReal) := by
  pointwise [val_main_v160, val_main_v159, val_main_v158, val_main_v157, val_main_v156, val_main_v155, val_main_v154, val_main_v153, val_main_v68, val_main_v67, val_main_v66]
  rw [g_re h3 3, dv_re h2 h3 3, Ideal.exp_coe, vs3_re h2 h3]
  skip
  rw [← EReal.coe_mul, ← EReal.coe_add]
  rfl

include h3 hk hsk in
theorem ks5_re (j : Fin 48) (d : Fin 160) : val_main_v168 x3 r3 e0 (ix4 b h j d) = ((KR K Fr 5 j d : ℝ) : EReal) := by
  pointwise [val_main_v168, val_main_v167, val_main_v166, val_main_v165, val_main_v164, val_main_v163, val_main_v162, val_main_v161, val_main_v68, val_main_v67, val_main_v66]
  rw [g_re h3 4, dk_re h3 hk hsk 4, Ideal.exp_coe, ks4_re h3 hk hsk]
  skip
  rw [← EReal.coe_mul, ← EReal.coe_add]
  rfl

include h2 h3 in
theorem vs5_re (j : Fin 48) (d : Fin 160) : val_main_v176 x2 x3 (ix4 b h j d) = ((VR V Fr 5 j d : ℝ) : EReal) := by
  pointwise [val_main_v176, val_main_v175, val_main_v174, val_main_v173, val_main_v172, val_main_v171, val_main_v170, val_main_v169, val_main_v68, val_main_v67, val_main_v66]
  rw [g_re h3 4, dv_re h2 h3 4, Ideal.exp_coe, vs4_re h2 h3]
  skip
  rw [← EReal.coe_mul, ← EReal.coe_add]
  rfl

include h3 hk hsk in
theorem ks6_re (j : Fin 48) (d : Fin 160) : val_main_v184 x3 r3 e0 (ix4 b h j d) = ((KR K Fr 6 j d : ℝ) : EReal) := by
  pointwise [val_main_v184, val_main_v183, val_main_v182, val_main_v181, val_main_v180, val_main_v179, val_main_v178, val_main_v177, val_main_v68, val_main_v67, val_main_v66]
  rw [g_re h3 5, dk_re h3 hk hsk 5, Ideal.exp_coe, ks5_re h3 hk hsk]
  skip
  rw [← EReal.coe_mul, ← EReal.coe_add]
  rfl

include h2 h3 in
theorem vs6_re (j : Fin 48) (d : Fin 160) : val_main_v192 x2 x3 (ix4 b h j d) = ((VR V Fr 6 j d : ℝ) : EReal) := by
  pointwise [val_main_v192, val_main_v191, val_main_v190, val_main_v189, val_main_v188, val_main_v187, val_main_v186, val_main_v185, val_main_v68, val_main_v67, val_main_v66]
  rw [g_re h3 5, dv_re h2 h3 5, Ideal.exp_coe, vs5_re h2 h3]
  skip
  rw [← EReal.coe_mul, ← EReal.coe_add]
  rfl

include h3 hk hsk in
theorem ks7_re (j : Fin 48) (d : Fin 160) : val_main_v200 x3 r3 e0 (ix4 b h j d) = ((KR K Fr 7 j d : ℝ) : EReal) := by
  pointwise [val_main_v200, val_main_v199, val_main_v198, val_main_v197, val_main_v196, val_main_v195, val_main_v194, val_main_v193, val_main_v68, val_main_v67, val_main_v66]
  rw [g_re h3 6, dk_re h3 hk hsk 6, Ideal.exp_coe, ks6_re h3 hk hsk]
  skip
  rw [← EReal.coe_mul, ← EReal.coe_add]
  rfl

include h2 h3 in
theorem vs7_re (j : Fin 48) (d : Fin 160) : val_main_v208 x2 x3 (ix4 b h j d) = ((VR V Fr 7 j d : ℝ) : EReal) := by
  pointwise [val_main_v208, val_main_v207, val_main_v206, val_main_v205, val_main_v204, val_main_v203, val_main_v202, val_main_v201, val_main_v68, val_main_v67, val_main_v66]
  rw [g_re h3 6, dv_re h2 h3 6, Ideal.exp_coe, vs6_re h2 h3]
  skip
  rw [← EReal.coe_mul, ← EReal.coe_add]
  rfl

include h3 hk hsk in
theorem ks8_re (j : Fin 48) (d : Fin 160) : val_main_v216 x3 r3 e0 (ix4 b h j d) = ((KR K Fr 8 j d : ℝ) : EReal) := by
  pointwise [val_main_v216, val_main_v215, val_main_v214, val_main_v213, val_main_v212, val_main_v211, val_main_v210, val_main_v209, val_main_v68, val_main_v67, val_main_v66]
  rw [g_re h3 7, dk_re h3 hk hsk 7, Ideal.exp_coe, ks7_re h3 hk hsk]
  skip
  rw [← EReal.coe_mul, ← EReal.coe_add]
  rfl

include h2 h3 in
theorem vs8_re (j : Fin 48) (d : Fin 160) : val_main_v224 x2 x3 (ix4 b h j d) = ((VR V Fr 8 j d : ℝ) : EReal) := by
  pointwise [val_main_v224, val_main_v223, val_main_v222, val_main_v221, val_main_v220, val_main_v219, val_main_v218, val_main_v217, val_main_v68, val_main_v67, val_main_v66]
  rw [g_re h3 7, dv_re h2 h3 7, Ideal.exp_coe, vs7_re h2 h3]
  skip
  rw [← EReal.coe_mul, ← EReal.coe_add]
  rfl

include h3 hk hsk in
theorem ks9_re (j : Fin 48) (d : Fin 160) : val_main_v232 x3 r3 e0 (ix4 b h j d) = ((KR K Fr 9 j d : ℝ) : EReal) := by
  pointwise [val_main_v232, val_main_v231, val_main_v230, val_main_v229, val_main_v228, val_main_v227, val_main_v226, val_main_v225, val_main_v68, val_main_v67, val_main_v66]
  rw [g_re h3 8, dk_re h3 hk hsk 8, Ideal.exp_coe, ks8_re h3 hk hsk]
  skip
  rw [← EReal.coe_mul, ← EReal.coe_add]
  rfl

include h2 h3 in
theorem vs9_re (j : Fin 48) (d : Fin 160) : val_main_v240 x2 x3 (ix4 b h j d) = ((VR V Fr 9 j d : ℝ) : EReal) := by
  pointwise [val_main_v240, val_main_v239, val_main_v238, val_main_v237, val_main_v236, val_main_v235, val_main_v234, val_main_v233, val_main_v68, val_main_v67, val_main_v66]
  rw [g_re h3 8, dv_re h2 h3 8, Ideal.exp_coe, vs8_re h2 h3]
  skip
  rw [← EReal.coe_mul, ← EReal.coe_add]
  rfl

include h3 hk hsk in
theorem ks10_re (j : Fin 48) (d : Fin 160) : val_main_v248 x3 r3 e0 (ix4 b h j d) = ((KR K Fr 10 j d : ℝ) : EReal) := by
  pointwise [val_main_v248, val_main_v247, val_main_v246, val_main_v245, val_main_v244, val_main_v243, val_main_v242, val_main_v241, val_main_v68, val_main_v67, val_main_v66]
  rw [g_re h3 9, dk_re h3 hk hsk 9, Ideal.exp_coe, ks9_re h3 hk hsk]
  skip
  rw [← EReal.coe_mul, ← EReal.coe_add]
  rfl

include h2 h3 in
theorem vs10_re (j : Fin 48) (d : Fin 160) : val_main_v256 x2 x3 (ix4 b h j d) = ((VR V Fr 10 j d : ℝ) : EReal) := by
  pointwise [val_main_v256, val_main_v255, val_main_v254, val_main_v253, val_main_v252, val_main_v251, val_main_v250, val_main_v249, val_main_v68, val_main_v67, val_main_v66]
  rw [g_re h3 9, dv_re h2 h3 9, Ideal.exp_coe, vs9_re h2 h3]
  skip
  rw [← EReal.coe_mul, ← EReal.coe_add]
  rfl

include h3 hk hsk in
theorem ks11_re (j : Fin 48) (d : Fin 160) : val_main_v264 x3 r3 e0 (ix4 b h j d) = ((KR K Fr 11 j d : ℝ) : EReal) := by
  pointwise [val_main_v264, val_main_v263, val_main_v262, val_main_v261, val_main_v260, val_main_v259, val_main_v258, val_main_v257, val_main_v68, val_main_v67, val_main_v66]
  rw [g_re h3 10, dk_re h3 hk hsk 10, Ideal.exp_coe, ks10_re h3 hk hsk]
  skip
  rw [← EReal.coe_mul, ← EReal.coe_add]
  rfl

include h2 h3 in
theorem vs11_re (j : Fin 48) (d : Fin 160) : val_main_v272 x2 x3 (ix4 b h j d) = ((VR V Fr 11 j d : ℝ) : EReal) := by
  pointwise [val_main_v272, val_main_v271, val_main_v270, val_main_v269, val_main_v268, val_main_v267, val_main_v266, val_main_v265, val_main_v68, val_main_v67, val_main_v66]
  rw [g_re h3 10, dv_re h2 h3 10, Ideal.exp_coe, vs10_re h2 h3]
  skip
  rw [← EReal.coe_mul, ← EReal.coe_add]
  rfl

include h3 hk hsk in
theorem ks12_re (j : Fin 48) (d : Fin 160) : val_main_v280 x3 r3 e0 (ix4 b h j d) = ((KR K Fr 12 j d : ℝ) : EReal) := by
  pointwise [val_main_v280, val_main_v279, val_main_v278, val_main_v277, val_main_v276, val_main_v275, val_main_v274, val_main_v273, val_main_v68, val_main_v67, val_main_v66]
  rw [g_re h3 11, dk_re h3 hk hsk 11, Ideal.exp_coe, ks11_re h3 hk hsk]
  skip
  rw [← EReal.coe_mul, ← EReal.coe_add]
  rfl

include h2 h3 in
theorem vs12_re (j : Fin 48) (d : Fin 160) : val_main_v288 x2 x3 (ix4 b h j d) = ((VR V Fr 12 j d : ℝ) : EReal) := by
  pointwise [val_main_v288, val_main_v287, val_main_v286, val_main_v285, val_main_v284, val_main_v283, val_main_v282, val_main_v281, val_main_v68, val_main_v67, val_main_v66]
  rw [g_re h3 11, dv_re h2 h3 11, Ideal.exp_coe, vs11_re h2 h3]
  skip
  rw [← EReal.coe_mul, ← EReal.coe_add]
  rfl

include h3 hk hsk in
theorem ks13_re (j : Fin 48) (d : Fin 160) : val_main_v296 x3 r3 e0 (ix4 b h j d) = ((KR K Fr 13 j d : ℝ) : EReal) := by
  pointwise [val_main_v296, val_main_v295, val_main_v294, val_main_v293, val_main_v292, val_main_v291, val_main_v290, val_main_v289, val_main_v68, val_main_v67, val_main_v66]
  rw [g_re h3 12, dk_re h3 hk hsk 12, Ideal.exp_coe, ks12_re h3 hk hsk]
  skip
  rw [← EReal.coe_mul, ← EReal.coe_add]
  rfl

include h2 h3 in
theorem vs13_re (j : Fin 48) (d : Fin 160) : val_main_v304 x2 x3 (ix4 b h j d) = ((VR V Fr 13 j d : ℝ) : EReal) := by
  pointwise [val_main_v304, val_main_v303, val_main_v302, val_main_v301, val_main_v300, val_main_v299, val_main_v298, val_main_v297, val_main_v68, val_main_v67, val_main_v66]
  rw [g_re h3 12, dv_re h2 h3 12, Ideal.exp_coe, vs12_re h2 h3]
  skip
  rw [← EReal.coe_mul, ← EReal.coe_add]
  rfl

include h3 hk hsk in
theorem ks14_re (j : Fin 48) (d : Fin 160) : val_main_v312 x3 r3 e0 (ix4 b h j d) = ((KR K Fr 14 j d : ℝ) : EReal) := by
  pointwise [val_main_v312, val_main_v311, val_main_v310, val_main_v309, val_main_v308, val_main_v307, val_main_v306, val_main_v305, val_main_v68, val_main_v67, val_main_v66]
  rw [g_re h3 13, dk_re h3 hk hsk 13, Ideal.exp_coe, ks13_re h3 hk hsk]
  skip
  rw [← EReal.coe_mul, ← EReal.coe_add]
  rfl

include h2 h3 in
theorem vs14_re (j : Fin 48) (d : Fin 160) : val_main_v320 x2 x3 (ix4 b h j d) = ((VR V Fr 14 j d : ℝ) : EReal) := by
  pointwise [val_main_v320, val_main_v319, val_main_v318, val_main_v317, val_main_v316, val_main_v315, val_main_v314, val_main_v313, val_main_v68, val_main_v67, val_main_v66]
  rw [g_re h3 13, dv_re h2 h3 13, Ideal.exp_coe, vs13_re h2 h3]
  skip
  rw [← EReal.coe_mul, ← EReal.coe_add]
  rfl

include h3 hk hsk in
theorem ks15_re (j : Fin 48) (d : Fin 160) : val_main_v328 x3 r3 e0 (ix4 b h j d) = ((KR K Fr 15 j d : ℝ) : EReal) := by
  pointwise [val_main_v328, val_main_v327, val_main_v326, val_main_v325, val_main_v324, val_main_v323, val_main_v322, val_main_v321, val_main_v68, val_main_v67, val_main_v66]
  rw [g_re h3 14, dk_re h3 hk hsk 14, Ideal.exp_coe, ks14_re h3 hk hsk]
  skip
  rw [← EReal.coe_mul, ← EReal.coe_add]
  rfl

include h2 h3 in
theorem vs15_re (j : Fin 48) (d : Fin 160) : val_main_v336 x2 x3 (ix4 b h j d) = ((VR V Fr 15 j d : ℝ) : EReal) := by
  pointwise [val_main_v336, val_main_v335, val_main_v334, val_main_v333, val_main_v332, val_main_v331, val_main_v330, val_main_v329, val_main_v68, val_main_v67, val_main_v66]
  rw [g_re h3 14, dv_re h2 h3 14, Ideal.exp_coe, vs14_re h2 h3]
  skip
  rw [← EReal.coe_mul, ← EReal.coe_add]
  rfl

include h3 hk hsk in
theorem ks16_re (j : Fin 48) (d : Fin 160) : val_main_v344 x3 r3 e0 (ix4 b h j d) = ((KR K Fr 16 j d : ℝ) : EReal) := by
  pointwise [val_main_v344, val_main_v343, val_main_v342, val_main_v341, val_main_v340, val_main_v339, val_main_v338, val_main_v337, val_main_v68, val_main_v67, val_main_v66]
  rw [g_re h3 15, dk_re h3 hk hsk 15, Ideal.exp_coe, ks15_re h3 hk hsk]
  skip
  rw [← EReal.coe_mul, ← EReal.coe_add]
  rfl

include h2 h3 in
theorem vs16_re (j : Fin 48) (d : Fin 160) : val_main_v352 x2 x3 (ix4 b h j d) = ((VR V Fr 16 j d : ℝ) : EReal) := by
  pointwise [val_main_v352, val_main_v351, val_main_v350, val_main_v349, val_main_v348, val_main_v347, val_main_v346, val_main_v345, val_main_v68, val_main_v67, val_main_v66]
  rw [g_re h3 15, dv_re h2 h3 15, Ideal.exp_coe, vs15_re h2 h3]
  skip
  rw [← EReal.coe_mul, ← EReal.coe_add]
  rfl
end

end Cert.ReferenceIdeal.Read
end
-- ==== Proof.RefStack.lean ====
module

public import proofs.«01_k».proof.Proof.RefGate

/-! The reference's stacks of states, chunk by chunk: each entry is the state before that chunk. -/

@[expose] public section
set_option maxRecDepth 16384
noncomputable section
namespace Cert.ReferenceIdeal.Read
open Idealize.ShloMosaic Idealize.SL.Sem Cert.ReferenceIdeal Cert.ReferenceIdeal.Gen Pointwise

section
variable (x2 : Vec Ideal S24x1024x18x160 .bf16) (x3 : Vec Ideal S24x1024x18x48 .bf16) (r3 : FVec Ideal S24x16x18x64x160 .f32)
  (e0 : FVec Ideal S24x16x18 .f32) (b : Fin 24) (h : Fin 18) (j : Fin 48) (d : Fin 160)
theorem kstk0 : val_main_v369 x3 r3 e0 (ix5 b 0 h j d) = 0 := by
  pointwise [val_main_v369, val_main_v353, val_main_v95, val_main_cst_14]
theorem vstk0 : val_main_v386 x2 x3 (ix5 b 0 h j d) = 0 := by
  pointwise [val_main_v386, val_main_v370, val_main_v96, val_main_cst_15]
theorem kstk1 : val_main_v369 x3 r3 e0 (ix5 b 1 h j d) = val_main_v104 x3 r3 e0 (ix4 b h j d) := by
  pointwise [val_main_v369, val_main_v354]
theorem vstk1 : val_main_v386 x2 x3 (ix5 b 1 h j d) = val_main_v112 x2 x3 (ix4 b h j d) := by
  pointwise [val_main_v386, val_main_v371]
theorem kstk2 : val_main_v369 x3 r3 e0 (ix5 b 2 h j d) = val_main_v120 x3 r3 e0 (ix4 b h j d) := by
  pointwise [val_main_v369, val_main_v355]
theorem vstk2 : val_main_v386 x2 x3 (ix5 b 2 h j d) = val_main_v128 x2 x3 (ix4 b h j d) := by
  pointwise [val_main_v386, val_main_v372]
theorem kstk3 : val_main_v369 x3 r3 e0 (ix5 b 3 h j d) = val_main_v136 x3 r3 e0 (ix4 b h j d) := by
  pointwise [val_main_v369, val_main_v356]
theorem vstk3 : val_main_v386 x2 x3 (ix5 b 3 h j d) = val_main_v144 x2 x3 (ix4 b h j d) := by
  pointwise [val_main_v386, val_main_v373]
theorem kstk4 : val_main_v369 x3 r3 e0 (ix5 b 4 h j d) = val_main_v152 x3 r3 e0 (ix4 b h j d) := by
  pointwise [val_main_v369, val_main_v357]
theorem vstk4 : val_main_v386 x2 x3 (ix5 b 4 h j d) = val_main_v160 x2 x3 (ix4 b h j d) := by
  pointwise [val_main_v386, val_main_v374]
theorem kstk5 : val_main_v369 x3 r3 e0 (ix5 b 5 h j d) = val_main_v168 x3 r3 e0 (ix4 b h j d) := by
  pointwise [val_main_v369, val_main_v358]
theorem vstk5 : val_main_v386 x2 x3 (ix5 b 5 h j d) = val_main_v176 x2 x3 (ix4 b h j d) := by
  pointwise [val_main_v386, val_main_v375]
theorem kstk6 : val_main_v369 x3 r3 e0 (ix5 b 6 h j d) = val_main_v184 x3 r3 e0 (ix4 b h j d) := by
  pointwise [val_main_v369, val_main_v359]
theorem vstk6 : val_main_v386 x2 x3 (ix5 b 6 h j d) = val_main_v192 x2 x3 (ix4 b h j d) := by
  pointwise [val_main_v386, val_main_v376]
theorem kstk7 : val_main_v369 x3 r3 e0 (ix5 b 7 h j d) = val_main_v200 x3 r3 e0 (ix4 b h j d) := by
  pointwise [val_main_v369, val_main_v360]
theorem vstk7 : val_main_v386 x2 x3 (ix5 b 7 h j d) = val_main_v208 x2 x3 (ix4 b h j d) := by
  pointwise [val_main_v386, val_main_v377]
theorem kstk8 : val_main_v369 x3 r3 e0 (ix5 b 8 h j d) = val_main_v216 x3 r3 e0 (ix4 b h j d) := by
  pointwise [val_main_v369, val_main_v361]
theorem vstk8 : val_main_v386 x2 x3 (ix5 b 8 h j d) = val_main_v224 x2 x3 (ix4 b h j d) := by
  pointwise [val_main_v386, val_main_v378]
theorem kstk9 : val_main_v369 x3 r3 e0 (ix5 b 9 h j d) = val_main_v232 x3 r3 e0 (ix4 b h j d) := by
  pointwise [val_main_v369, val_main_v362]
theorem vstk9 : val_main_v386 x2 x3 (ix5 b 9 h j d) = val_main_v240 x2 x3 (ix4 b h j d) := by
  pointwise [val_main_v386, val_main_v379]
theorem kstk10 : val_main_v369 x3 r3 e0 (ix5 b 10 h j d) = val_main_v248 x3 r3 e0 (ix4 b h j d) := by
  pointwise [val_main_v369, val_main_v363]
theorem vstk10 : val_main_v386 x2 x3 (ix5 b 10 h j d) = val_main_v256 x2 x3 (ix4 b h j d) := by
  pointwise [val_main_v386, val_main_v380]
theorem kstk11 : val_main_v369 x3 r3 e0 (ix5 b 11 h j d) = val_main_v264 x3 r3 e0 (ix4 b h j d) := by
  pointwise [val_main_v369, val_main_v364]
theorem vstk11 : val_main_v386 x2 x3 (ix5 b 11 h j d) = val_main_v272 x2 x3 (ix4 b h j d) := by
  pointwise [val_main_v386, val_main_v381]
theorem kstk12 : val_main_v369 x3 r3 e0 (ix5 b 12 h j d) = val_main_v280 x3 r3 e0 (ix4 b h j d) := by
  pointwise [val_main_v369, val_main_v365]
theorem vstk12 : val_main_v386 x2 x3 (ix5 b 12 h j d) = val_main_v288 x2 x3 (ix4 b h j d) := by
  pointwise [val_main_v386, val_main_v382]
theorem kstk13 : val_main_v369 x3 r3 e0 (ix5 b 13 h j d) = val_main_v296 x3 r3 e0 (ix4 b h j d) := by
  pointwise [val_main_v369, val_main_v366]
theorem vstk13 : val_main_v386 x2 x3 (ix5 b 13 h j d) = val_main_v304 x2 x3 (ix4 b h j d) := by
  pointwise [val_main_v386, val_main_v383]
theorem kstk14 : val_main_v369 x3 r3 e0 (ix5 b 14 h j d) = val_main_v312 x3 r3 e0 (ix4 b h j d) := by
  pointwise [val_main_v369, val_main_v367]
theorem vstk14 : val_main_v386 x2 x3 (ix5 b 14 h j d) = val_main_v320 x2 x3 (ix4 b h j d) := by
  pointwise [val_main_v386, val_main_v384]
theorem kstk15 : val_main_v369 x3 r3 e0 (ix5 b 15 h j d) = val_main_v328 x3 r3 e0 (ix4 b h j d) := by
  pointwise [val_main_v369, val_main_v368]
theorem vstk15 : val_main_v386 x2 x3 (ix5 b 15 h j d) = val_main_v336 x2 x3 (ix4 b h j d) := by
  pointwise [val_main_v386, val_main_v385]
end

end Cert.ReferenceIdeal.Read
end
-- ==== Proof.RefOut.lean ====
module

public import proofs.«01_k».proof.Proof.RefState
public import proofs.«01_k».proof.Proof.RefStack

/-! The reference's softmax and output at real arguments. -/

@[expose] public section
set_option maxRecDepth 16384
noncomputable section
namespace Cert.ReferenceIdeal.Read
open Idealize.ShloMosaic Idealize.SL.Sem Cert.ReferenceIdeal Cert.ReferenceIdeal.Gen Pointwise Cert.Re WordCmp
open Cert.KernelIdeal.Stage (sl cd am scl k448)

theorem tril_bit (t s : Fin 64) : val_main_v88 (F := Ideal) (ix2 t s) = BitVec.ofBool (decide (s.val ≤ t.val)) := by
  have e : val_main_v88 (F := Ideal) (ix2 t s) = Scalar.select (IntOp.cmpi CmpIPredicate.sge (IntOp.addi (BitVec.ofNat 32 t.val) 0#32) (BitVec.ofNat 32 s.val)) 1#1 0#1 := by
    pointwise [val_main_v88, val_main_v87, val_main_call3_v0, val_main_call3_v1, val_main_call3_v2, val_main_call3_v3, val_main_call3_v4, val_main_call3_v5, val_main_call3_c, val_main_call3_c_0, val_main_c]
  rw [e, show IntOp.addi (BitVec.ofNat 32 t.val) 0#32 = BitVec.ofNat 32 t.val from BitVec.add_zero _, cmpi_sge_ofNat (by omega) (by omega), select_decide]
  by_cases hc : s.val ≤ t.val <;> simp [hc]

section
variable {x2 : Vec Ideal S24x1024x18x160 .bf16} {x3 : Vec Ideal S24x1024x18x48 .bf16} {r2 r3 : FVec Ideal S24x16x18x64x160 .f32}
  {e0 e1 : FVec Ideal S24x16x18 .f32} {b : Fin 24} {h : Fin 18} {Fr : Fin 48 → ℕ → ℝ} {Q K V : Fin 160 → ℕ → ℝ}
  (h2 : ∀ d (s : ℕ) (hs : s < 1024), x2 (ix4 b ⟨s, hs⟩ h d) = ((V d s : ℝ) : EReal))
  (h3 : ∀ j (s : ℕ) (hs : s < 1024), x3 (ix4 b ⟨s, hs⟩ h j) = ((Fr j s : ℝ) : EReal))
  (hq : ∀ (n : Fin 16) t d, r2 (ix5 b n h t d) = ((Cc Q n d t : ℝ) : EReal))
  (hk : ∀ (n : Fin 16) t d, r3 (ix5 b n h t d) = ((Cc K n d t : ℝ) : EReal))
  (hsk : ∀ n : Fin 16, e0 (ix3 b n h) = ((sl K n : ℝ) : EReal)) (hsq : ∀ n : Fin 16, e1 (ix3 b n h) = ((sl Q n : ℝ) : EReal))

include h3 hk hsk in
theorem kst_re (n : Fin 16) (j : Fin 48) (d : Fin 160) : val_main_v369 x3 r3 e0 (ix5 b n h j d) = ((KR K Fr n j d : ℝ) : EReal) :=
  match n with
  | ⟨0, _⟩ => kstk0 x3 r3 e0 b h j d
  | ⟨1, _⟩ => (kstk1 x3 r3 e0 b h j d).trans (ks1_re h3 hk hsk j d)
  | ⟨2, _⟩ => (kstk2 x3 r3 e0 b h j d).trans (ks2_re h3 hk hsk j d)
  | ⟨3, _⟩ => (kstk3 x3 r3 e0 b h j d).trans (ks3_re h3 hk hsk j d)
  | ⟨4, _⟩ => (kstk4 x3 r3 e0 b h j d).trans (ks4_re h3 hk hsk j d)
  | ⟨5, _⟩ => (kstk5 x3 r3 e0 b h j d).trans (ks5_re h3 hk hsk j d)
  | ⟨6, _⟩ => (kstk6 x3 r3 e0 b h j d).trans (ks6_re h3 hk hsk j d)
  | ⟨7, _⟩ => (kstk7 x3 r3 e0 b h j d).trans (ks7_re h3 hk hsk j d)
  | ⟨8, _⟩ => (kstk8 x3 r3 e0 b h j d).trans (ks8_re h3 hk hsk j d)
  | ⟨9, _⟩ => (kstk9 x3 r3 e0 b h j d).trans (ks9_re h3 hk hsk j d)
  | ⟨10, _⟩ => (kstk10 x3 r3 e0 b h j d).trans (ks10_re h3 hk hsk j d)
  | ⟨11, _⟩ => (kstk11 x3 r3 e0 b h j d).trans (ks11_re h3 hk hsk j d)
  | ⟨12, _⟩ => (kstk12 x3 r3 e0 b h j d).trans (ks12_re h3 hk hsk j d)
  | ⟨13, _⟩ => (kstk13 x3 r3 e0 b h j d).trans (ks13_re h3 hk hsk j d)
  | ⟨14, _⟩ => (kstk14 x3 r3 e0 b h j d).trans (ks14_re h3 hk hsk j d)
  | ⟨15, _⟩ => (kstk15 x3 r3 e0 b h j d).trans (ks15_re h3 hk hsk j d)
  | ⟨k + 16, hk'⟩ => absurd hk' (by omega)

include h2 h3 in
theorem vst_re (n : Fin 16) (j : Fin 48) (d : Fin 160) : val_main_v386 x2 x3 (ix5 b n h j d) = ((VR V Fr n j d : ℝ) : EReal) :=
  match n with
  | ⟨0, _⟩ => vstk0 x2 x3 b h j d
  | ⟨1, _⟩ => (vstk1 x2 x3 b h j d).trans (vs1_re h2 h3 j d)
  | ⟨2, _⟩ => (vstk2 x2 x3 b h j d).trans (vs2_re h2 h3 j d)
  | ⟨3, _⟩ => (vstk3 x2 x3 b h j d).trans (vs3_re h2 h3 j d)
  | ⟨4, _⟩ => (vstk4 x2 x3 b h j d).trans (vs4_re h2 h3 j d)
  | ⟨5, _⟩ => (vstk5 x2 x3 b h j d).trans (vs5_re h2 h3 j d)
  | ⟨6, _⟩ => (vstk6 x2 x3 b h j d).trans (vs6_re h2 h3 j d)
  | ⟨7, _⟩ => (vstk7 x2 x3 b h j d).trans (vs7_re h2 h3 j d)
  | ⟨8, _⟩ => (vstk8 x2 x3 b h j d).trans (vs8_re h2 h3 j d)
  | ⟨9, _⟩ => (vstk9 x2 x3 b h j d).trans (vs9_re h2 h3 j d)
  | ⟨10, _⟩ => (vstk10 x2 x3 b h j d).trans (vs10_re h2 h3 j d)
  | ⟨11, _⟩ => (vstk11 x2 x3 b h j d).trans (vs11_re h2 h3 j d)
  | ⟨12, _⟩ => (vstk12 x2 x3 b h j d).trans (vs12_re h2 h3 j d)
  | ⟨13, _⟩ => (vstk13 x2 x3 b h j d).trans (vs13_re h2 h3 j d)
  | ⟨14, _⟩ => (vstk14 x2 x3 b h j d).trans (vs14_re h2 h3 j d)
  | ⟨15, _⟩ => (vstk15 x2 x3 b h j d).trans (vs15_re h2 h3 j d)
  | ⟨k + 16, hk'⟩ => absurd hk' (by omega)

include hq hk hsk hsq in
theorem a_re (n : Fin 16) (t s : Fin 64) : val_main_v94 (F := Ideal) r2 r3 e0 e1 (ix5 b n h t s)
    = ((ar (Cc Q n) (Cc K n) (sl Q n) (sl K n) t s : ℝ) : EReal) := by
  have e : val_main_v94 (F := Ideal) r2 r3 e0 e1 (ix5 b n h t s) = Scalar.select (val_main_v88 (F := Ideal) (ix2 t s)) (val_main_v93 (F := Ideal) r2 r3 e0 e1 (ix5 b n h t s)) 0 := by
    pointwise [val_main_v94, val_main_call4_v0, val_main_call4_v1, val_main_call4_v2, val_main_cst_13]
    exact congrArg _ Ideal.ofBits_zero_f32
  rw [e, tril_bit, select_decide]
  unfold ar
  by_cases hc : s.val ≤ t.val
  · rw [if_pos hc, if_pos hc]
    pointwise [val_main_v93, val_main_v92, val_main_v91, val_main_v90, val_main_v89]
    simp only [hq, hk, hsk, hsq, ← EReal.coe_mul, coe_sum]
  · rw [if_neg hc, if_neg hc]; rfl

include h3 hq hk hsk hsq in
theorem z_re (n : Fin 16) (t : Fin 64) (j : Fin 48) : val_main_v398 x3 r2 r3 e0 e1 (ix5 b n h t j) = ((ZR Q K Fr n t j : ℝ) : EReal) := by
  pointwise [val_main_v398, val_main_v397, val_main_v396, val_main_v395, val_main_v394, val_main_v393, val_main_cst_16, val_main_cst_17]
  have e1' : val_main_v388 x3 r2 r3 e0 e1 (ix5 b n h t j) = ((qfr (Lc Fr n) j t * ∑ s, ar (Cc Q n) (Cc K n) (sl Q n) (sl K n) t s * kfr (Lc Fr n) j s : ℝ) : EReal) := by
    pointwise [val_main_v388, val_main_v387]
    simp only [qf_re h3, kf_re h3, a_re hq hk hsk hsq, ← EReal.coe_mul, coe_sum]
  have e2' : val_main_v392 x3 r2 r3 e0 e1 (ix5 b n h t j) = (((∑ d, Cc Q n d t * KR K Fr n j d) * sl Q n : ℝ) : EReal) := by
    pointwise [val_main_v392, val_main_v391, val_main_v390, val_main_v389]
    simp only [kst_re h3 hk hsk, hq, hsq, ← EReal.coe_mul, coe_sum]
  have hs : Real.sqrt 160 ≠ 0 := (Real.sqrt_pos.mpr (by norm_num)).ne'
  have c : Ideal.ofBits FTy.f32 1126170624#32 = ((160 : ℝ) : EReal) := c_160
  rw [e1', e2', eb_re h3, c, Ideal.sqrt_coe, if_neg (by norm_num), one_eq, Cert.Re.div_coe _ hs]
  simp only [← EReal.coe_mul, ← EReal.coe_add, one_div]
  rfl

theorem p_apply (n : Fin 16) (t : Fin 64) (j : Fin 48) : val_main_v409 x3 r2 r3 e0 e1 (ix5 b n h t j)
    = Ideal.div (val_main_v405 x3 r2 r3 e0 e1 (ix5 b n h t j)) (∑ x, val_main_v405 x3 r2 r3 e0 e1 (ix5 b n h t x)) := by
  pointwise [val_main_v409, val_main_v408, val_main_v407, val_main_v406, val_main_cst_20]

theorem top_apply (n : Fin 16) (t : Fin 64) : val_main_v401 x3 r2 r3 e0 e1 (ix4 b n h t)
    = max (Ideal.ofBits FTy.f32 4286578688#32) (val_main_v399 x3 r2 r3 e0 e1 (ix4 b n h t)) := by
  rw [val_main_v401_apply, val_main_v400_apply, val_main_cst_19_apply]
  exact Ideal.maximumf_def _ _

theorem spread_apply (n : Fin 16) (t : Fin 64) (j : Fin 48) : val_main_v403 x3 r2 r3 e0 e1 (ix5 b n h t j)
    = val_main_v401 x3 r2 r3 e0 e1 (ix4 b n h t) := by
  unfold val_main_v403 val_main_v402
  generalize val_main_v401 x3 r2 r3 e0 e1 = y
  pointwise []

theorem exp_apply (n : Fin 16) (t : Fin 64) (j : Fin 48) : val_main_v405 x3 r2 r3 e0 e1 (ix5 b n h t j)
    = Ideal.exp (val_main_v398 x3 r2 r3 e0 e1 (ix5 b n h t j) - val_main_v403 x3 r2 r3 e0 e1 (ix5 b n h t j)) := by
  unfold val_main_v405 val_main_v404
  generalize val_main_v403 x3 r2 r3 e0 e1 = y
  generalize val_main_v398 x3 r2 r3 e0 e1 = x
  pointwise []

theorem max_apply (n : Fin 16) (t : Fin 64) : val_main_v399 x3 r2 r3 e0 e1 (ix4 b n h t)
    = Finset.univ.fold max (Ideal.ofBits FTy.f32 4286578688#32) (fun j : Fin 48 => val_main_v398 x3 r2 r3 e0 e1 (ix5 b n h t j)) := by
  pointwise [val_main_v399, val_main_cst_18]

include h3 hq hk hsk hsq in
theorem max_re (n : Fin 16) (t : Fin 64) : val_main_v399 x3 r2 r3 e0 e1 (ix4 b n h t)
    = ((Finset.univ.sup' Finset.univ_nonempty (fun j => ZR Q K Fr n t j) : ℝ) : EReal) := by
  rw [max_apply]
  simp only [z_re h3 hq hk hsk hsq, bot_f32]
  exact fold_max_coe _ Finset.univ_nonempty (fun j => ZR Q K Fr n t j)

include h3 hq hk hsk hsq in
theorem exp_re (n : Fin 16) (t : Fin 64) (j : Fin 48) : val_main_v405 x3 r2 r3 e0 e1 (ix5 b n h t j)
    = ((Real.exp (ZR Q K Fr n t j - Finset.univ.sup' Finset.univ_nonempty (fun j => ZR Q K Fr n t j)) : ℝ) : EReal) := by
  rw [exp_apply, spread_apply, top_apply, max_re h3 hq hk hsk hsq, z_re h3 hq hk hsk hsq, bot_f32, max_eq_right bot_le, ← EReal.coe_sub, Ideal.exp_coe]

theorem shift_re (Z : Fin 64 → Fin 48 → ℝ) (N : ℝ) (t : Fin 64) (j : Fin 48) :
    Real.exp (Z t j - N) / ∑ x, Real.exp (Z t x - N) = smr Z t j := by
  unfold smr
  simp only [Real.exp_sub, ← Finset.sum_div]
  rw [div_div_div_cancel_right₀ (Real.exp_pos N).ne']

include h3 hq hk hsk hsq in
theorem p_re (n : Fin 16) (t : Fin 64) (j : Fin 48) : val_main_v409 x3 r2 r3 e0 e1 (ix5 b n h t j) = ((PR Q K Fr n t j : ℝ) : EReal) := by
  have e := p_apply (x3 := x3) (r2 := r2) (r3 := r3) (e0 := e0) (e1 := e1) (b := b) (h := h) n t j
  simp only [exp_re h3 hq hk hsk hsq, coe_sum] at e
  generalize Finset.univ.sup' Finset.univ_nonempty (fun j => ZR Q K Fr n t j) = N at e
  have hp : ∑ x : Fin 48, Real.exp (ZR Q K Fr n t x - N) ≠ 0 := (Finset.sum_pos (fun x _ => Real.exp_pos _) Finset.univ_nonempty).ne'
  rw [Cert.Re.div_coe _ hp, shift_re] at e
  exact e

include h3 hq hk hsk hsq in
theorem mix_re (n : Fin 16) (t s : Fin 64) : val_main_v412 x3 r2 r3 e0 e1 (ix5 b n h t s)
    = ((mxr (Lc Fr n) (PR Q K Fr n) t s : ℝ) : EReal) := by
  have e : val_main_v412 x3 r2 r3 e0 e1 (ix5 b n h t s) = Scalar.select (val_main_v88 (F := Ideal) (ix2 t s)) (val_main_v411 x3 r2 r3 e0 e1 (ix5 b n h t s)) 0 := by
    pointwise [val_main_v412, val_main_call5_v1, val_main_call5_v2, val_main_call5_v0, val_main_cst_21]
    exact congrArg _ Ideal.ofBits_zero_f32
  rw [e, tril_bit, select_decide]
  unfold mxr
  by_cases hc : s.val ≤ t.val
  · rw [if_pos hc, if_pos hc]
    pointwise [val_main_v411, val_main_v410]
    simp only [p_re h3 hq hk hsk hsq, qf_re h3, kf_re h3, ← EReal.coe_mul, coe_sum]
  · rw [if_neg hc, if_neg hc]; rfl

include h2 h3 hq hk hsk hsq in
theorem o_re (n : Fin 16) (t : Fin 64) (d : Fin 160) : val_main_v416 x2 x3 r2 r3 e0 e1 (ix5 b n h t d)
    = ((OR Q K V Fr n t d : ℝ) : EReal) := by
  pointwise [val_main_v416, val_main_v415, val_main_v414, val_main_v413]
  simp only [mix_re h3 hq hk hsk hsq, v_re h2, p_re h3 hq hk hsk hsq, eb_re h3, vst_re h2 h3, ← EReal.coe_mul, coe_sum, ← EReal.coe_add]
  rfl

include h2 h3 hq hk hsk hsq in
theorem out_re (d : Fin 160) (s : ℕ) (hs : s < 1024) : val_main_v419 x2 x3 r2 r3 e0 e1 (ix4 b h d ⟨s, hs⟩)
    = ((OR Q K V Fr (s / 64) ⟨s % 64, Nat.mod_lt _ (by norm_num)⟩ d : ℝ) : EReal) := by
  pointwise [val_main_v419, val_main_v418, val_main_v417]
  exact o_re h2 h3 hq hk hsk hsq ⟨s / 64, by omega⟩ ⟨s % 64, Nat.mod_lt _ (by norm_num)⟩ d
end

end Cert.ReferenceIdeal.Read
end
-- ==== Proof.RefVals.lean ====
module

public import proofs.«01_k».proof.Proof.RefScale
public import proofs.«01_k».proof.Proof.RefOut

/-! The seven results of the reference at an index, over the reals. -/

@[expose] public section
set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.StableHlo Pointwise Cert.Re Cert.ReferenceIdeal.Read
open Cert.KernelIdeal.Stage (sl cd am scl k448)

/-- The codes, laid out sequence last. -/
theorem flat421 (r : FVec Ideal S24x16x18x64x160 .fp8e4m3) (b : Fin 24) (h : Fin 18) (d : Fin 160) (s : ℕ) (hs : s < 1024) :
    val_main_v421 (F := Ideal) r (ix4 b h d ⟨s, hs⟩) = r (ix5 b ⟨s / 64, by omega⟩ h ⟨s % 64, Nat.mod_lt _ (by norm_num)⟩ d) := by
  pointwise [val_main_v421, val_main_v420]
theorem flat427 (r : FVec Ideal S24x16x18x64x160 .fp8e4m3) (b : Fin 24) (h : Fin 18) (d : Fin 160) (s : ℕ) (hs : s < 1024) :
    val_main_v427 (F := Ideal) r (ix4 b h d ⟨s, hs⟩) = r (ix5 b ⟨s / 64, by omega⟩ h ⟨s % 64, Nat.mod_lt _ (by norm_num)⟩ d) := by
  pointwise [val_main_v427, val_main_v426]
/-- The scales, one lane per position. -/
theorem flat425 (e : FVec Ideal S24x16x18 .f32) (b : Fin 24) (h : Fin 18) (i : Fin 8) (t : Fin 128) :
    val_main_v425 (F := Ideal) e (ix4 b h i t) = e (ix3 b ⟨2 * i.val + t.val / 64, by omega⟩ h) := by
  pointwise [val_main_v425, val_main_v424, val_main_v423, val_main_v422]
  refine congrArg e ?_
  congr 1
  exact Fin.ext (by simp only; omega)
theorem flat431 (e : FVec Ideal S24x16x18 .f32) (b : Fin 24) (h : Fin 18) (i : Fin 8) (t : Fin 128) :
    val_main_v431 (F := Ideal) e (ix4 b h i t) = e (ix3 b ⟨2 * i.val + t.val / 64, by omega⟩ h) := by
  pointwise [val_main_v431, val_main_v430, val_main_v429, val_main_v428]
  refine congrArg e ?_
  congr 1
  exact Fin.ext (by simp only; omega)

theorem code_flat (X : Fin 160 → ℕ → ℝ) (d : Fin 160) (s : ℕ) : Cc X (s / 64) d ⟨s % 64, Nat.mod_lt _ (by norm_num)⟩ = cd X d s := by
  unfold Cc
  rw [Nat.div_add_mod]

section
variable {m : (ℓ : Loc nD τ sig) → Buf (Elt Ideal) ℓ} {c : Dev nD} {b : Fin 24} {h : Fin 18} {Q K W : Fin 160 → ℕ → ℝ} {F : Fin 48 → ℕ → ℝ}
  (h0 : ∀ d (s : ℕ) (hs : s < 1024), m ((c.tc : Thread nD τ).loc main_arg0) (ix4 b ⟨s, hs⟩ h d) = ((Q d s : ℝ) : EReal))
  (h1 : ∀ d (s : ℕ) (hs : s < 1024), m ((c.tc : Thread nD τ).loc main_arg1) (ix4 b ⟨s, hs⟩ h d) = ((K d s : ℝ) : EReal))
  (h2 : ∀ d (s : ℕ) (hs : s < 1024), m ((c.tc : Thread nD τ).loc main_arg2) (ix4 b ⟨s, hs⟩ h d) = ((W d s : ℝ) : EReal))
  (h3 : ∀ j (s : ℕ) (hs : s < 1024), m ((c.tc : Thread nD τ).loc main_arg3) (ix4 b ⟨s, hs⟩ h j) = ((F j s : ℝ) : EReal))

theorem exit22 (c : Dev nD) : exitV m c (Proc.devRef .tc main_v22) = V m c main_v22 :=
  Pipeline.withArrays_of_ne _ c (Gen.V0 m c) _ main_v22 (by exact (by decide : ∀ w, Pipeline.arrRef spec0 w ≠ main_v22))
theorem exit39 (c : Dev nD) : exitV m c (Proc.devRef .tc main_v39) = V m c main_v39 :=
  Pipeline.withArrays_of_ne _ c (Gen.V0 m c) _ main_v39 (by exact (by decide : ∀ w, Pipeline.arrRef spec0 w ≠ main_v39))

include h0 in
theorem e22 (n : Fin 16) : (exitV m c (Proc.devRef .tc main_v22) : FVec Ideal S24x16x18 .f32) (ix3 b n h) = ((sl Q n.val : ℝ) : EReal) :=
  (congrFun (exit22 c) _).trans (v22_at h0 n)
include h1 in
theorem e39 (n : Fin 16) : (exitV m c (Proc.devRef .tc main_v39) : FVec Ideal S24x16x18 .f32) (ix3 b n h) = ((sl K n.val : ℝ) : EReal) :=
  (congrFun (exit39 c) _).trans (v39_at h1 n)
include h2 in
theorem ea2 (d : Fin 160) (s : ℕ) (hs : s < 1024) : (exitV m c (Proc.devRef .tc main_arg2) : FVec Ideal S24x1024x18x160 .bf16) (ix4 b ⟨s, hs⟩ h d) = ((W d s : ℝ) : EReal) :=
  (congrFun (exit_main_arg2 m c) _).trans (h2 d s hs)
include h3 in
theorem ea3 (j : Fin 48) (s : ℕ) (hs : s < 1024) : (exitV m c (Proc.devRef .tc main_arg3) : FVec Ideal S24x1024x18x48 .bf16) (ix4 b ⟨s, hs⟩ h j) = ((F j s : ℝ) : EReal) :=
  (congrFun (exit_main_arg3 m c) _).trans (h3 j s hs)
include h0 in
theorem er0 (n : Fin 16) (t : Fin 64) (d : Fin 160) : (exitV m c (Proc.devRef .tc main_v44_0) : FVec Ideal S24x16x18x64x160 .fp8e4m3) (ix5 b n h t d) = ((Cc Q n.val d t : ℝ) : EReal) :=
  (congrFun (exit_main_v44_0 m c) _).trans (r0_at h0 n t d)
include h1 in
theorem er1 (n : Fin 16) (t : Fin 64) (d : Fin 160) : (exitV m c (Proc.devRef .tc main_v44_1) : FVec Ideal S24x16x18x64x160 .fp8e4m3) (ix5 b n h t d) = ((Cc K n.val d t : ℝ) : EReal) :=
  (congrFun (exit_main_v44_1 m c) _).trans (r1_at h1 n t d)
include h0 in
theorem er2 (n : Fin 16) (t : Fin 64) (d : Fin 160) : (exitV m c (Proc.devRef .tc main_v44_2) : FVec Ideal S24x16x18x64x160 .f32) (ix5 b n h t d) = ((Cc Q n.val d t : ℝ) : EReal) :=
  (congrFun (exit_main_v44_2 m c) _).trans (r2_at h0 n t d)
include h1 in
theorem er3 (n : Fin 16) (t : Fin 64) (d : Fin 160) : (exitV m c (Proc.devRef .tc main_v44_3) : FVec Ideal S24x16x18x64x160 .f32) (ix5 b n h t d) = ((Cc K n.val d t : ℝ) : EReal) :=
  (congrFun (exit_main_v44_3 m c) _).trans (r3_at h1 n t d)

include h0 h1 h2 h3 in
theorem ref0 (d : Fin 160) (s : ℕ) (hs : s < 1024) :
    val_main_v419 (F := Ideal) (exitV m c (Proc.devRef .tc main_arg2)) (exitV m c (Proc.devRef .tc main_arg3)) (exitV m c (Proc.devRef .tc main_v44_2)) (exitV m c (Proc.devRef .tc main_v44_3)) (exitV m c (Proc.devRef .tc main_v39)) (exitV m c (Proc.devRef .tc main_v22)) (ix4 b h d ⟨s, hs⟩)
      = ((OR Q K W F (s / 64) ⟨s % 64, Nat.mod_lt _ (by norm_num)⟩ d : ℝ) : EReal) :=
  out_re (ea2 h2) (ea3 h3) (er2 h0) (er3 h1) (e39 h1) (e22 h0) d s hs
include h1 h3 in
theorem ref1 (j : Fin 48) (d : Fin 160) :
    val_main_v344 (F := Ideal) (exitV m c (Proc.devRef .tc main_arg3)) (exitV m c (Proc.devRef .tc main_v44_3)) (exitV m c (Proc.devRef .tc main_v39)) (ix4 b h j d)
      = ((KR K F 16 j d : ℝ) : EReal) :=
  ks16_re (ea3 h3) (er3 h1) (e39 h1) j d
include h2 h3 in
theorem ref2 (j : Fin 48) (d : Fin 160) :
    val_main_v352 (F := Ideal) (exitV m c (Proc.devRef .tc main_arg2)) (exitV m c (Proc.devRef .tc main_arg3)) (ix4 b h j d)
      = ((VR W F 16 j d : ℝ) : EReal) :=
  vs16_re (ea2 h2) (ea3 h3) j d
include h0 in
theorem ref3 (d : Fin 160) (s : ℕ) (hs : s < 1024) :
    val_main_v421 (F := Ideal) (exitV m c (Proc.devRef .tc main_v44_0)) (ix4 b h d ⟨s, hs⟩) = ((cd Q d s : ℝ) : EReal) :=
  (flat421 _ b h d s hs).trans ((er0 h0 _ _ _).trans (congrArg Real.toEReal (code_flat Q d s)))
include h0 in
theorem ref4 (i : Fin 8) (t : Fin 128) :
    val_main_v425 (F := Ideal) (exitV m c (Proc.devRef .tc main_v22)) (ix4 b h i t) = ((sl Q (2 * i.val + t.val / 64) : ℝ) : EReal) :=
  (flat425 _ b h i t).trans (e22 h0 _)
include h1 in
theorem ref5 (d : Fin 160) (s : ℕ) (hs : s < 1024) :
    val_main_v427 (F := Ideal) (exitV m c (Proc.devRef .tc main_v44_1)) (ix4 b h d ⟨s, hs⟩) = ((cd K d s : ℝ) : EReal) :=
  (flat427 _ b h d s hs).trans ((er1 h1 _ _ _).trans (congrArg Real.toEReal (code_flat K d s)))
include h1 in
theorem ref6 (i : Fin 8) (t : Fin 128) :
    val_main_v431 (F := Ideal) (exitV m c (Proc.devRef .tc main_v39)) (ix4 b h i t) = ((sl K (2 * i.val + t.val / 64) : ℝ) : EReal) :=
  (flat431 _ b h i t).trans (e39 h1 _)
end

end Cert.ReferenceIdeal.Value
end
-- ==== Proof.Finite.lean ====
module

public import proofs.«01_k».proof.Defs
public import proofs.«01_k».proof.Proof.Point

/-! What the precondition says of the arguments: every element is a real number, and the magnitudes of the
queries and the keys stay below 2^128. -/

@[expose] public section
noncomputable section
namespace Cert.Finite
open Idealize.ShloMosaic Pointwise Cert.Re
open Cert.KernelIdeal.Stage (am k448 c_k448)

/-- The shape relations the precondition states. -/
theorem facts : Cert.Pre_finite.Facts := ⟨by decide, by decide⟩

/-- The largest finite bf16 number. -/
theorem c_max : Ideal.ofBits FTy.bf16 0x7F7F#16 = ((255 * (2:ℝ) ^ (120:ℤ) : ℝ) : EReal) := by
  simp [Ideal.ofBits, Ideal.ieee, -EReal.coe_mul]

/-- A magnitude at most the largest finite bf16 number. -/
theorem of_ole {x : EReal} (h : FloatOps.cmpf (F := Ideal) (φ := .bf16) .ole (FloatOps.absf (F := Ideal) (φ := .bf16) x) (Ideal.ofBits .bf16 0x7F7F#16) = 1#1) :
    ∃ r : ℝ, x = (r : EReal) ∧ |r| ≤ (2:ℝ) ^ (128:ℕ) := by
  have h1 : FloatOps.absf (F := Ideal) (φ := .bf16) x ≤ Ideal.ofBits .bf16 0x7F7F#16 := by
    by_contra hn
    exact absurd ((congrArg BitVec.ofBool (decide_eq_false hn)).symm.trans h) (by decide)
  rw [c_max] at h1
  induction x using EReal.rec with
  | bot => exact absurd h1 (by rw [Ideal.absf_def, EReal.neg_bot, max_eq_right bot_le]; exact not_le.2 (EReal.coe_lt_top _))
  | top => exact absurd h1 (by rw [Ideal.absf_def, max_eq_left le_top]; exact not_le.2 (EReal.coe_lt_top _))
  | coe r =>
    rw [absf_coe_bf16, EReal.coe_le_coe_iff] at h1
    exact ⟨r, rfl, h1.trans (by norm_num)⟩

/-- A magnitude below infinity. -/
theorem of_olt {x : EReal} (h : FloatOps.cmpf (F := Ideal) (φ := .bf16) .olt (FloatOps.absf (F := Ideal) (φ := .bf16) x) (Ideal.ofBits .bf16 0x7F80#16) = 1#1) :
    ∃ r : ℝ, x = (r : EReal) := by
  have h1 : FloatOps.absf (F := Ideal) (φ := .bf16) x < Ideal.ofBits .bf16 0x7F80#16 := by
    by_contra hn
    exact absurd ((congrArg BitVec.ofBool (decide_eq_false hn)).symm.trans h) (by decide)
  induction x using EReal.rec with
  | bot => exact absurd h1 (by rw [Ideal.absf_def, EReal.neg_bot, max_eq_right bot_le]; exact not_lt.2 le_top)
  | top => exact absurd h1 (by rw [Ideal.absf_def, max_eq_left le_top]; exact not_lt.2 le_top)
  | coe r => exact ⟨r, rfl⟩

/-- The elements of a sequence as real numbers, zero past its end. -/
def re {n : ℕ} (x : FVec Ideal ⟨4, ![24, 1024, 18, n]⟩ .bf16) (b : Fin 24) (h : Fin 18) (d : Fin n) (s : ℕ) : ℝ :=
  if hs : s < 1024 then EReal.toReal (x (ix4 b ⟨s, hs⟩ h d)) else 0

theorem re_at {n : ℕ} {x : FVec Ideal ⟨4, ![24, 1024, 18, n]⟩ .bf16} (hx : ∀ i, ∃ r : ℝ, x i = (r : EReal)) (b : Fin 24) (h : Fin 18) (d : Fin n) (s : ℕ) (hs : s < 1024) :
    x (ix4 b ⟨s, hs⟩ h d) = ((re x b h d s : ℝ) : EReal) := by
  obtain ⟨r, hr⟩ := hx (ix4 b ⟨s, hs⟩ h d)
  unfold re
  rw [dif_pos hs, hr]
  rfl

/-- The largest magnitude of a chunk over 448 is below 2^120. -/
theorem am_lt {x : FVec Ideal ⟨4, ![24, 1024, 18, 160]⟩ .bf16} (hx : ∀ i, ∃ r : ℝ, x i = (r : EReal) ∧ |r| ≤ (2:ℝ) ^ (128:ℕ)) (b : Fin 24) (h : Fin 18) (c : ℕ) :
    am (re x b h) c * k448 < (2:ℝ) ^ (120:ℤ) := by
  have hk : k448 < 1 / 2 ^ 8 ∧ 0 < k448 := by
    unfold k448
    constructor <;> norm_num
  have ha : am (re x b h) c ≤ (2:ℝ) ^ (128:ℕ) := by
    unfold am
    refine Finset.sup'_le _ _ fun p _ => ?_
    unfold re
    split
    · rename_i hs
      obtain ⟨r, hr, hb⟩ := hx (ix4 b ⟨_, hs⟩ h p.2)
      rw [hr]
      exact hb
    · rw [abs_zero]; positivity
  calc am (re x b h) c * k448 ≤ (2:ℝ) ^ (128:ℕ) * k448 := mul_le_mul_of_nonneg_right ha hk.2.le
    _ < (2:ℝ) ^ (128:ℕ) * (1 / 2 ^ 8) := mul_lt_mul_of_pos_left hk.1 (by positivity)
    _ = (2:ℝ) ^ (120:ℤ) := by norm_num

/-- The precondition, read. -/
theorem read [Cert.Pre_finite.Facts] {x0 x1 x2 : FVec Ideal Cert.Pre_finite.S24x1024x18x160 .bf16} {x3 : FVec Ideal Cert.Pre_finite.S24x1024x18x48 .bf16}
    (h : (Cert.Pre_finite.fn (F := Ideal) x0 x1 x2 x3).1 = (fun _ => 1#1) ∧ (Cert.Pre_finite.fn (F := Ideal) x0 x1 x2 x3).2.1 = (fun _ => 1#1)
      ∧ (Cert.Pre_finite.fn (F := Ideal) x0 x1 x2 x3).2.2.1 = (fun _ => 1#1) ∧ (Cert.Pre_finite.fn (F := Ideal) x0 x1 x2 x3).2.2.2 = (fun _ => 1#1)) :
    (∀ i, ∃ r : ℝ, x0 i = (r : EReal) ∧ |r| ≤ (2:ℝ) ^ (128:ℕ)) ∧ (∀ i, ∃ r : ℝ, x1 i = (r : EReal) ∧ |r| ≤ (2:ℝ) ^ (128:ℕ))
      ∧ (∀ i, ∃ r : ℝ, x2 i = (r : EReal)) ∧ (∀ i, ∃ r : ℝ, x3 i = (r : EReal)) :=
  ⟨fun i => of_ole (congrFun h.1 i), fun i => of_ole (congrFun h.2.1 i), fun i => of_olt (congrFun h.2.2.1 i), fun i => of_olt (congrFun h.2.2.2 i)⟩

end Cert.Finite
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.KVals
public import proofs.«01_k».proof.Proof.RefVals
public import proofs.«01_k».proof.Proof.Finite
public import Idealize.ShloMosaic.Adequacy
public import Idealize.ShloMosaic.Init

@[expose] public section

noncomputable section

namespace Cert.Proof

open Idealize.ShloMosaic Idealize.SL.Sem Pointwise

/-- An index of a rank-four array is its four coordinates. -/
theorem idx4 {n0 n1 n2 n3 : ℕ} (i : (⟨4, ![n0, n1, n2, n3]⟩ : Shape).Idx) : i = ix4 (i 0) (i 1) (i 2) (i 3) := by
  funext a
  match a with
  | ⟨0, _⟩ => rfl
  | ⟨1, _⟩ => rfl
  | ⟨2, _⟩ => rfl
  | ⟨3, _⟩ => rfl

/-- Two arrays that agree at every four coordinates agree. -/
theorem ext4 {α : Type} {n0 n1 n2 n3 : ℕ} {f g : (⟨4, ![n0, n1, n2, n3]⟩ : Shape).Idx → α}
    (h : ∀ (a : Fin n0) (b : Fin n1) (c : Fin n2) (d : Fin n3), f (ix4 a b c d) = g (ix4 a b c d)) : f = g := by
  funext i
  rw [idx4 i]
  exact h _ _ _ _

theorem preserves : Cert.preserves_Kernel_KernelIdeal :=
  ⟨IdealRules.named_const.statement Cert.KernelIdeal.κ "neg_log2e" .f32 0xBFB8AA3B#32 ((-((Real.log 2)⁻¹) : ℝ) : EReal) rfl,
   IdealRules.named_const.statement Cert.KernelIdeal.κ "log2e" .f32 0x3FB8AA3B#32 (((Real.log 2)⁻¹ : ℝ) : EReal) rfl,
   IdealRules.named_const.statement Cert.KernelIdeal.κ "half_ln2" .f32 0x3EB17218#32 (((1 / 2) * (Real.log 2) : ℝ) : EReal) rfl,
   IdealRules.named_const.statement Cert.KernelIdeal.κ "score" .f32 0x3DE995B3#32 (((Real.sqrt 160)⁻¹ * (Real.log 2)⁻¹ : ℝ) : EReal) rfl⟩

/-- The kernel's seven results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre harg
  haveI := Cert.Finite.facts
  have F0 := fun c => (Cert.Finite.read (hpre c)).1
  have F1 := fun c => (Cert.Finite.read (hpre c)).2.1
  have F2 := fun c => (Cert.Finite.read (hpre c)).2.2.1
  have F3 := fun c => (Cert.Finite.read (hpre c)).2.2.2
  have k0 := fun c b h => Cert.Finite.re_at (fun i => (F0 c i).imp fun _ hr => hr.1) b h
  have k1 := fun c b h => Cert.Finite.re_at (fun i => (F1 c i).imp fun _ hr => hr.1) b h
  have k2 := fun c b h => Cert.Finite.re_at (F2 c) b h
  have k3 := fun c b h => Cert.Finite.re_at (F3 c) b h
  have b0 := fun c b h => Cert.Finite.am_lt (F0 c) b h
  have b1 := fun c b h => Cert.Finite.am_lt (F1 c) b h
  have r0 := fun c b h d s hs => (congrFun (harg c).1 _).trans (k0 c b h d s hs)
  have r1 := fun c b h d s hs => (congrFun (harg c).2.1 _).trans (k1 c b h d s hs)
  have r2 := fun c b h d s hs => (congrFun (harg c).2.2.1 _).trans (k2 c b h d s hs)
  have r3 := fun c b h d s hs => (congrFun (harg c).2.2.2 _).trans (k3 c b h d s hs)
  refine ⟨fun c => Cert.KernelIdeal.Value.G4 m c, fun c => Cert.KernelIdeal.Value.G5 m c, fun c => Cert.KernelIdeal.Value.G6 m c,
    fun c => Cert.KernelIdeal.Value.G7 m c, fun c => Cert.KernelIdeal.Value.G8 m c, fun c => Cert.KernelIdeal.Value.G9 m c,
    fun c => Cert.KernelIdeal.Value.G10 m c, Cert.KernelIdeal.Value.run m g, ?_⟩
  refine (θ_run _ _ _).mono (fun r h c => ?_) (Cert.ReferenceIdeal.Value.run m' g')
  obtain ⟨e0, e1, e2, e3, e4, e5, e6, ea⟩ := h c
  refine ⟨(e0.trans (Cert.ReferenceIdeal.Read.val_main_v419_eq _)).trans (ext4 fun b h d s => ?_),
    (e1.trans (Cert.ReferenceIdeal.Read.val_main_v344_eq _)).trans (ext4 fun b h j d => ?_),
    (e2.trans (Cert.ReferenceIdeal.Read.val_main_v352_eq _)).trans (ext4 fun b h j d => ?_),
    (e3.trans (Cert.ReferenceIdeal.Read.val_main_v421_eq _)).trans (ext4 fun b h d s => ?_),
    (e4.trans (Cert.ReferenceIdeal.Read.val_main_v425_eq _)).trans (ext4 fun b h i t => ?_),
    (e5.trans (Cert.ReferenceIdeal.Read.val_main_v427_eq _)).trans (ext4 fun b h d s => ?_),
    (e6.trans (Cert.ReferenceIdeal.Read.val_main_v431_eq _)).trans (ext4 fun b h i t => ?_), ea⟩
  · exact (Cert.ReferenceIdeal.Value.ref0 (r0 c b h) (r1 c b h) (r2 c b h) (r3 c b h) d s.val s.isLt).trans
      (Cert.KernelIdeal.Stage.kG4 (k0 c b h) (k1 c b h) (k2 c b h) (k3 c b h) (b0 c b h) (b1 c b h) d s.val s.isLt).symm
  · exact (Cert.ReferenceIdeal.Value.ref1 (r1 c b h) (r3 c b h) j d).trans (Cert.KernelIdeal.Stage.kG5 (k1 c b h) (k3 c b h) (b1 c b h) j d).symm
  · exact (Cert.ReferenceIdeal.Value.ref2 (r2 c b h) (r3 c b h) j d).trans (Cert.KernelIdeal.Stage.kG6 (k2 c b h) (k3 c b h) j d).symm
  · exact (Cert.ReferenceIdeal.Value.ref3 (r0 c b h) d s.val s.isLt).trans (Cert.KernelIdeal.Stage.kG7 (k0 c b h) (b0 c b h) d s.val s.isLt).symm
  · exact (Cert.ReferenceIdeal.Value.ref4 (r0 c b h) i t).trans (Cert.KernelIdeal.Stage.kG8 (k0 c b h) (b0 c b h) i t).symm
  · exact (Cert.ReferenceIdeal.Value.ref5 (r1 c b h) d s.val s.isLt).trans (Cert.KernelIdeal.Stage.kG9 (k1 c b h) (b1 c b h) d s.val s.isLt).symm
  · exact (Cert.ReferenceIdeal.Value.ref6 (r1 c b h) i t).trans (Cert.KernelIdeal.Stage.kG10 (k1 c b h) (b1 c b h) i t).symm

theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, preserves, algebraic⟩

end Cert.Proof

end
